-- ==== Defs.lean ====
def Pre_Kernel [hPre_indices_in_rows : Cert.Pre_indices_in_rows.Facts] (m : (ℓ : Loc Cert.Kernel.nD Cert.Kernel.τ Cert.Kernel.sig) → Buf (Elt Bits) ℓ) : Prop :=
  ∀ c : Dev Cert.Kernel.nD,
    (Cert.Pre_indices_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_indices_in_rows : Cert.Pre_indices_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_indices_in_rows : Cert.Pre_indices_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite [hPre_finite : Cert.Pre_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2))) = (fun _ => 1#1)

def quiescent_Kernel [hKernel : Cert.Kernel.Facts] [hPre_indices_in_rows : Cert.Pre_indices_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_indices_in_rows : Cert.Pre_indices_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_indices_in_rows : Cert.Pre_indices_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_RouterReferenceIdeal_pre_finite [hRouterReferenceIdeal : Cert.RouterReferenceIdeal.Facts] [hPre_finite : Cert.Pre_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_rows : Cert.Pre_indices_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Router_RouterIdeal : Prop :=
  IdealRules.named_const.Statement Cert.RouterIdeal.κ "mask" .f32 0xF149F2CA#32 ⊥

def algebraic_RouterIdeal_RouterReferenceIdeal_pre_finite [hRouterIdeal : Cert.RouterIdeal.Facts] [hRouterReferenceIdeal : Cert.RouterReferenceIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v1_0)) (v1 : (c : Dev Cert.RouterIdeal.nD) → Buf (Elt Ideal) ((c.tc : Thread Cert.RouterIdeal.nD Cert.RouterIdeal.τ).loc Cert.RouterIdeal.main_v1_1)) (v2 : (c : Dev Cert.RouterIdeal.nD) → Buf (Elt Ideal) ((c.tc : Thread Cert.RouterIdeal.nD Cert.RouterIdeal.τ).loc Cert.RouterIdeal.main_v1_2)) (v3 : (c : Dev Cert.RouterIdeal.nD) → Buf (Elt Ideal) ((c.tc : Thread Cert.RouterIdeal.nD Cert.RouterIdeal.τ).loc Cert.RouterIdeal.main_v1_3)) (v4 : (c : Dev Cert.RouterIdeal.nD) → Buf (Elt Ideal) ((c.tc : Thread Cert.RouterIdeal.nD Cert.RouterIdeal.τ).loc Cert.RouterIdeal.main_v1_4)) (v5 : (c : Dev Cert.RouterIdeal.nD) → Buf (Elt Ideal) ((c.tc : Thread Cert.RouterIdeal.nD Cert.RouterIdeal.τ).loc Cert.RouterIdeal.main_v1_5)) (v6 : (c : Dev Cert.RouterIdeal.nD) → Buf (Elt Ideal) ((c.tc : Thread Cert.RouterIdeal.nD Cert.RouterIdeal.τ).loc Cert.RouterIdeal.main_v1_6)) (v7 : (c : Dev Cert.RouterIdeal.nD) → Buf (Elt Ideal) ((c.tc : Thread Cert.RouterIdeal.nD Cert.RouterIdeal.τ).loc Cert.RouterIdeal.main_v1_7)) (v8 : (c : Dev Cert.RouterIdeal.nD) → Buf (Elt Ideal) ((c.tc : Thread Cert.RouterIdeal.nD Cert.RouterIdeal.τ).loc Cert.RouterIdeal.main_v1_8)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1_0) = v0 c
          ∧ r.2.mem ((c.tc : Thread Cert.RouterIdeal.nD Cert.RouterIdeal.τ).loc Cert.RouterIdeal.main_v1_1) = v1 c
          ∧ r.2.mem ((c.tc : Thread Cert.RouterIdeal.nD Cert.RouterIdeal.τ).loc Cert.RouterIdeal.main_v1_2) = v2 c
          ∧ r.2.mem ((c.tc : Thread Cert.RouterIdeal.nD Cert.RouterIdeal.τ).loc Cert.RouterIdeal.main_v1_3) = v3 c
          ∧ r.2.mem ((c.tc : Thread Cert.RouterIdeal.nD Cert.RouterIdeal.τ).loc Cert.RouterIdeal.main_v1_4) = v4 c
          ∧ r.2.mem ((c.tc : Thread Cert.RouterIdeal.nD Cert.RouterIdeal.τ).loc Cert.RouterIdeal.main_v1_5) = v5 c
          ∧ r.2.mem ((c.tc : Thread Cert.RouterIdeal.nD Cert.RouterIdeal.τ).loc Cert.RouterIdeal.main_v1_6) = v6 c
          ∧ r.2.mem ((c.tc : Thread Cert.RouterIdeal.nD Cert.RouterIdeal.τ).loc Cert.RouterIdeal.main_v1_7) = v7 c
          ∧ r.2.mem ((c.tc : Thread Cert.RouterIdeal.nD Cert.RouterIdeal.τ).loc Cert.RouterIdeal.main_v1_8) = v8 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v16) = v0 c
          ∧ r.2.mem ((c.tc : Thread Cert.RouterReferenceIdeal.nD Cert.RouterReferenceIdeal.τ).loc Cert.RouterReferenceIdeal.main_v17) = v1 c
          ∧ r.2.mem ((c.tc : Thread Cert.RouterReferenceIdeal.nD Cert.RouterReferenceIdeal.τ).loc Cert.RouterReferenceIdeal.main_v76) = v2 c
          ∧ r.2.mem ((c.tc : Thread Cert.RouterReferenceIdeal.nD Cert.RouterReferenceIdeal.τ).loc Cert.RouterReferenceIdeal.main_v90) = v3 c
          ∧ r.2.mem ((c.tc : Thread Cert.RouterReferenceIdeal.nD Cert.RouterReferenceIdeal.τ).loc Cert.RouterReferenceIdeal.main_v91) = v4 c
          ∧ r.2.mem ((c.tc : Thread Cert.RouterReferenceIdeal.nD Cert.RouterReferenceIdeal.τ).loc Cert.RouterReferenceIdeal.main_v92) = v5 c
          ∧ r.2.mem ((c.tc : Thread Cert.RouterReferenceIdeal.nD Cert.RouterReferenceIdeal.τ).loc Cert.RouterReferenceIdeal.main_v93) = v6 c
          ∧ r.2.mem ((c.tc : Thread Cert.RouterReferenceIdeal.nD Cert.RouterReferenceIdeal.τ).loc Cert.RouterReferenceIdeal.main_v62) = v7 c
          ∧ r.2.mem ((c.tc : Thread Cert.RouterReferenceIdeal.nD Cert.RouterReferenceIdeal.τ).loc Cert.RouterReferenceIdeal.main_arg0) = v8 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hRouterReferenceIdeal : Cert.RouterReferenceIdeal.Facts) (hPre_indices_in_rows : Cert.Pre_indices_in_rows.Facts) (hPre_finite : Cert.Pre_finite.Facts),
    quiescent_Kernel (hKernel := hKernel) (hPre_indices_in_rows := hPre_indices_in_rows)
    ∧ quiescent_KernelIdeal (hKernelIdeal := hKernelIdeal) (hPre_indices_in_rows := hPre_indices_in_rows)
    ∧ quiescent_ReferenceIdeal (hReferenceIdeal := hReferenceIdeal) (hPre_indices_in_rows := hPre_indices_in_rows)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterReferenceIdeal (hRouterReferenceIdeal := hRouterReferenceIdeal)
    ∧ quiescent_RouterReferenceIdeal_pre_finite (hRouterReferenceIdeal := hRouterReferenceIdeal) (hPre_finite := hPre_finite)
    ∧ preserves_Kernel_KernelIdeal
    ∧ algebraic_KernelIdeal_ReferenceIdeal (hKernelIdeal := hKernelIdeal) (hReferenceIdeal := hReferenceIdeal) (hPre_indices_in_rows := hPre_indices_in_rows)
    ∧ preserves_Router_RouterIdeal
    ∧ algebraic_RouterIdeal_RouterReferenceIdeal_pre_finite (hRouterIdeal := hRouterIdeal) (hRouterReferenceIdeal := hRouterReferenceIdeal) (hPre_finite := hPre_finite)
-- ==== Pre_finite.lean ====
abbrev S16384x1024 : Shape := ⟨2, ![16384, 1024]⟩
abbrev S8x1024 : Shape := ⟨2, ![8, 1024]⟩
abbrev S8 : Shape := ⟨1, ![8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S16384x1024 .f32) (main_arg1 : FVec F S8x1024 .f32) (main_arg2 : FVec F S8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_indices_in_rows.lean ====
abbrev S4x4096x1024 : Shape := ⟨3, ![4, 4096, 1024]⟩
abbrev S34816 : Shape := ⟨1, ![34816]⟩
abbrev S136 : Shape := ⟨1, ![136]⟩
abbrev S32768 : Shape := ⟨1, ![32768]⟩
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S_ : Shape := ⟨0, ![]⟩

class Facts : Prop where
  bcast_S_S34816 : S_.BroadcastsInDim S34816 (![] : Fin 0 → Fin S34816.rank)
  reducesTo_S34816_S_d0 : S34816.ReducesTo [0] S_
  h_S_ : 0 < S_.numel
  bcast_S_S136 : S_.BroadcastsInDim S136 (![] : Fin 0 → Fin S136.rank)
  reducesTo_S136_S_d0 : S136.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg4 : IVec S32768 32) (main_v12 : IVec S_ 1) (main_v14 : IVec S32768 1) (main_v15 : IVec S32768 32) : IVec S_ 1 :=
  let main_v16 : IVec S32768 1 := cmpi .slt main_arg4 main_v15
  let main_v17 : IVec S32768 1 := andi main_v14 main_v16
  let main_c_7 : IVec S_ 1 := constantI S_ 1 1#1
  let main_v18 : IVec S_ 1 := (fun x v => Host.reduce IntOp.andi x v reducesTo_S32768_S_d0 h_S_) main_v17 main_c_7
  let main_v19 : IVec S_ 1 := andi main_v12 main_v18
  main_v19

def fn {F : FTy → Type} [FloatOps F] (main_arg0 : FVec F S4x4096x1024 .f32) (main_arg1 : IVec S34816 32) (main_arg2 : FVec F S34816 .f32) (main_arg3 : IVec S136 32) (main_arg4 : IVec S32768 32) (main_arg5 : FVec F S8x1024x1024 .f32) (main_arg6 : FVec F S8x1024 .f32) (main_arg7 : FVec F S1024x1024 .f32) (main_arg8 : FVec F S1024 .f32) (main_arg9 : FVec F S1024 .f32) : IVec S_ 1 :=
  let main_c : IVec S_ 32 := constantI S_ 32 0#32
  let main_v0 : IVec S34816 32 := broadcastInDim S34816 ![] bcast_S_S34816 main_c
  let main_v1 : IVec S34816 1 := cmpi .sge main_arg1 main_v0
  let main_c_0 : IVec S_ 32 := constantI S_ 32 16384#32
  let main_v2 : IVec S34816 32 := broadcastInDim S34816 ![] bcast_S_S34816 main_c_0
  let main_v3 : IVec S34816 1 := cmpi .slt main_arg1 main_v2
  let main_v4 : IVec S34816 1 := andi main_v1 main_v3
  let main_c_1 : IVec S_ 1 := constantI S_ 1 1#1
  let main_v5 : IVec S_ 1 := (fun x v => Host.reduce IntOp.andi x v reducesTo_S34816_S_d0 h_S_) main_v4 main_c_1
  let main_c_2 : IVec S_ 32 := constantI S_ 32 0#32
  let main_v6 : IVec S136 32 := broadcastInDim S136 ![] bcast_S_S136 main_c_2
  let main_v7 : IVec S136 1 := cmpi .sge main_arg3 main_v6
  let main_c_3 : IVec S_ 32 := constantI S_ 32 8#32
  let main_v8 : IVec S136 32 := broadcastInDim S136 ![] bcast_S_S136 main_c_3
  let main_v9 : IVec S136 1 := cmpi .slt main_arg3 main_v8
  let main_v10 : IVec S136 1 := andi main_v7 main_v9
  let main_c_4 : IVec S_ 1 := constantI S_ 1 1#1
  let main_v11 : IVec S_ 1 := (fun x v => Host.reduce IntOp.andi x v reducesTo_S136_S_d0 h_S_) main_v10 main_c_4
  let main_v12 : IVec S_ 1 := andi main_v5 main_v11
  let main_c_5 : IVec S_ 32 := constantI S_ 32 0#32
  let main_v13 : IVec S32768 32 := broadcastInDim S32768 ![] bcast_S_S32768 main_c_5
  let main_v14 : IVec S32768 1 := cmpi .sge main_arg4 main_v13
  let main_c_6 : IVec S_ 32 := constantI S_ 32 34816#32
  let main_v15 : IVec S32768 32 := broadcastInDim S32768 ![] bcast_S_S32768 main_c_6
  fn_part1 (F := F) main_arg4 main_v12 main_v14 main_v15
-- ==== Kernel.lean ====
abbrev S4x4096x1024 : Shape := ⟨3, ![4, 4096, 1024]⟩
abbrev S34816 : Shape := ⟨1, ![34816]⟩
abbrev S136 : Shape := ⟨1, ![136]⟩
abbrev S32768 : Shape := ⟨1, ![32768]⟩
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S16384x1024 : Shape := ⟨2, ![16384, 1024]⟩
abbrev S34816x1 : Shape := ⟨2, ![34816, 1]⟩
abbrev S_ : Shape := ⟨0, ![]⟩
abbrev S4 : Shape := ⟨1, ![4]⟩
abbrev S1x4 : Shape := ⟨2, ![1, 4]⟩
abbrev S34816x4 : Shape := ⟨2, ![34816, 4]⟩
abbrev S65536x2x128 : Shape := ⟨3, ![65536, 2, 128]⟩
abbrev S139264 : Shape := ⟨1, ![139264]⟩
abbrev S139264x2x128 : Shape := ⟨3, ![139264, 2, 128]⟩
abbrev S4352 : Shape := ⟨1, ![4352]⟩
abbrev S128x2x128 : Shape := ⟨3, ![128, 2, 128]⟩
abbrev S128 : Shape := ⟨1, ![128]⟩
abbrev S34816x1024 : Shape := ⟨2, ![34816, 1024]⟩
abbrev S8x1x1024 : Shape := ⟨3, ![8, 1, 1024]⟩
abbrev S256x1024 : Shape := ⟨2, ![256, 1024]⟩
abbrev S1x1024x1024 : Shape := ⟨3, ![1, 1024, 1024]⟩
abbrev S1 : Shape := ⟨1, ![1]⟩
abbrev S1x1x1024 : Shape := ⟨3, ![1, 1, 1024]⟩
abbrev S256x1 : Shape := ⟨2, ![256, 1]⟩
abbrev S1x1024 : Shape := ⟨2, ![1, 1024]⟩
abbrev S32768x1 : Shape := ⟨2, ![32768, 1]⟩
abbrev S32768x4 : Shape := ⟨2, ![32768, 4]⟩
abbrev S131072 : Shape := ⟨1, ![131072]⟩
abbrev S131072x2x128 : Shape := ⟨3, ![131072, 2, 128]⟩
abbrev S4096 : Shape := ⟨1, ![4096]⟩
abbrev S32768x1024 : Shape := ⟨2, ![32768, 1024]⟩
abbrev S256 : Shape := ⟨1, ![256]⟩

abbrev nBuf : Table → Nat
  | .hbm => 45
  | .local .tc .vmem => 21
  | .local .tc .smem => 1
  | .local .scVector .vmem => 6
  | _ => 0

abbrev bufTy : (tb : Table) → Fin (nBuf tb) → BufTy
  | .hbm, ⟨0, _⟩ => ⟨S4x4096x1024, .f32⟩
  | .hbm, ⟨1, _⟩ => ⟨S34816, .i32⟩
  | .hbm, ⟨2, _⟩ => ⟨S34816, .f32⟩
  | .hbm, ⟨3, _⟩ => ⟨S32768, .i32⟩
  | .hbm, ⟨4, _⟩ => ⟨S8x1024x1024, .f32⟩
  | .hbm, ⟨5, _⟩ => ⟨S8x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S8x1024x1024, .bf16⟩
  | .hbm, ⟨11, _⟩ => ⟨S1024x1024, .bf16⟩
  | .hbm, ⟨12, _⟩ => ⟨S34816x1, .i32⟩
  | .hbm, ⟨13, _⟩ => ⟨S_, .i32⟩
  | .hbm, ⟨14, _⟩ => ⟨S34816x1, .i32⟩
  | .hbm, ⟨15, _⟩ => ⟨S34816x1, .i32⟩
  | .hbm, ⟨16, _⟩ => ⟨S4, .i32⟩
  | .hbm, ⟨17, _⟩ => ⟨S1x4, .i32⟩
  | .hbm, ⟨18, _⟩ => ⟨S34816x4, .i32⟩
  | .hbm, ⟨19, _⟩ => ⟨S34816x4, .i32⟩
  | .hbm, ⟨20, _⟩ => ⟨S34816x4, .i32⟩
  | .hbm, ⟨21, _⟩ => ⟨S65536x2x128, .f32⟩
  | .hbm, ⟨22, _⟩ => ⟨S139264, .i32⟩
  | .hbm, ⟨23, _⟩ => ⟨S139264x2x128, .f32⟩
  | .hbm, ⟨24, _⟩ => ⟨S34816x1024, .f32⟩
  | .hbm, ⟨25, _⟩ => ⟨S8x1x1024, .f32⟩
  | .hbm, ⟨26, _⟩ => ⟨S34816x1, .f32⟩
  | .hbm, ⟨27, _⟩ => ⟨S34816x1024, .f32⟩
  | .hbm, ⟨28, _⟩ => ⟨S32768x1, .i32⟩
  | .hbm, ⟨29, _⟩ => ⟨S_, .i32⟩
  | .hbm, ⟨30, _⟩ => ⟨S32768x1, .i32⟩
  | .hbm, ⟨31, _⟩ => ⟨S32768x1, .i32⟩
  | .hbm, ⟨32, _⟩ => ⟨S4, .i32⟩
  | .hbm, ⟨33, _⟩ => ⟨S1x4, .i32⟩
  | .hbm, ⟨34, _⟩ => ⟨S32768x4, .i32⟩
  | .hbm, ⟨35, _⟩ => ⟨S32768x4, .i32⟩
  | .hbm, ⟨36, _⟩ => ⟨S32768x4, .i32⟩
  | .hbm, ⟨37, _⟩ => ⟨S139264x2x128, .f32⟩
  | .hbm, ⟨38, _⟩ => ⟨S131072, .i32⟩
  | .hbm, ⟨39, _⟩ => ⟨S131072x2x128, .f32⟩
  | .hbm, ⟨40, _⟩ => ⟨S32768x1024, .f32⟩
  | .hbm, ⟨41, _⟩ => ⟨S1x1024, .f32⟩
  | .hbm, ⟨42, _⟩ => ⟨S1x1024, .f32⟩
  | .hbm, ⟨43, _⟩ => ⟨S16384x1024, .f32⟩
  | .hbm, ⟨44, _⟩ => ⟨S4x4096x1024, .f32⟩
  | .local .tc .vmem, ⟨0, _⟩ => ⟨S256x1024, .f32⟩
  | .local .tc .vmem, ⟨1, _⟩ => ⟨S256x1024, .f32⟩
  | .local .tc .vmem, ⟨2, _⟩ => ⟨S1x1024x1024, .bf16⟩
  | .local .tc .vmem, ⟨3, _⟩ => ⟨S1x1024x1024, .bf16⟩
  | .local .tc .vmem, ⟨4, _⟩ => ⟨S1x1x1024, .f32⟩
  | .local .tc .vmem, ⟨5, _⟩ => ⟨S1x1x1024, .f32⟩
  | .local .tc .vmem, ⟨6, _⟩ => ⟨S256x1, .f32⟩
  | .local .tc .vmem, ⟨7, _⟩ => ⟨S256x1, .f32⟩
  | .local .tc .vmem, ⟨8, _⟩ => ⟨S256x1024, .f32⟩
  | .local .tc .vmem, ⟨9, _⟩ => ⟨S256x1024, .f32⟩
  | .local .tc .vmem, ⟨10, _⟩ => ⟨S256x1024, .f32⟩
  | .local .tc .vmem, ⟨11, _⟩ => ⟨S256x1024, .f32⟩
  | .local .tc .vmem, ⟨12, _⟩ => ⟨S256x1024, .f32⟩
  | .local .tc .vmem, ⟨13, _⟩ => ⟨S256x1024, .f32⟩
  | .local .tc .vmem, ⟨14, _⟩ => ⟨S256x1024, .f32⟩
  | .local .tc .vmem, ⟨15, _⟩ => ⟨S256x1024, .f32⟩
  | .local .tc .vmem, ⟨16, _⟩ => ⟨S1024x1024, .bf16⟩
  | .local .tc .vmem, ⟨17, _⟩ => ⟨S1x1024, .f32⟩
  | .local .tc .vmem, ⟨18, _⟩ => ⟨S1x1024, .f32⟩
  | .local .tc .vmem, ⟨19, _⟩ => ⟨S256x1024, .f32⟩
  | .local .tc .vmem, ⟨20, _⟩ => ⟨S256x1024, .f32⟩
  | .local .tc .smem, ⟨0, _⟩ => ⟨S136, .i32⟩
  | .local .scVector .vmem, ⟨0, _⟩ => ⟨S4352, .i32⟩
  | .local .scVector .vmem, ⟨1, _⟩ => ⟨S128x2x128, .f32⟩
  | .local .scVector .vmem, ⟨2, _⟩ => ⟨S128x2x128, .f32⟩
  | .local .scVector .vmem, ⟨3, _⟩ => ⟨S4096, .i32⟩
  | .local .scVector .vmem, ⟨4, _⟩ => ⟨S128x2x128, .f32⟩
  | .local .scVector .vmem, ⟨5, _⟩ => ⟨S128x2x128, .f32⟩
  | _, _ => ⟨S4x4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 93 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTables nBuf rfl bufTy 4 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_arg3 : Ref sig .tc := ⟨.smem, 0, rfl⟩
abbrev main_v11_scv : Ref sig .scVector := ⟨.hbm, 21, rfl⟩
abbrev main_v12_scv : Ref sig .scVector := ⟨.hbm, 22, rfl⟩
abbrev main_v13_scv : Ref sig .scVector := ⟨.hbm, 23, rfl⟩
abbrev main_v26_scv : Ref sig .scVector := ⟨.hbm, 37, rfl⟩
abbrev main_v27_scv : Ref sig .scVector := ⟨.hbm, 38, rfl⟩
abbrev main_v28_scv : Ref sig .scVector := ⟨.hbm, 39, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc3_stg3_0 : Ref sig .tc := ⟨.vmem, 16, rfl⟩
abbrev cc3_stg4_0 : Ref sig .tc := ⟨.vmem, 17, rfl⟩
abbrev cc3_stg5_0 : Ref sig .tc := ⟨.vmem, 18, rfl⟩
abbrev cc3_stg6_0 : Ref sig .tc := ⟨.vmem, 19, rfl⟩
abbrev cc3_stg6_1 : Ref sig .tc := ⟨.vmem, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc1_sem0_0 : DmaSem sig := 37
abbrev cc1_sem0_1 : DmaSem sig := 38
abbrev cc1_sem1_0 : DmaSem sig := 39
abbrev cc1_sem1_1 : DmaSem sig := 40
abbrev cc1_sem2_0 : DmaSem sig := 41
abbrev cc1_sem2_1 : DmaSem sig := 42
abbrev cc1_sem3_0 : DmaSem sig := 43
abbrev cc1_sem3_1 : DmaSem sig := 44
abbrev cc1_sem4_0 : DmaSem sig := 45
abbrev cc1_sem4_1 : DmaSem sig := 46
abbrev cc3_sem0_0 : DmaSem sig := 82
abbrev cc3_sem0_1 : DmaSem sig := 83
abbrev cc3_sem1_0 : DmaSem sig := 84
abbrev cc3_sem1_1 : DmaSem sig := 85
abbrev cc3_sem2_0 : DmaSem sig := 86
abbrev cc3_sem2_1 : DmaSem sig := 87
abbrev cc3_sem3_0 : DmaSem sig := 88
abbrev cc3_sem4_0 : DmaSem sig := 89
abbrev cc3_sem5_0 : DmaSem sig := 90
abbrev cc3_sem6_0 : DmaSem sig := 91
abbrev cc3_sem6_1 : DmaSem sig := 92
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4352_i32 : BitVec 32 := 4352#32
  let v2 : BitVec 32 := Scalar.muli v1 c4352_i32
  ![v2.toNat]
def k0_off2 (i : grid0.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4352_i32 : BitVec 32 := 4352#32
  let v2 : BitVec 32 := Scalar.muli v1 c4352_i32
  let v9 : BitVec 32 := Scalar.addi v2 c0_i32_10
  let c0_i32_272_r1 : BitVec 32 := 0#32
  let c0_i32_273_r1 : BitVec 32 := 0#32
  ![v9.toNat, 0, 0]
abbrev grid1 : Pipeline.Grid := ⟨1, ![136], ![false]⟩

abbrev pre1 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S136.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S136) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S136.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S136) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k2_off2 (i : grid2.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v9 : BitVec 32 := Scalar.addi v2 c0_i32_10
  let c0_i32_256_r1 : BitVec 32 := 0#32
  let c0_i32_257_r1 : BitVec 32 := 0#32
  ![v9.toNat, 0, 0]
abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4x4096x1024 : Shape := ⟨3, ![4, 4096, 1024]⟩
abbrev S34816 : Shape := ⟨1, ![34816]⟩
abbrev S136 : Shape := ⟨1, ![136]⟩
abbrev S32768 : Shape := ⟨1, ![32768]⟩
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S34816x1 : Shape := ⟨2, ![34816, 1]⟩
abbrev S34816x1024 : Shape := ⟨2, ![34816, 1024]⟩
abbrev S136x256x1024 : Shape := ⟨3, ![136, 256, 1024]⟩
abbrev S136x1 : Shape := ⟨2, ![136, 1]⟩
abbrev S136x1024x1024 : Shape := ⟨3, ![136, 1024, 1024]⟩
abbrev S136x1024 : Shape := ⟨2, ![136, 1024]⟩
abbrev S136x1x1024 : Shape := ⟨3, ![136, 1, 1024]⟩
abbrev S16384 : Shape := ⟨1, ![16384]⟩
abbrev S16384x1 : Shape := ⟨2, ![16384, 1]⟩
abbrev S1x1024 : Shape := ⟨2, ![1, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S34816, .i32⟩
  | .hbm, ⟨2, _⟩ => ⟨S34816, .f32⟩
  | .hbm, ⟨3, _⟩ => ⟨S136, .i32⟩
  | .hbm, ⟨4, _⟩ => ⟨S32768, .i32⟩
  | .hbm, ⟨5, _⟩ => ⟨S8x1024x1024, .f32⟩
  | .hbm, ⟨6, _⟩ => ⟨S8x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S_, .i32⟩
  | .hbm, ⟨12, _⟩ => ⟨S34816, .i32⟩
  | .hbm, ⟨13, _⟩ => ⟨S34816, .i1⟩
  | .hbm, ⟨14, _⟩ => ⟨S_, .i32⟩
  | .hbm, ⟨15, _⟩ => ⟨S34816, .i32⟩
  | .hbm, ⟨16, _⟩ => ⟨S34816, .i32⟩
  | .hbm, ⟨17, _⟩ => ⟨S34816, .i32⟩
  | .hbm, ⟨18, _⟩ => ⟨S34816x1, .i32⟩
  | .hbm, ⟨19, _⟩ => ⟨S34816x1024, .f32⟩
  | .hbm, ⟨20, _⟩ => ⟨S136x256x1024, .f32⟩
  | .hbm, ⟨21, _⟩ => ⟨S_, .i32⟩
  | .hbm, ⟨22, _⟩ => ⟨S136, .i32⟩
  | .hbm, ⟨23, _⟩ => ⟨S136, .i1⟩
  | .hbm, ⟨24, _⟩ => ⟨S_, .i32⟩
  | .hbm, ⟨25, _⟩ => ⟨S136, .i32⟩
  | .hbm, ⟨26, _⟩ => ⟨S136, .i32⟩
  | .hbm, ⟨27, _⟩ => ⟨S136, .i32⟩
  | .hbm, ⟨28, _⟩ => ⟨S136x1, .i32⟩
  | .hbm, ⟨29, _⟩ => ⟨S136x1024x1024, .f32⟩
  | .hbm, ⟨30, _⟩ => ⟨S136x256x1024, .f32⟩
  | .hbm, ⟨31, _⟩ => ⟨S_, .i32⟩
  | .hbm, ⟨32, _⟩ => ⟨S136, .i32⟩
  | .hbm, ⟨33, _⟩ => ⟨S136, .i1⟩
  | .hbm, ⟨34, _⟩ => ⟨S_, .i32⟩
  | .hbm, ⟨35, _⟩ => ⟨S136, .i32⟩
  | .hbm, ⟨36, _⟩ => ⟨S136, .i32⟩
  | .hbm, ⟨37, _⟩ => ⟨S136, .i32⟩
  | .hbm, ⟨38, _⟩ => ⟨S136x1, .i32⟩
  | .hbm, ⟨39, _⟩ => ⟨S136x1024, .f32⟩
  | .hbm, ⟨40, _⟩ => ⟨S136x1x1024, .f32⟩
  | .hbm, ⟨41, _⟩ => ⟨S136x256x1024, .f32⟩
  | .hbm, ⟨42, _⟩ => ⟨S136x256x1024, .f32⟩
  | .hbm, ⟨43, _⟩ => ⟨S136x256x1024, .f32⟩
  | .hbm, ⟨44, _⟩ => ⟨S136x256x1024, .f32⟩
  | .hbm, ⟨45, _⟩ => ⟨S_, .f32⟩
  | .hbm, ⟨46, _⟩ => ⟨S136x256x1024, .f32⟩
  | .hbm, ⟨47, _⟩ => ⟨S136x256x1024, .f32⟩
  | .hbm, ⟨48, _⟩ => ⟨S_, .f32⟩
  | .hbm, ⟨49, _⟩ => ⟨S136x256x1024, .f32⟩
  | .hbm, ⟨50, _⟩ => ⟨S136x256x1024, .f32⟩
  | .hbm, ⟨51, _⟩ => ⟨S136x256x1024, .f32⟩
  | .hbm, ⟨52, _⟩ => ⟨S34816x1024, .f32⟩
  | .hbm, ⟨53, _⟩ => ⟨S34816x1, .f32⟩
  | .hbm, ⟨54, _⟩ => ⟨S34816x1024, .f32⟩
  | .hbm, ⟨55, _⟩ => ⟨S34816x1024, .f32⟩
  | .hbm, ⟨56, _⟩ => ⟨S16384, .i32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S16384x1024, .f32⟩
  | .hbm, ⟨66, _⟩ => ⟨S16384, .i32⟩
  | .hbm, ⟨67, _⟩ => ⟨S_, .i32⟩
  | .hbm, ⟨68, _⟩ => ⟨S16384, .i32⟩
  | .hbm, ⟨69, _⟩ => ⟨S16384, .i1⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .i32⟩
  | .hbm, ⟨74, _⟩ => ⟨S16384x1, .i32⟩
  | .hbm, ⟨75, _⟩ => ⟨S16384x1024, .f32⟩
  | .hbm, ⟨76, _⟩ => ⟨S16384x1024, .f32⟩
  | .hbm, ⟨77, _⟩ => ⟨S1024x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S_, .f32⟩
  | .hbm, ⟨86, _⟩ => ⟨S4x4096, .f32⟩
  | .hbm, ⟨87, _⟩ => ⟨S4x4096x1, .f32⟩
  | .hbm, ⟨88, _⟩ => ⟨S_, .f32⟩
  | .hbm, ⟨89, _⟩ => ⟨S4x4096x1, .f32⟩
  | .hbm, ⟨90, _⟩ => ⟨S4x4096x1, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S4x4096x1, .f32⟩
  | .hbm, ⟨95, _⟩ => ⟨S4x4096x1024, .f32⟩
  | .hbm, ⟨96, _⟩ => ⟨S4x4096x1024, .f32⟩
  | .hbm, ⟨97, _⟩ => ⟨S1x1x1024, .f32⟩
  | .hbm, ⟨98, _⟩ => ⟨S4x4096x1024, .f32⟩
  | .hbm, ⟨99, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Router.lean ====
abbrev S16384x1024 : Shape := ⟨2, ![16384, 1024]⟩
abbrev S8x1024 : Shape := ⟨2, ![8, 1024]⟩
abbrev S8 : Shape := ⟨1, ![8]⟩
abbrev S1x8 : Shape := ⟨2, ![1, 8]⟩
abbrev S16384x1 : Shape := ⟨2, ![16384, 1]⟩
abbrev S136x1 : Shape := ⟨2, ![136, 1]⟩
abbrev S256x1024 : Shape := ⟨2, ![256, 1024]⟩
abbrev S256x1 : Shape := ⟨2, ![256, 1]⟩
abbrev S256x8 : Shape := ⟨2, ![256, 8]⟩
abbrev S256 : Shape := ⟨1, ![256]⟩
abbrev S255x8 : Shape := ⟨2, ![255, 8]⟩
abbrev S2x8 : Shape := ⟨2, ![2, 8]⟩
abbrev S254x8 : Shape := ⟨2, ![254, 8]⟩
abbrev S4x8 : Shape := ⟨2, ![4, 8]⟩
abbrev S252x8 : Shape := ⟨2, ![252, 8]⟩
abbrev S8x8 : Shape := ⟨2, ![8, 8]⟩
abbrev S248x8 : Shape := ⟨2, ![248, 8]⟩
abbrev S16x8 : Shape := ⟨2, ![16, 8]⟩
abbrev S240x8 : Shape := ⟨2, ![240, 8]⟩
abbrev S32x8 : Shape := ⟨2, ![32, 8]⟩
abbrev S224x8 : Shape := ⟨2, ![224, 8]⟩
abbrev S64x8 : Shape := ⟨2, ![64, 8]⟩
abbrev S192x8 : Shape := ⟨2, ![192, 8]⟩
abbrev S128x8 : Shape := ⟨2, ![128, 8]⟩
abbrev S1x1 : Shape := ⟨2, ![1, 1]⟩
abbrev S1x7 : Shape := ⟨2, ![1, 7]⟩
abbrev S1x2 : Shape := ⟨2, ![1, 2]⟩
abbrev S1x6 : Shape := ⟨2, ![1, 6]⟩
abbrev S1x4 : Shape := ⟨2, ![1, 4]⟩
abbrev S136x8 : Shape := ⟨2, ![136, 8]⟩
abbrev S136 : Shape := ⟨1, ![136]⟩

abbrev nBuf : Space → Nat
  | .hbm => 13
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S8, .f32⟩
  | .hbm, ⟨3, _⟩ => ⟨S1x8, .f32⟩
  | .hbm, ⟨4, _⟩ => ⟨S16384x1, .i32⟩
  | .hbm, ⟨5, _⟩ => ⟨S16384x1, .i32⟩
  | .hbm, ⟨6, _⟩ => ⟨S16384x1, .i32⟩
  | .hbm, ⟨7, _⟩ => ⟨S16384x1, .i32⟩
  | .hbm, ⟨8, _⟩ => ⟨S16384x1, .f32⟩
  | .hbm, ⟨9, _⟩ => ⟨S16384x1, .f32⟩
  | .hbm, ⟨10, _⟩ => ⟨S1x8, .i32⟩
  | .hbm, ⟨11, _⟩ => ⟨S136x1, .i32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S1x8, .f32⟩
  | .local _ .vmem, ⟨4, _⟩ => ⟨S256x1, .i32⟩
  | .local _ .vmem, ⟨5, _⟩ => ⟨S256x1, .i32⟩
  | .local _ .vmem, ⟨6, _⟩ => ⟨S256x1, .i32⟩
  | .local _ .vmem, ⟨7, _⟩ => ⟨S256x1, .i32⟩
  | .local _ .vmem, ⟨8, _⟩ => ⟨S256x1, .i32⟩
  | .local _ .vmem, ⟨9, _⟩ => ⟨S256x1, .i32⟩
  | .local _ .vmem, ⟨10, _⟩ => ⟨S256x1, .i32⟩
  | .local _ .vmem, ⟨11, _⟩ => ⟨S256x1, .i32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S1x8, .i32⟩
  | .local _ .vmem, ⟨17, _⟩ => ⟨S136x1, .i32⟩
  | .local _ .vmem, ⟨18, _⟩ => ⟨S256x1024, .f32⟩
  | .local _ .vmem, ⟨19, _⟩ => ⟨S256x1024, .f32⟩
  | .local _ .vmem, ⟨20, _⟩ => ⟨S1x8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev main_v1_7 : Ref sig .tc := ⟨.hbm, 11, rfl⟩
abbrev main_v1_8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v107 : BitVec 1 := Scalar.cmpi .eq arg0 c63_i32
  let v108 : BitVec 32 := Scalar.extui v107
  let c0_i32_46 : BitVec 32 := 0#32
  let v109 : BitVec 1 := Scalar.cmpi .ne v108 c0_i32_46
  v109

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x8 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S136x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RouterIdeal.lean ====
variable {F : FTy → Type} [FloatOps F] [Named F]
def κ : String → Option EReal := fun
  | "mask" => some ⊥
  | _ => none
-- ==== RouterReferenceIdeal.lean ====
abbrev S16384x1024 : Shape := ⟨2, ![16384, 1024]⟩
abbrev S8x1024 : Shape := ⟨2, ![8, 1024]⟩
abbrev S8 : Shape := ⟨1, ![8]⟩
abbrev S1024x8 : Shape := ⟨2, ![1024, 8]⟩
abbrev S16384x8 : Shape := ⟨2, ![16384, 8]⟩
abbrev S1x8 : Shape := ⟨2, ![1, 8]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S8x1 : Shape := ⟨2, ![8, 1]⟩
abbrev S8x8 : Shape := ⟨2, ![8, 8]⟩
abbrev S136 : Shape := ⟨1, ![136]⟩
abbrev S136x1 : Shape := ⟨2, ![136, 1]⟩
abbrev S136x8 : Shape := ⟨2, ![136, 8]⟩

abbrev nBuf : Space → Nat
  | .hbm => 125
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S8, .f32⟩
  | .hbm, ⟨3, _⟩ => ⟨S1024x8, .f32⟩
  | .hbm, ⟨4, _⟩ => ⟨S16384x8, .f32⟩
  | .hbm, ⟨5, _⟩ => ⟨S1x8, .f32⟩
  | .hbm, ⟨6, _⟩ => ⟨S16384x8, .f32⟩
  | .hbm, ⟨7, _⟩ => ⟨S16384x8, .f32⟩
  | .hbm, ⟨8, _⟩ => ⟨S16384x2, .f32⟩
  | .hbm, ⟨9, _⟩ => ⟨S16384x2, .i32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x1, .f32⟩
  | .hbm, ⟨16, _⟩ => ⟨S16384x2, .f32⟩
  | .hbm, ⟨17, _⟩ => ⟨S16384x2, .f32⟩
  | .hbm, ⟨18, _⟩ => ⟨S16384x2, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x2, .f32⟩
  | .hbm, ⟨23, _⟩ => ⟨S16384x2, .f32⟩
  | .hbm, ⟨24, _⟩ => ⟨S16384x1, .i32⟩
  | .hbm, ⟨25, _⟩ => ⟨S16384x1, .i32⟩
  | .hbm, ⟨26, _⟩ => ⟨S16384, .i32⟩
  | .hbm, ⟨27, _⟩ => ⟨S1x16384, .i32⟩
  | .hbm, ⟨28, _⟩ => ⟨S16384x1, .i32⟩
  | .hbm, ⟨29, _⟩ => ⟨S16384x16384, .i32⟩
  | .hbm, ⟨30, _⟩ => ⟨S16384x16384, .i32⟩
  | .hbm, ⟨31, _⟩ => ⟨S16384x16384, .i1⟩
  | .hbm, ⟨32, _⟩ => ⟨S8, .i32⟩
  | .hbm, ⟨33, _⟩ => ⟨S1x8, .i32⟩
  | .hbm, ⟨34, _⟩ => ⟨S16384x8, .i32⟩
  | .hbm, ⟨35, _⟩ => ⟨S16384x8, .i32⟩
  | .hbm, ⟨36, _⟩ => ⟨S16384x8, .i1⟩
  | .hbm, ⟨37, _⟩ => ⟨S16384x8, .i32⟩
  | .hbm, ⟨38, _⟩ => ⟨S1x8, .i32⟩
  | .hbm, ⟨39, _⟩ => ⟨S16384x8, .i32⟩
  | .hbm, ⟨40, _⟩ => ⟨S16384x8, .i32⟩
  | .hbm, ⟨41, _⟩ => ⟨S16384x8, .i1⟩
  | .hbm, ⟨42, _⟩ => ⟨S16384x8, .i32⟩
  | .hbm, ⟨43, _⟩ => ⟨S16384x8, .i32⟩
  | .hbm, ⟨44, _⟩ => ⟨S_, .i32⟩
  | .hbm, ⟨45, _⟩ => ⟨S8, .i32⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S_, .i32⟩
  | .hbm, ⟨50, _⟩ => ⟨S8, .i32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S1x8, .i32⟩
  | .hbm, ⟨56, _⟩ => ⟨S8x1, .i32⟩
  | .hbm, ⟨57, _⟩ => ⟨S8x8, .i32⟩
  | .hbm, ⟨58, _⟩ => ⟨S8x8, .i32⟩
  | .hbm, ⟨59, _⟩ => ⟨S8x8, .i1⟩
  | .hbm, ⟨60, _⟩ => ⟨S1x8, .i32⟩
  | .hbm, ⟨61, _⟩ => ⟨S_, .i32⟩
  | .hbm, ⟨62, _⟩ => ⟨S_, .i32⟩
  | .hbm, ⟨63, _⟩ => ⟨S8x8, .i32⟩
  | .hbm, ⟨64, _⟩ => ⟨S8x8, .i32⟩
  | .hbm, ⟨65, _⟩ => ⟨S8x8, .i32⟩
  | .hbm, ⟨66, _⟩ => ⟨S_, .i32⟩
  | .hbm, ⟨67, _⟩ => ⟨S8, .i32⟩
  | .hbm, ⟨68, _⟩ => ⟨S136, .i32⟩
  | .hbm, ⟨69, _⟩ => ⟨S_, .i32⟩
  | .hbm, ⟨70, _⟩ => ⟨S136, .i32⟩
  | .hbm, ⟨71, _⟩ => ⟨S136, .i32⟩
  | .hbm, ⟨72, _⟩ => ⟨S1x8, .i32⟩
  | .hbm, ⟨73, _⟩ => ⟨S136x1, .i32⟩
  | .hbm, ⟨74, _⟩ => ⟨S136x8, .i32⟩
  | .hbm, ⟨75, _⟩ => ⟨S136x8, .i32⟩
  | .hbm, ⟨76, _⟩ => ⟨S136x8, .i1⟩
  | .hbm, ⟨77, _⟩ => ⟨S1x8, .i32⟩
  | .hbm, ⟨78, _⟩ => ⟨S_, .i32⟩
  | .hbm, ⟨79, _⟩ => ⟨S_, .i32⟩
  | .hbm, ⟨80, _⟩ => ⟨S136x8, .i32⟩
  | .hbm, ⟨81, _⟩ => ⟨S136x8, .i32⟩
  | .hbm, ⟨82, _⟩ => ⟨S136x8, .i32⟩
  | .hbm, ⟨83, _⟩ => ⟨S_, .i32⟩
  | .hbm, ⟨84, _⟩ => ⟨S136, .i32⟩
  | .hbm, ⟨85, _⟩ => ⟨S136x1, .i32⟩
  | .hbm, ⟨86, _⟩ => ⟨S1x16384, .i32⟩
  | .hbm, ⟨87, _⟩ => ⟨S16384x16384, .i32⟩
  | .hbm, ⟨88, _⟩ => ⟨S16384x16384, .i32⟩
  | .hbm, ⟨89, _⟩ => ⟨S16384x16384, .i1⟩
  | .hbm, ⟨90, _⟩ => ⟨S16384x16384, .i32⟩
  | .hbm, ⟨91, _⟩ => ⟨S1x16384, .i32⟩
  | .hbm, ⟨92, _⟩ => ⟨S16384x16384, .i32⟩
  | .hbm, ⟨93, _⟩ => ⟨S16384x16384, .i32⟩
  | .hbm, ⟨94, _⟩ => ⟨S16384x16384, .i1⟩
  | .hbm, ⟨95, _⟩ => ⟨S16384x16384, .i32⟩
  | .hbm, ⟨96, _⟩ => ⟨S16384x16384, .i32⟩
  | .hbm, ⟨97, _⟩ => ⟨S_, .i32⟩
  | .hbm, ⟨98, _⟩ => ⟨S_, .i32⟩
  | .hbm, ⟨99, _⟩ => ⟨S16384x16384, .i32⟩
  | .hbm, ⟨100, _⟩ => ⟨S16384x16384, .i32⟩
  | .hbm, ⟨101, _⟩ => ⟨S_, .i32⟩
  | .hbm, ⟨102, _⟩ => ⟨S16384, .i32⟩
  | .hbm, ⟨103, _⟩ => ⟨S16384x1, .i32⟩
  | .hbm, ⟨104, _⟩ => ⟨S1x16384, .i32⟩
  | .hbm, ⟨105, _⟩ => ⟨S16384x16384, .i32⟩
  | .hbm, ⟨106, _⟩ => ⟨S16384x16384, .i32⟩
  | .hbm, ⟨107, _⟩ => ⟨S16384x16384, .i1⟩
  | .hbm, ⟨108, _⟩ => ⟨S16384x16384, .i32⟩
  | .hbm, ⟨109, _⟩ => ⟨S1x16384, .i32⟩
  | .hbm, ⟨110, _⟩ => ⟨S16384x16384, .i32⟩
  | .hbm, ⟨111, _⟩ => ⟨S16384x16384, .i32⟩
  | .hbm, ⟨112, _⟩ => ⟨S16384x16384, .i1⟩
  | .hbm, ⟨113, _⟩ => ⟨S16384x16384, .i32⟩
  | .hbm, ⟨114, _⟩ => ⟨S16384x16384, .i32⟩
  | .hbm, ⟨115, _⟩ => ⟨S_, .i32⟩
  | .hbm, ⟨116, _⟩ => ⟨S_, .i32⟩
  | .hbm, ⟨117, _⟩ => ⟨S16384x16384, .i32⟩
  | .hbm, ⟨118, _⟩ => ⟨S16384x16384, .i32⟩
  | .hbm, ⟨119, _⟩ => ⟨S_, .i32⟩
  | .hbm, ⟨120, _⟩ => ⟨S16384, .i32⟩
  | .hbm, ⟨121, _⟩ => ⟨S16384x1, .i32⟩
  | .hbm, ⟨122, _⟩ => ⟨S16384x1, .f32⟩
  | .hbm, ⟨123, _⟩ => ⟨S16384x1, .f32⟩
  | .hbm, ⟨124, _⟩ => ⟨S1x8, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_v36 : Ref sig .tc := ⟨.hbm, 45, rfl⟩
abbrev main_c_2 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_5 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v49 : Ref sig .tc := ⟨.hbm, 65, rfl⟩
abbrev main_c_6 : Ref sig .tc := ⟨.hbm, 66, rfl⟩
abbrev main_v50 : Ref sig .tc := ⟨.hbm, 67, rfl⟩
abbrev main_v51 : Ref sig .tc := ⟨.hbm, 68, rfl⟩
abbrev main_c_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_8 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v60 : Ref sig .tc := ⟨.hbm, 82, rfl⟩
abbrev main_c_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_10 : Ref sig .tc := ⟨.hbm, 97, rfl⟩
abbrev main_call2_v0 : Ref sig .tc := ⟨.hbm, 98, rfl⟩
abbrev main_call2_v1 : Ref sig .tc := ⟨.hbm, 99, rfl⟩
abbrev main_v74 : Ref sig .tc := ⟨.hbm, 100, rfl⟩
abbrev main_c_11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_12 : Ref sig .tc := ⟨.hbm, 115, rfl⟩
abbrev main_call3_v0 : Ref sig .tc := ⟨.hbm, 116, rfl⟩
abbrev main_call3_v1 : Ref sig .tc := ⟨.hbm, 117, rfl⟩
abbrev main_v88 : Ref sig .tc := ⟨.hbm, 118, rfl⟩
abbrev main_c_13 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== Proof.Router.Body.lean ====
/-
  What one step of the router's body leaves in the five of its result blocks that depend on the step's own inputs alone:
  the two experts of a row, their two weights, and the copy of the row. At each of the three kinds of step (the first,
  the last, the others) each block is stored once and whole, so it ends at the stored value.
-/
module

public import proofs.«01_k».proof.Proof.Gen.RouterIdeal.Frame
public import Idealize.ShloMosaic.Lib.Pipeline.FrameBody
public import Idealize.ShloMosaic.Lib.Pipeline.Value

@[expose] public section

noncomputable section

namespace Cert.Proof.Router

open Cert.RouterIdeal Cert.RouterIdeal.Gen
open Idealize.ShloMosaic Idealize.ShloMosaic.TcCoe

variable {F : FTy → Type} [FloatOps F] [Named F]

theorem off2 : (![0, 0] : Fin 2 → ℕ) = fun _ => 0 := by funext i; fin_cases i <;> rfl

/-- One store over the whole of a buffer leaves what was stored. -/
theorem read_stored {sp : Space} {S : Shape} {e : EltTy} (v : View sig .tc sp S e) (g : v.ty.Contents (Elt F))
    {off : Fin S.rank → ℕ} (h : off = fun _ => 0) (inb : ∀ a, off a + S.size a ≤ S.size a) (w : S.Idx → Elt F e) :
    v.read (Elt F) (v.writes (Elt F) g [⟨Rect.unit off S.size inb, w⟩]) = w :=
  (View.read_writes_eq_canon v g [⟨Rect.unit off S.size inb, w⟩]
    fun y => ⟨_, List.mem_singleton_self _, View.mem_set_unit_zero h inb y⟩).trans (View.canon_unit_zero h inb w)

/-- A load of the whole of a buffer that holds `x` reads `x`. -/
theorem load_all {sp : Space} {S : Shape} {e : EltTy} (v : Memref sig .tc sp S e) (hv : v.IsWhole) (x : S.Idx → Elt F e)
    {off : Fin S.rank → ℕ} (h : off = fun _ => 0) (inb : ∀ a, off a + S.size a ≤ S.size a) :
    v.view.readAt (Elt F) (Rect.unit off S.size inb).toLoadRect (hv.unread x) = x :=
  (View.ld_unit_zero h inb (v.view.read (Elt F) (hv.unread x))).trans (hv.read_unread x)

variable (c : Dev nD) (i : grid0.Coords) (arg1 : Memref sig .tc .vmem S256x1024 .f32) (harg1 : arg1.IsWhole)
variable (arg2 : Memref sig .tc .vmem S8x1024 .f32) (harg2 : arg2.IsWhole) (arg3 : Memref sig .tc .vmem S1x8 .f32)
variable (harg3 : arg3.IsWhole) (arg4 : Memref sig .tc .vmem S256x1 .i32) (harg4 : arg4.IsWhole)
variable (arg5 : Memref sig .tc .vmem S256x1 .i32) (harg5 : arg5.IsWhole) (arg6 : Memref sig .tc .vmem S256x1 .i32)
variable (harg6 : arg6.IsWhole) (arg7 : Memref sig .tc .vmem S256x1 .i32) (harg7 : arg7.IsWhole)
variable (arg8 : Memref sig .tc .vmem S256x1 .f32) (harg8 : arg8.IsWhole) (arg9 : Memref sig .tc .vmem S256x1 .f32)
variable (harg9 : arg9.IsWhole) (arg10 : Memref sig .tc .vmem S1x8 .i32) (harg10 : arg10.IsWhole)
variable (arg11 : Memref sig .tc .vmem S136x1 .i32) (harg11 : arg11.IsWhole) (arg12 : Memref sig .tc .vmem S256x1024 .f32)
variable (harg12 : arg12.IsWhole) (arg13 : Memref sig .tc .vmem S1x8 .f32) (harg13 : arg13.IsWhole)
variable (x0 : Vec F S256x1024 .f32) (x1 : Vec F S8x1024 .f32) (x2 : Vec F S1x8 .f32) (xs0 : Vec F S1x8 .f32)

/-- A function of the three loaded blocks, at the loads, is the function of the blocks. -/
theorem at_loads {β : Type} (f : Vec F S256x1024 .f32 → Vec F S8x1024 .f32 → Vec F S1x8 .f32 → β)
    (b1 : ∀ a, (![0, 0] : Fin 2 → ℕ) a + S256x1024.size a ≤ S256x1024.size a)
    (b2 : ∀ a, (![0, 0] : Fin 2 → ℕ) a + S8x1024.size a ≤ S8x1024.size a)
    (b3 : ∀ a, (![0, 0] : Fin 2 → ℕ) a + S1x8.size a ≤ S1x8.size a) :
    f (arg1.view.readAt (Elt F) (Rect.unit (s := S256x1024) ![0, 0] S256x1024.size b1).toLoadRect (harg1.unread x0))
        (arg2.view.readAt (Elt F) (Rect.unit (s := S8x1024) ![0, 0] S8x1024.size b2).toLoadRect (harg2.unread x1))
        (arg3.view.readAt (Elt F) (Rect.unit (s := S1x8) ![0, 0] S1x8.size b3).toLoadRect (harg3.unread x2))
      = f x0 x1 x2 :=
  congr (congr (congrArg f (load_all (S := S256x1024) arg1 harg1 x0 off2 b1)) (load_all (S := S8x1024) arg2 harg2 x1 off2 b2))
    (load_all (S := S1x8) arg3 harg3 x2 off2 b3)

/-- The first of a row's two weights, from the step's inputs. -/
def weight0 (x0 : Vec F S256x1024 .f32) (x1 : Vec F S8x1024 .f32) (x2 : Vec F S1x8 .f32) : FVec F S256x1 .f32 :=
  k0_pay19 (k0_pay17 x0 x1 x2) k0_pay18
/-- The second. -/
def weight1 (x0 : Vec F S256x1024 .f32) (x1 : Vec F S8x1024 .f32) (x2 : Vec F S1x8 .f32) : FVec F S256x1 .f32 :=
  k0_pay20 (k0_pay16 x0 x1 x2)

/-! ## The first step -/

theorem out_A_3 (hc0 : cond0_0 i) (hc1 : ¬cond0_1 i) :
    out0_A_3
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2
      = k0_pay12 x0 x1 x2 := by
  unfold out0_A_3
  refine (read_stored (S := S256x1) _ _ off2 _ _).trans ?_
  exact at_loads arg1 harg1 arg2 harg2 arg3 harg3 x0 x1 x2 k0_pay12 _ _ _

theorem out_A_4 (hc0 : cond0_0 i) (hc1 : ¬cond0_1 i) :
    out0_A_4
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2
      = k0_pay15 x0 x1 x2 := by
  unfold out0_A_4
  refine (read_stored (S := S256x1) _ _ off2 _ _).trans ?_
  exact at_loads arg1 harg1 arg2 harg2 arg3 harg3 x0 x1 x2 k0_pay15 _ _ _

theorem out_A_7 (hc0 : cond0_0 i) (hc1 : ¬cond0_1 i) :
    out0_A_7
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2
      = weight0 x0 x1 x2 := by
  unfold out0_A_7
  refine (read_stored (S := S256x1) _ _ off2 _ _).trans ?_
  exact at_loads arg1 harg1 arg2 harg2 arg3 harg3 x0 x1 x2 weight0 _ _ _

theorem out_A_8 (hc0 : cond0_0 i) (hc1 : ¬cond0_1 i) :
    out0_A_8
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2
      = weight1 x0 x1 x2 := by
  unfold out0_A_8
  refine (read_stored (S := S256x1) _ _ off2 _ _).trans ?_
  exact at_loads arg1 harg1 arg2 harg2 arg3 harg3 x0 x1 x2 weight1 _ _ _

theorem out_A_11 (hc0 : cond0_0 i) (hc1 : ¬cond0_1 i) :
    out0_A_11
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2
      = x0 := by
  unfold out0_A_11
  refine (read_stored (S := S256x1024) _ _ off2 _ _).trans ?_
  exact load_all (S := S256x1024) arg1 harg1 x0 off2 _

/-! ## A step between -/

theorem out_B_3 (hc0 : ¬cond0_0 i) (hc1 : ¬cond0_1 i) :
    out0_B_3
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = k0_pay12 x0 x1 x2 := by
  unfold out0_B_3
  refine (read_stored (S := S256x1) _ _ off2 _ _).trans ?_
  exact at_loads arg1 harg1 arg2 harg2 arg3 harg3 x0 x1 x2 k0_pay12 _ _ _

theorem out_B_4 (hc0 : ¬cond0_0 i) (hc1 : ¬cond0_1 i) :
    out0_B_4
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = k0_pay15 x0 x1 x2 := by
  unfold out0_B_4
  refine (read_stored (S := S256x1) _ _ off2 _ _).trans ?_
  exact at_loads arg1 harg1 arg2 harg2 arg3 harg3 x0 x1 x2 k0_pay15 _ _ _

theorem out_B_7 (hc0 : ¬cond0_0 i) (hc1 : ¬cond0_1 i) :
    out0_B_7
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = weight0 x0 x1 x2 := by
  unfold out0_B_7
  refine (read_stored (S := S256x1) _ _ off2 _ _).trans ?_
  exact at_loads arg1 harg1 arg2 harg2 arg3 harg3 x0 x1 x2 weight0 _ _ _

theorem out_B_8 (hc0 : ¬cond0_0 i) (hc1 : ¬cond0_1 i) :
    out0_B_8
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = weight1 x0 x1 x2 := by
  unfold out0_B_8
  refine (read_stored (S := S256x1) _ _ off2 _ _).trans ?_
  exact at_loads arg1 harg1 arg2 harg2 arg3 harg3 x0 x1 x2 weight1 _ _ _

theorem out_B_11 (hc0 : ¬cond0_0 i) (hc1 : ¬cond0_1 i) :
    out0_B_11
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = x0 := by
  unfold out0_B_11
  refine (read_stored (S := S256x1024) _ _ off2 _ _).trans ?_
  exact load_all (S := S256x1024) arg1 harg1 x0 off2 _

/-! ## The last step -/

theorem out_C_3 (hc0 : ¬cond0_0 i) (hc1 : cond0_1 i) :
    out0_C_3
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = k0_pay12 x0 x1 x2 := by
  unfold out0_C_3
  refine (read_stored (S := S256x1) _ _ off2 _ _).trans ?_
  exact at_loads arg1 harg1 arg2 harg2 arg3 harg3 x0 x1 x2 k0_pay12 _ _ _

theorem out_C_4 (hc0 : ¬cond0_0 i) (hc1 : cond0_1 i) :
    out0_C_4
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = k0_pay15 x0 x1 x2 := by
  unfold out0_C_4
  refine (read_stored (S := S256x1) _ _ off2 _ _).trans ?_
  exact at_loads arg1 harg1 arg2 harg2 arg3 harg3 x0 x1 x2 k0_pay15 _ _ _

theorem out_C_7 (hc0 : ¬cond0_0 i) (hc1 : cond0_1 i) :
    out0_C_7
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = weight0 x0 x1 x2 := by
  unfold out0_C_7
  refine (read_stored (S := S256x1) _ _ off2 _ _).trans ?_
  exact at_loads arg1 harg1 arg2 harg2 arg3 harg3 x0 x1 x2 weight0 _ _ _

theorem out_C_8 (hc0 : ¬cond0_0 i) (hc1 : cond0_1 i) :
    out0_C_8
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = weight1 x0 x1 x2 := by
  unfold out0_C_8
  refine (read_stored (S := S256x1) _ _ off2 _ _).trans ?_
  exact at_loads arg1 harg1 arg2 harg2 arg3 harg3 x0 x1 x2 weight1 _ _ _

theorem out_C_11 (hc0 : ¬cond0_0 i) (hc1 : cond0_1 i) :
    out0_C_11
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = x0 := by
  unfold out0_C_11
  refine (read_stored (S := S256x1024) _ _ off2 _ _).trans ?_
  exact load_all (S := S256x1024) arg1 harg1 x0 off2 _

end Cert.Proof.Router

end
-- ==== Proof.Router.Row.lean ====
/-
  One row of eight values: its two largest, found by two rounds of a maximum and the first position that attains it
  (the second round with the first position masked by −∞), are the first two of the row sorted stably downwards.
-/
module

public import Idealize.ShloMosaic.Lib.SortPrefix
public import Idealize.ShloMosaic.PureOps.Ideal.Laws
public import Idealize.ShloMosaic.PureOps.Reduce

@[expose] public section

noncomputable section

namespace Cert.Proof.Router

open Idealize.ShloMosaic

/-- `k` is the first position of the largest value of `f`. -/
structure Best (f : Fin 8 → EReal) (k : Fin 8) : Prop where
  le : ∀ j, f j ≤ f k
  lt : ∀ j, j < k → f j < f k

theorem exists_best (f : Fin 8 → EReal) : ∃ k, Best f k := by
  classical
  obtain ⟨k0, h0⟩ := Finite.exists_max f
  have hne : (Finset.univ.filter fun k => ∀ j, f j ≤ f k).Nonempty := ⟨k0, by simpa using h0⟩
  have hm := Finset.min'_mem _ hne
  have hle : ∀ j, f j ≤ f (Finset.min' _ hne) := (Finset.mem_filter.mp hm).2
  refine ⟨_, hle, fun j hj => lt_of_le_of_ne (hle j) fun e => ?_⟩
  exact absurd (Finset.min'_le _ j (Finset.mem_filter.mpr ⟨Finset.mem_univ _, fun i => e ▸ hle i⟩)) (not_le.mpr hj)

/-- The largest value of a row, as a fold of `max` from −∞. -/
def rowMax (f : Fin 8 → EReal) : EReal := (Finset.univ : Finset (Fin 8)).fold max ⊥ f

theorem Best.rowMax_eq {f : Fin 8 → EReal} {k : Fin 8} (h : Best f k) : rowMax f = f k :=
  le_antisymm ((Finset.fold_max_le _).mpr ⟨bot_le, fun j _ => h.le j⟩)
    ((Finset.le_fold_max _).mpr (Or.inr ⟨k, Finset.mem_univ _, le_rfl⟩))

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The least of a row of words, read signed, from the largest signed word. -/
def rowLeast (w : Fin 8 → BitVec 32) : BitVec 32 :=
  (Finset.univ : Finset (Fin 8)).fold IntOp.minsi 2147483647#32 w

theorem rowLeast_eq {w : Fin 8 → BitVec 32} {k : Fin 8} (h : ∀ j, (w k).toInt ≤ (w j).toInt) : rowLeast w = w k := by
  apply BitVec.eq_of_toInt_eq
  unfold rowLeast
  rw [← Finset.fold_hom (op' := min) (m := BitVec.toInt) toInt_minsi]
  refine le_antisymm ((Finset.fold_min_le _).mpr (Or.inr ⟨k, Finset.mem_univ _, le_rfl⟩))
    ((Finset.le_fold_min _).mpr ⟨?_, fun j _ => h j⟩)
  have := BitVec.toInt_lt (x := w k)
  rw [show (2147483647#32 : BitVec 32).toInt = 2147483647 from rfl]
  omega

/-- The first position whose value is the row's largest, as the least of the positions so marked (eight elsewhere). -/
def rowFirst (f : Fin 8 → EReal) : BitVec 32 :=
  rowLeast fun k => if f k = rowMax f then BitVec.ofNat 32 k.val else 8#32

theorem toInt_pos (k : Fin 8) : (BitVec.ofNat 32 k.val).toInt = k.val := by fin_cases k <;> rfl

theorem Best.rowFirst_eq {f : Fin 8 → EReal} {k : Fin 8} (h : Best f k) : rowFirst f = BitVec.ofNat 32 k.val := by
  have e := h.rowMax_eq
  have hk : (if f k = rowMax f then BitVec.ofNat 32 k.val else 8#32) = BitVec.ofNat 32 k.val := if_pos e.symm
  refine (rowLeast_eq (k := k) fun j => ?_).trans hk
  rw [hk, toInt_pos]
  split
  · next hj =>
    rw [toInt_pos]
    rcases lt_or_ge j k with hl | hl
    · exact absurd (hj.trans e) (h.lt j hl).ne
    · exact_mod_cast hl
  · rw [show (8#32 : BitVec 32).toInt = 8 from rfl]; have := k.isLt; omega

/-- The row with position `k1` masked. -/
def masked (f : Fin 8 → EReal) (k1 : Fin 8) : Fin 8 → EReal := fun k => if k = k1 then ⊥ else f k

theorem masked_of_ne {f : Fin 8 → EReal} {k1 k : Fin 8} (h : k ≠ k1) : masked f k1 k = f k := if_neg h

/-- The position of a masked row's largest value is another than the masked, if no value is −∞. -/
theorem Best.ne_of_masked {f : Fin 8 → EReal} (hf : ∀ k, f k ≠ ⊥) {k1 k2 : Fin 8} (h : Best (masked f k1) k2) : k2 ≠ k1 := by
  rintro rfl
  obtain ⟨j, hj⟩ := exists_ne k2
  have := h.le j
  rw [masked_of_ne hj, masked, if_pos rfl] at this
  exact hf j (le_bot_iff.mp this)

/-! ### The sorted row -/

/-- Two relations that agree on every later position against an earlier one sort the positions alike. -/
theorem sortedFrom_congr_of_lt {n : ℕ} (R R' : Fin n → Fin n → Bool) (h : ∀ a b, a < b → R b a = R' b a) :
    sortedFrom R = sortedFrom R' := by
  have key : ∀ l : List (Fin n), l.Pairwise (· < ·) → stableSort R l = stableSort R' l := by
    intro l
    induction l with
    | nil => exact fun _ => rfl
    | cons a l ih =>
      intro hl
      rw [List.pairwise_cons] at hl
      unfold stableSort
      rw [ih hl.2]
      exact insertBefore_congr R R' a _ fun b hb => h a b (hl.1 b ((perm_stableSort R' l).mem_iff.mp hb))
  have e : sortPositions n R = sortPositions n R' := key _ (List.pairwise_lt_finRange n)
  funext k
  unfold sortedFrom
  rw [List.get_of_eq e]
  rfl

/-- Downwards, then by position. -/
def down (f : Fin 8 → EReal) (k k' : Fin 8) : Bool :=
  decide (f k' < f k) || (decide (f k = f k') && decide (k < k'))

theorem down_total (f : Fin 8 → EReal) : StrictTotalBefore (down f) :=
  StrictTotalBefore.of_key_then_position (fun a b : EReal => decide (b < a)) f (fun a => by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)

theorem Best.not_down {f : Fin 8 → EReal} {k : Fin 8} (h : Best f k) (j : Fin 8) : down f j k = false := by
  unfold down
  rcases lt_or_ge j k with hl | hl
  · simp [(h.le j).not_gt, (h.lt j hl).ne]
  · simp [(h.le j).not_gt, not_lt.mpr hl]

theorem sorted_top2 {f : Fin 8 → EReal} (hf : ∀ k, f k ≠ ⊥) {k1 k2 : Fin 8} (h1 : Best f k1) (h2 : Best (masked f k1) k2)
    (i : Fin 2) :
    sortedFrom (fun k k' => Ideal.cmp .ogt (f k) (f k') == 1#1) (i.castLE (by decide)) = (![k1, k2] : Fin 2 → Fin 8) i := by
  have hne := h2.ne_of_masked hf
  rw [sortedFrom_congr_of_lt _ (down f) (fun a b hab => by
    have : ¬ b < a := not_lt.mpr hab.le
    simp only [Ideal.cmp, down, this, decide_false, Bool.and_false, Bool.or_false]
    by_cases h : f a < f b <;> simp [h])]
  refine (down_total f).sortedFrom_eq_of_prefix (by decide) ![k1, k2] ?_ ?_ ?_ i
  · intro a b hab
    fin_cases a <;> fin_cases b
    · rfl
    · exact absurd hab.symm hne
    · exact absurd hab hne
    · rfl
  · intro a b hab
    fin_cases a <;> fin_cases b
    · exact absurd hab (by decide)
    · exact h1.not_down k2
    · exact absurd hab (by decide)
    · exact absurd hab (by decide)
  · intro a p hp
    have p1 : p ≠ k1 := fun e => hp 0 e.symm
    fin_cases a
    · exact h1.not_down p
    · have hle := h2.le p
      rw [masked_of_ne p1, masked_of_ne hne] at hle
      show down f p k2 = false
      unfold down
      rcases lt_or_ge p k2 with hl | hl
      · have hlt := h2.lt p hl
        rw [masked_of_ne p1, masked_of_ne hne] at hlt
        simp [hle.not_gt, hlt.ne]
      · simp [hle.not_gt, not_lt.mpr hl]

end Cert.Proof.Router

end
-- ==== Proof.Router.Pay.lean ====
/-
  What the router's body stores, at the ideal values and read at an index: per row the logits, the two rounds of maximum
  and first position of `Row.lean`, and the weights of the two values found.
-/
module

public import proofs.«01_k».proof.Proof.Router.Body
public import proofs.«01_k».proof.Proof.Router.Row
public import Idealize.ShloMosaic.Lib.ValueLayoutCasts
public import Idealize.ShloMosaic.Lib.MatmulPlain
public import Idealize.ShloMosaic.PureOps.IdealRules

@[expose] public section

noncomputable section

namespace Cert.Proof.Router

open Cert.RouterIdeal Cert.RouterIdeal.Gen
open Idealize.ShloMosaic Idealize.ShloMosaic.TcCoe Idealize.ShloMosaic.ValueIdx

/-- The eight logits of one token. -/
def logitRow (x : Fin 1024 → EReal) (w : Fin 8 → Fin 1024 → EReal) (b : Fin 8 → EReal) : Fin 8 → EReal :=
  fun k => ∑ d : Fin 1024, x d * w k d + b k

theorem negInf : (FloatOps.ofBits .f32 0xFF800000#32 : Ideal .f32) = (⊥ : EReal) := by
  show Ideal.ofBits .f32 0xFF800000#32 = ⊥
  simp [Ideal.ofBits, Ideal.ieee]

theorem one_f32 : (FloatOps.ofBits .f32 0x3F800000#32 : Ideal .f32) = (1 : EReal) :=
  IdealRules.sign_bit.ideal_onePat .f32

theorem lift_row (r : Fin 256) (k : Fin 8) :
    (reduces_S256x8_S256 : S256x8.Reduces [1] S256).lift (ix1 r) k = ix2 r k := by
  funext a
  match a with
  | ⟨0, _⟩ => rfl
  | ⟨1, _⟩ => rfl

/-- The column of the rows' maxima. -/
theorem max_column (X : FVec Ideal S256x8 .f32) (r : Fin 256) (u : Fin 1) :
    shapeCast S256x1 (multiReduction .maximumf [1] S256 X 0xFF800000#32 reduces_S256x8_S256 (.inl rfl) rfl) shapeCasts_S256_S256x1 (ix2 r u)
      = rowMax fun k => X (ix2 r k) := by
  rw [shapeCast_a_a1_apply]
  refine (Ideal.multiReduction_maximumf_single X _ reduces_S256x8_S256 (.inl rfl) rfl (ix1 r)).trans ?_
  show Finset.fold max (FloatOps.ofBits .f32 0xFF800000#32 : Ideal .f32) _ _ = _
  rw [negInf]
  exact congrArg (Finset.fold max ⊥ · _) (funext fun k => congrArg X (lift_row r k))

/-- The column of the rows' least words. -/
theorem min_column (X : IVec S256x8 32) (r : Fin 256) (u : Fin 1) :
    shapeCast S256x1 (multiReductionI .minsi [1] S256 X 2147483647#32 reduces_S256x8_S256 rfl) shapeCasts_S256_S256x1 (ix2 r u)
      = rowLeast fun k => X (ix2 r k) := by
  rw [shapeCast_a_a1_apply]
  refine (multiReductionI_eq_fold .minsi X _ reduces_S256x8_S256 rfl (ix1 r)).trans ?_
  rw [Shape.Reduces.fold_filter_drop_single]
  exact congrArg (Finset.fold IntOp.minsi _ · _) (funext fun k => congrArg X (lift_row r k))

/-- A column spread over the row. -/
theorem spread {α : Type} (v : S256x1.Idx → α) (r : Fin 256) (k : Fin 8) :
    broadcastTo S256x8 v broadcasts_S256x1_S256x8 (ix2 r k) = v (ix2 r 0) := by
  refine broadcastTo_apply v _ (ix2 r k) (ix2 r (0 : Fin 1)) fun ax => ?_
  match ax with
  | ⟨0, _⟩ => rfl
  | ⟨1, _⟩ => rfl

theorem position (r : Fin 256) (k : Fin 8) : iota .tc S256x8 32 [1] iota_S256x8_d1_w32 (ix2 r k) = BitVec.ofNat 32 k.val := by
  show BitVec.ofNat 32 (0 * 8 + k.val) = _
  rw [Nat.zero_mul, Nat.zero_add]

/-- The column of the first positions of the rows' maxima. -/
theorem first_column (X : FVec Ideal S256x8 .f32) (M : FVec Ideal S256x1 .f32) (r : Fin 256) (u : Fin 1)
    (hM : M (ix2 r 0) = rowMax fun k => X (ix2 r k)) :
    shapeCast S256x1 (multiReductionI .minsi [1] S256
        (select (cmpf .oeq X (broadcastTo S256x8 M broadcasts_S256x1_S256x8)) (iota .tc S256x8 32 [1] iota_S256x8_d1_w32) (broadcast S256x8 8#32))
        2147483647#32 reduces_S256x8_S256 rfl) shapeCasts_S256_S256x1 (ix2 r u)
      = rowFirst fun k => X (ix2 r k) := by
  rw [min_column]
  unfold rowFirst
  refine congrArg rowLeast (funext fun k => ?_)
  have e : cmpf .oeq X (broadcastTo S256x8 M broadcasts_S256x1_S256x8) (ix2 r k)
      = BitVec.ofBool (decide (X (ix2 r k) = rowMax fun k => X (ix2 r k))) := by
    rw [← hM, ← spread M r k]; rfl
  show (if cmpf .oeq X (broadcastTo S256x8 M broadcasts_S256x1_S256x8) (ix2 r k) = 1#1 then iota .tc S256x8 32 [1] iota_S256x8_d1_w32 (ix2 r k) else 8#32) = _
  rw [e, position]
  by_cases h : X (ix2 r k) = rowMax fun k => X (ix2 r k) <;> simp [h]

section
variable (x0 : Vec Ideal S256x1024 .f32) (x1 : Vec Ideal S8x1024 .f32) (x2 : Vec Ideal S1x8 .f32) (r : Fin 256)

/-- The logits of row `r` of a block. -/
abbrev blockRow : Fin 8 → EReal := logitRow (fun d => x0 (ix2 r d)) (fun k d => x1 (ix2 k d)) fun k => x2 (ix2 0 k)

theorem pay10_apply (k : Fin 8) : k0_pay10 x0 x1 x2 (ix2 r k) = blockRow x0 x1 x2 r k := by
  show (FloatOps.matmul (F := Ideal) (φ₁ := .f32) (φ₂ := .f32) (DotDims.transposedRhs 256 1024 8) none x0 x1 (constant S256x8 .f32 0x00000000#32) (ix2 r k) : EReal)
    + broadcastTo S256x8 (shapeCast S1x8 x2 shapeCasts_S1x8_S1x8) broadcasts_S1x8_S256x8 (ix2 r k) = _
  rw [Ideal.matmul_transposedRhs_apply, broadcastTo_1b_ab_apply, shapeCast_apply x2 _ (ix2 0 k) (ix2 0 k) rfl]
  show Ideal.ofBits .f32 0x00000000#32 + _ + _ = _
  rw [Ideal.ofBits_zero_f32, zero_add]
  rfl

theorem row10 : (fun k => k0_pay10 x0 x1 x2 (ix2 r k)) = blockRow x0 x1 x2 r := funext (pay10_apply x0 x1 x2 r)

theorem pay11_apply (u : Fin 1) : k0_pay11 x0 x1 x2 (ix2 r u) = rowMax (blockRow x0 x1 x2 r) := by
  unfold k0_pay11
  rw [← row10]
  exact max_column _ r u

theorem pay12_apply (u : Fin 1) : k0_pay12 x0 x1 x2 (ix2 r u) = rowFirst (blockRow x0 x1 x2 r) := by
  unfold k0_pay12
  rw [← row10]
  exact first_column _ _ r u (by rw [pay11_apply, row10])

theorem ofNat_inj {a b : Fin 8} : BitVec.ofNat 32 a.val = BitVec.ofNat 32 b.val ↔ a = b := by revert a b; decide

variable {x0 x1 x2 r} {k1 k2 : Fin 8} (h1 : Best (blockRow x0 x1 x2 r) k1) (h2 : Best (masked (blockRow x0 x1 x2 r) k1) k2)

include h1

theorem pay13_apply (k : Fin 8) : k0_pay13 x0 x1 x2 (ix2 r k) = masked (blockRow x0 x1 x2 r) k1 k := by
  show (if IntOp.cmpi .eq (iota .tc S256x8 32 [1] iota_S256x8_d1_w32 (ix2 r k)) (broadcastTo S256x8 (k0_pay12 x0 x1 x2) broadcasts_S256x1_S256x8 (ix2 r k)) = 1#1
    then Named.named (F := Ideal) κ "mask" 0xF149F2CA#32 else k0_pay10 x0 x1 x2 (ix2 r k)) = _
  rw [position, spread, pay12_apply, h1.rowFirst_eq, pay10_apply, IdealRules.named_const.ideal_named_scalar κ "mask" _ ⊥ rfl]
  unfold masked
  by_cases h : k = k1
  · subst h; simp [IntOp.cmpi]
  · have : ¬ BitVec.ofNat 32 k.val = BitVec.ofNat 32 k1.val := fun e => h (ofNat_inj.mp e)
    have hb : (BitVec.ofNat 32 k.val == BitVec.ofNat 32 k1.val) = false := beq_eq_false_iff_ne.mpr this
    simp [IntOp.cmpi, h, hb]

theorem row13 : (fun k => k0_pay13 x0 x1 x2 (ix2 r k)) = masked (blockRow x0 x1 x2 r) k1 := funext (pay13_apply h1)

theorem pay12_at (u : Fin 1) : k0_pay12 x0 x1 x2 (ix2 r u) = BitVec.ofNat 32 k1.val := by
  rw [pay12_apply, h1.rowFirst_eq]

theorem pay11_at (u : Fin 1) : k0_pay11 x0 x1 x2 (ix2 r u) = blockRow x0 x1 x2 r k1 := by
  rw [pay11_apply, h1.rowMax_eq]

include h2

theorem pay14_at (u : Fin 1) : k0_pay14 x0 x1 x2 (ix2 r u) = masked (blockRow x0 x1 x2 r) k1 k2 := by
  rw [← h2.rowMax_eq, ← row13 h1]
  exact max_column _ r u

theorem pay15_at (u : Fin 1) : k0_pay15 x0 x1 x2 (ix2 r u) = BitVec.ofNat 32 k2.val := by
  rw [← h2.rowFirst_eq, ← row13 h1]
  exact first_column _ _ r u (by rw [pay14_at h1 h2, row13 h1, h2.rowMax_eq])

theorem pay16_at (u : Fin 1) :
    k0_pay16 x0 x1 x2 (ix2 r u) = Ideal.exp (masked (blockRow x0 x1 x2 r) k1 k2 - blockRow x0 x1 x2 r k1) := by
  rw [← pay14_at h1 h2 u, ← pay11_at h1 u]; rfl

theorem weight0_at (u : Fin 1) : weight0 x0 x1 x2 (ix2 r u)
    = Ideal.div 1 (1 + Ideal.exp (masked (blockRow x0 x1 x2 r) k1 k2 - blockRow x0 x1 x2 r k1)) := by
  rw [← pay16_at h1 h2 u, ← one_f32]; rfl

theorem weight1_at (u : Fin 1) : weight1 x0 x1 x2 (ix2 r u)
    = Ideal.div (Ideal.exp (masked (blockRow x0 x1 x2 r) k1 k2 - blockRow x0 x1 x2 r k1))
        (1 + Ideal.exp (masked (blockRow x0 x1 x2 r) k1 k2 - blockRow x0 x1 x2 r k1)) := by
  rw [← pay16_at h1 h2 u, ← one_f32]; rfl

end

end Cert.Proof.Router

end
-- ==== Proof.Router.Finite.lean ====
/-
  What the precondition says of the router's arguments: no entry is infinite, so every one is a real number, and so is
  every logit.
-/
module

public import proofs.«01_k».proof.Proof.Router.Pay
public import proofs.«01_k».proof.Pre_finite
public import Idealize.ShloMosaic.Lib.ReduceAll

@[expose] public section

noncomputable section

namespace Cert.Proof.Router

open Idealize.ShloMosaic Idealize.ShloMosaic.ValueIdx

/-- An extended real that is a real number. -/
def IsReal (e : EReal) : Prop := ∃ a : ℝ, e = a

theorem IsReal.add {e e' : EReal} (h : IsReal e) (h' : IsReal e') : IsReal (e + e') := by
  obtain ⟨a, rfl⟩ := h; obtain ⟨b, rfl⟩ := h'
  exact ⟨a + b, (EReal.coe_add a b).symm⟩

theorem IsReal.mul {e e' : EReal} (h : IsReal e) (h' : IsReal e') : IsReal (e * e') := by
  obtain ⟨a, rfl⟩ := h; obtain ⟨b, rfl⟩ := h'
  exact ⟨a * b, (EReal.coe_mul a b).symm⟩

theorem IsReal.ne_bot {e : EReal} (h : IsReal e) : e ≠ ⊥ := by
  obtain ⟨a, rfl⟩ := h; exact EReal.coe_ne_bot a

theorem isReal_of_abs {e : EReal} (h : max e (-e) < ⊤) : IsReal e := by
  induction e using EReal.rec with
  | bot => simp at h
  | top => simp at h
  | coe a => exact ⟨a, rfl⟩

theorem logitRow_isReal {x : Fin 1024 → EReal} {w : Fin 8 → Fin 1024 → EReal} {b : Fin 8 → EReal} (hx : ∀ d, IsReal (x d))
    (hw : ∀ k d, IsReal (w k d)) (hb : ∀ k, IsReal (b k)) (k : Fin 8) : IsReal (logitRow x w b k) :=
  IsReal.add (Finset.sum_induction _ IsReal (fun _ _ => IsReal.add) ⟨0, EReal.coe_zero.symm⟩ fun d _ => (hx d).mul (hw k d)) (hb k)

theorem posInf : (FloatOps.ofBits .f32 0x7F800000#32 : Ideal .f32) = (⊤ : EReal) := by
  show Ideal.ofBits .f32 0x7F800000#32 = ⊤
  simp [Ideal.ofBits, Ideal.ieee]

theorem isReal_of_test {e : Ideal .f32}
    (h : FloatOps.cmpf .olt (FloatOps.absf e) (FloatOps.ofBits .f32 0x7F800000#32 : Ideal .f32) = 1#1) : IsReal e := by
  refine isReal_of_abs ?_
  rw [posInf] at h
  have ho : ∀ b : Bool, BitVec.ofBool b = 1#1 → b = true := by decide
  exact of_decide_eq_true (ho _ h)

theorem and_one {a b : BitVec 1} (h : IntOp.andi a b = 1#1) : a = 1#1 ∧ b = 1#1 := by
  revert a b; decide

open Cert.Pre_finite in
/-- If the precondition holds of the arrays, their entries are real numbers. -/
theorem entries_real [Cert.Pre_finite.Facts] (a0 : FVec Ideal S16384x1024 .f32) (a1 : FVec Ideal S8x1024 .f32) (a2 : FVec Ideal S8 .f32)
    (h : Cert.Pre_finite.fn (F := Ideal) a0 a1 a2 = fun _ => 1#1) :
    (∀ i, IsReal (a0 i)) ∧ (∀ i, IsReal (a1 i)) ∧ ∀ i, IsReal (a2 i) := by
  haveI : Subsingleton S_.Idx := ⟨fun a b => funext fun d => d.elim0⟩
  have e := congrFun h (fun d => d.elim0)
  obtain ⟨e8, e12⟩ := and_one e
  obtain ⟨e3, e7⟩ := and_one e8
  exact ⟨fun i => isReal_of_test (Host.reduce_andi_all _ _ _ _ _ e3 i), fun i => isReal_of_test (Host.reduce_andi_all _ _ _ _ _ e7 i),
    fun i => isReal_of_test (Host.reduce_andi_all _ _ _ _ _ e12 i)⟩

end Cert.Proof.Router

end
-- ==== Proof.Router.Ref.lean ====
/-
  The reference read at one token: its logits, its two largest by the stable sort, and their softmax, in the terms of
  `Row.lean`.
-/
module

public import proofs.«01_k».proof.Proof.Router.Finite
public import proofs.«01_k».proof.Proof.Gen.RouterReferenceIdeal.Read

@[expose] public section

noncomputable section

namespace Cert.Proof.Router

open Cert.RouterReferenceIdeal Cert.RouterReferenceIdeal.Gen Cert.RouterReferenceIdeal.Read
open Idealize.ShloMosaic Idealize.ShloMosaic.TcCoe Idealize.ShloMosaic.ValueIdx

section
variable (x0 : (⟨S16384x1024, .f32⟩ : BufTy).Contents (Elt Ideal)) (x1 : (⟨S8x1024, .f32⟩ : BufTy).Contents (Elt Ideal))
  (x2 : (⟨S8, .f32⟩ : BufTy).Contents (Elt Ideal)) (r : Fin 16384)

/-- The logits of token `r`. -/
abbrev tokenRow : Fin 8 → EReal := logitRow (fun d => x0 (ix2 r d)) (fun k d => x1 (ix2 k d)) fun k => x2 (ix1 k)

theorem v4_at (k : Fin 8) : val_main_v4 (F := Ideal) x0 x1 x2 (ix2 r k) = tokenRow x0 x1 x2 r k := by
  rw [val_main_v4_apply, val_main_v1_apply, val_main_v3_apply, val_main_v2_apply]
  show (_ : EReal) + _ = _
  unfold tokenRow logitRow
  refine congrArg₂ (· + ·) (Finset.sum_congr rfl fun d _ => ?_) (congrArg x2 ?_)
  · rw [val_main_v0_apply]
    refine congrArg₂ (· * ·) (congrArg x0 ?_) (congrArg x1 ?_)
    · funext a; match a with
      | ⟨0, _⟩ => rfl
      | ⟨1, _⟩ => rfl
    · funext a; match a with
      | ⟨0, _⟩ => rfl
      | ⟨1, _⟩ => rfl
  · funext a; match a with
    | ⟨0, _⟩ => rfl

end

section
variable {x0 : (⟨S16384x1024, .f32⟩ : BufTy).Contents (Elt Ideal)} {x1 : (⟨S8x1024, .f32⟩ : BufTy).Contents (Elt Ideal)}
  {x2 : (⟨S8, .f32⟩ : BufTy).Contents (Elt Ideal)} {r : Fin 16384} {k1 k2 : Fin 8}

theorem along_at (j : S16384x8.Idx) (hj : (j 0).val = r.val) (k : Fin 8) : j.along (1 : Fin S16384x8.rank) k = ix2 r k := by
  funext a
  match a with
  | ⟨0, _⟩ => exact Fin.ext hj
  | ⟨1, _⟩ => rfl

/-- The position that the sort puts at place `i` of a token's row. -/
theorem place (hf : ∀ k, tokenRow x0 x1 x2 r k ≠ ⊥) (h1 : Best (tokenRow x0 x1 x2 r) k1) (h2 : Best (masked (tokenRow x0 x1 x2 r) k1) k2)
    (i : Fin 2) (j : S16384x8.Idx) (h0 : (j 0).val = r.val) (hi : (j 1).val = i.val) :
    sortedFrom (fun k k' : Fin 8 => FloatOps.cmpfTotal (F := Ideal) (φ := .f32) .gt (val_main_v4 (F := Ideal) x0 x1 x2 (j.along (1 : Fin S16384x8.rank) k))
      (val_main_v4 (F := Ideal) x0 x1 x2 (j.along (1 : Fin S16384x8.rank) k')) == 1#1) (j 1) = (![k1, k2] : Fin 2 → Fin 8) i := by
  rw [← sorted_top2 hf h1 h2 i]
  refine congr (congrArg sortedFrom ?_) (Fin.ext hi)
  funext k k'
  rw [along_at j h0, along_at j h0, v4_at, v4_at]
  rfl

/-- The rows sorted downwards, and where each value came from. -/
def sorted (x0 : (⟨S16384x1024, .f32⟩ : BufTy).Contents (Elt Ideal)) (x1 : (⟨S8x1024, .f32⟩ : BufTy).Contents (Elt Ideal))
    (x2 : (⟨S8, .f32⟩ : BufTy).Contents (Elt Ideal)) : (S16384x8.Idx → Ideal .f32) × (S16384x8.Idx → BitVec 32) :=
  Host.sort2 S16384x8 1 (fun l r : Ideal .f32 × BitVec 32 => FloatOps.cmpfTotal .gt l.1 r.1) (val_main_v4 (F := Ideal) x0 x1 x2)
    fun i => iotaInDim S16384x8 32 (1 : Fin 2) i

theorem values_at (hf : ∀ k, tokenRow x0 x1 x2 r k ≠ ⊥) (h1 : Best (tokenRow x0 x1 x2 r) k1) (h2 : Best (masked (tokenRow x0 x1 x2 r) k1) k2)
    (i : Fin 2) : val_main_values (F := Ideal) x0 x1 x2 (ix2 r i) = tokenRow x0 x1 x2 r ((![k1, k2] : Fin 2 → Fin 8) i) := by
  show extractStridedSlice S16384x2 (fun _ => 0) (sorted x0 x1 x2).1 sliceFits_S16384x8_S16384x2 (ix2 r i) = _
  have hj0 : ((ix2 r (i.castLE (by decide) : Fin 8) : S16384x8.Idx) 0).val = r.val := rfl
  have hj1 : ((ix2 r (i.castLE (by decide) : Fin 8) : S16384x8.Idx) 1).val = i.val := rfl
  refine (extractStridedSlice_apply _ _ sliceFits_S16384x8_S16384x2 (ix2 r i) (ix2 r (i.castLE (by decide) : Fin 8)) (fun a => ?_)).trans ?_
  · match a with
    | ⟨0, _⟩ => show r.val = 0 + r.val; omega
    | ⟨1, _⟩ => show i.val = 0 + i.val; omega
  · refine (congrArg (val_main_v4 (F := Ideal) x0 x1 x2) ?_).trans (v4_at x0 x1 x2 r _)
    exact (congrArg (fun p : Fin 8 => (ix2 r (i.castLE (by decide) : Fin 8) : S16384x8.Idx).along (1 : Fin S16384x8.rank) p)
      (place hf h1 h2 i _ hj0 hj1)).trans (along_at _ hj0 _)

theorem indices_at (hf : ∀ k, tokenRow x0 x1 x2 r k ≠ ⊥) (h1 : Best (tokenRow x0 x1 x2 r) k1) (h2 : Best (masked (tokenRow x0 x1 x2 r) k1) k2)
    (i : Fin 2) : val_main_indices (F := Ideal) x0 x1 x2 (ix2 r i) = BitVec.ofNat 32 ((![k1, k2] : Fin 2 → Fin 8) i).val := by
  show extractStridedSlice S16384x2 (fun _ => 0) (sorted x0 x1 x2).2 sliceFits_S16384x8_S16384x2 (ix2 r i) = _
  have hj0 : ((ix2 r (i.castLE (by decide) : Fin 8) : S16384x8.Idx) 0).val = r.val := rfl
  have hj1 : ((ix2 r (i.castLE (by decide) : Fin 8) : S16384x8.Idx) 1).val = i.val := rfl
  refine (extractStridedSlice_apply _ _ sliceFits_S16384x8_S16384x2 (ix2 r i) (ix2 r (i.castLE (by decide) : Fin 8)) (fun a => ?_)).trans ?_
  · match a with
    | ⟨0, _⟩ => show r.val = 0 + r.val; omega
    | ⟨1, _⟩ => show i.val = 0 + i.val; omega
  · rw [← place hf h1 h2 i _ hj0 hj1]
    rfl

/-! ### The softmax of the two values -/

variable (hr : ∀ k, IsReal (tokenRow x0 x1 x2 r k)) (h1 : Best (tokenRow x0 x1 x2 r) k1) (h2 : Best (masked (tokenRow x0 x1 x2 r) k1) k2)

include hr h1 h2

theorem v5_at : val_main_v5 (F := Ideal) x0 x1 x2 (ix1 r) = tokenRow x0 x1 x2 r k1 := by
  unfold val_main_v5
  have hR : S16384x2.Reduces [1] S16384 := by decide
  refine (Host.reduce_eq_fold_single (FloatOps.maximumf (F := Ideal) (φ := .f32)) (val_main_values (F := Ideal) x0 x1 x2)
    (val_main_cst (F := Ideal)) reducesTo_S16384x2_S16384_d1 hR h_S_ (ix1 r)).trans ?_
  show Finset.fold max (FloatOps.ofBits .f32 0xFF800000#32 : Ideal .f32) _ _ = _
  rw [negInf]
  have e : ∀ i : Fin 2, val_main_values (F := Ideal) x0 x1 x2 (hR.lift (ix1 r) i)
      = tokenRow x0 x1 x2 r ((![k1, k2] : Fin 2 → Fin 8) i) := by
    intro i
    rw [← values_at (fun k => (hr k).ne_bot) h1 h2 i]
    refine congrArg _ (funext fun a => ?_)
    match a with
    | ⟨0, _⟩ => rfl
    | ⟨1, _⟩ => rfl
  refine le_antisymm ((Finset.fold_max_le _).mpr ⟨bot_le, fun i _ => (e i).trans_le (h1.le _)⟩)
    ((Finset.le_fold_max _).mpr (Or.inr ⟨(0 : Fin 2), Finset.mem_univ _, (e 0).symm.le⟩))

theorem v9_at (i : Fin 2) : val_main_v9 (F := Ideal) x0 x1 x2 (ix2 r i) = tokenRow x0 x1 x2 r k1 := by
  rw [val_main_v9_apply, val_main_v8_apply, val_main_v7_apply, val_main_v6_apply, val_main_cst_0_apply, negInf]
  rw [show idx_main_v8 (idx_main_v9 (ix2 r i)) = ix1 r from funext fun a => by match a with | ⟨0, _⟩ => rfl]
  rw [v5_at hr h1 h2]
  exact max_eq_right bot_le

theorem v11_at (i : Fin 2) : val_main_v11 (F := Ideal) x0 x1 x2 (ix2 r i)
    = Ideal.exp (tokenRow x0 x1 x2 r ((![k1, k2] : Fin 2 → Fin 8) i) - tokenRow x0 x1 x2 r k1) := by
  rw [val_main_v11_apply, val_main_v10_apply, values_at (fun k => (hr k).ne_bot) h1 h2, v9_at hr h1 h2]
  rfl

theorem v11_at_zero : val_main_v11 (F := Ideal) x0 x1 x2 (ix2 r (0 : Fin 2)) = (1 : EReal) := by
  rw [v11_at hr h1 h2]
  show Ideal.exp (tokenRow x0 x1 x2 r k1 - tokenRow x0 x1 x2 r k1) = 1
  obtain ⟨a, ha⟩ := hr k1
  rw [ha, ← EReal.coe_sub, sub_self]
  show ((Real.exp 0 : ℝ) : EReal) = 1
  rw [Real.exp_zero, EReal.coe_one]

theorem v11_at_one : val_main_v11 (F := Ideal) x0 x1 x2 (ix2 r (1 : Fin 2))
    = Ideal.exp (masked (tokenRow x0 x1 x2 r) k1 k2 - tokenRow x0 x1 x2 r k1) := by
  rw [v11_at hr h1 h2, masked_of_ne (h2.ne_of_masked fun k => (hr k).ne_bot)]
  rfl

theorem v14_at (i : Fin 2) : val_main_v14 (F := Ideal) x0 x1 x2 (ix2 r i)
    = 1 + Ideal.exp (masked (tokenRow x0 x1 x2 r) k1 k2 - tokenRow x0 x1 x2 r k1) := by
  rw [val_main_v14_apply, val_main_v13_apply, val_main_v12_apply, val_main_cst_1_apply, Fin.sum_univ_two]
  have e : ∀ q : Fin 2, idx_main_v12 (idx_main_v13 (idx_main_v14 (ix2 r i))) q = ix2 r q := fun q => funext fun a => by
    match a with
    | ⟨0, _⟩ => rfl
    | ⟨1, _⟩ => rfl
  rw [e, e, v11_at_zero hr h1 h2, v11_at_one hr h1 h2]
  show Ideal.ofBits .f32 0x00000000#32 + _ = _
  rw [Ideal.ofBits_zero_f32, zero_add]

/-! ### The four results -/

variable (i : S16384x1.Idx) (hi : (i 0).val = r.val)

include hi

theorem v16_at : val_main_v16 (F := Ideal) x0 x1 x2 i = BitVec.ofNat 32 k1.val := by
  have hu : (i 1).val < 1 := (i 1).isLt
  rw [val_main_v16_apply, show idx_main_v16 i = ix2 r (0 : Fin 2) from funext fun a => by
    match a with
    | ⟨0, _⟩ => exact Fin.ext hi
    | ⟨1, _⟩ => exact Fin.ext (by show (i 1).val = 0; omega)]
  exact indices_at (fun k => (hr k).ne_bot) h1 h2 0

theorem v17_at : val_main_v17 (F := Ideal) x0 x1 x2 i = BitVec.ofNat 32 k2.val := by
  have hu : (i 1).val < 1 := (i 1).isLt
  rw [val_main_v17_apply, show idx_main_v17 i = ix2 r (1 : Fin 2) from funext fun a => by
    match a with
    | ⟨0, _⟩ => exact Fin.ext hi
    | ⟨1, _⟩ => exact Fin.ext (by show 1 + (i 1).val = 1; omega)]
  exact indices_at (fun k => (hr k).ne_bot) h1 h2 1

theorem v91_at : val_main_v91 (F := Ideal) x0 x1 x2 i
    = Ideal.div 1 (1 + Ideal.exp (masked (tokenRow x0 x1 x2 r) k1 k2 - tokenRow x0 x1 x2 r k1)) := by
  have hu : (i 1).val < 1 := (i 1).isLt
  rw [val_main_v91_apply, show idx_main_v91 i = ix2 r (0 : Fin 2) from funext fun a => by
    match a with
    | ⟨0, _⟩ => exact Fin.ext hi
    | ⟨1, _⟩ => exact Fin.ext (by show (i 1).val = 0; omega)]
  rw [val_main_v15_apply, v14_at hr h1 h2, v11_at_zero hr h1 h2]
  rfl

theorem v92_at : val_main_v92 (F := Ideal) x0 x1 x2 i
    = Ideal.div (Ideal.exp (masked (tokenRow x0 x1 x2 r) k1 k2 - tokenRow x0 x1 x2 r k1))
        (1 + Ideal.exp (masked (tokenRow x0 x1 x2 r) k1 k2 - tokenRow x0 x1 x2 r k1)) := by
  have hu : (i 1).val < 1 := (i 1).isLt
  rw [val_main_v92_apply, show idx_main_v92 i = ix2 r (1 : Fin 2) from funext fun a => by
    match a with
    | ⟨0, _⟩ => exact Fin.ext hi
    | ⟨1, _⟩ => exact Fin.ext (by show 1 + (i 1).val = 1; omega)]
  rw [val_main_v15_apply, v14_at hr h1 h2, v11_at_one hr h1 h2]
  rfl

end

end Cert.Proof.Router

end
-- ==== Proof.Router.Final.lean ====
/-
  The router's launch: what each grid point writes back to the five result arrays, the blocks it works on as rows of the
  arguments, and the arrays after the last point: the reference's results.
-/
module

public import proofs.«01_k».proof.Proof.Router.Ref
public import proofs.«01_k».proof.Proof.Gen.RouterIdeal.Value

@[expose] public section

noncomputable section

namespace Cert.Proof.Router

open Cert.RouterIdeal Cert.RouterIdeal.Gen Cert.RouterIdeal.Value
open Idealize.ShloMosaic Idealize.ShloMosaic.TcCoe Idealize.ShloMosaic.ValueIdx

variable (m : (ℓ : Loc nD τ sig) → Buf (Elt Ideal) ℓ) (c : Dev nD)

/-! ### The blocks of a grid point -/

theorem points_lt (t : Fin cfg0.N) : t.val < 64 := lt_of_lt_of_eq t.isLt N_0

theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 2) = 0 ∧ win0_1.index t (1 : Fin 2) = 0 :=
  (by decide +kernel : ∀ t : Fin grid0.N, _)
theorem idx_in2 : ∀ t : Fin cfg0.N, win0_2.index t (0 : Fin 2) = 0 ∧ win0_2.index t (1 : Fin 2) = 0 :=
  (by decide +kernel : ∀ t : Fin grid0.N, _)

/-- The three input blocks of a point. -/
abbrev xs (t : Fin cfg0.N) : Vec Ideal S256x1024 .f32 := iblk m c 0 t
abbrev ws (t : Fin cfg0.N) : Vec Ideal S8x1024 .f32 := iblk m c 1 t
abbrev bs (t : Fin cfg0.N) : Vec Ideal S1x8 .f32 := iblk m c 2 t

/-- The three arguments. -/
abbrev xArg : FVec Ideal S16384x1024 .f32 := m ((c : Thread nD τ).loc main_arg0)
abbrev wArg : FVec Ideal S8x1024 .f32 := m ((c : Thread nD τ).loc main_arg1)
abbrev bArg : FVec Ideal S8 .f32 := m ((c : Thread nD τ).loc main_arg2)

theorem xs_apply (t : Fin cfg0.N) (p : Fin 256) (d : Fin 1024) (r : Fin 16384) (hr : r.val = t.val * 256 + p.val) :
    xs m c t (ix2 p d) = xArg m c (ix2 r d) := by
  obtain ⟨e0, e1⟩ := idx_in0 t
  refine (congrFun (V_main_arg0 m c) (((cfg0.win 0).blk t).view.emb (ix2 p d))).trans ?_
  refine congrArg (xArg m c) (funext fun a => Fin.ext ?_)
  match a with
  | ⟨0, _⟩ => show win0_0.index t (0 : Fin 2) * 256 + 1 * p.val = r.val; omega
  | ⟨1, _⟩ => show win0_0.index t (1 : Fin 2) * 1024 + 1 * d.val = d.val; omega

theorem ws_apply (t : Fin cfg0.N) (k : Fin 8) (d : Fin 1024) : ws m c t (ix2 k d) = wArg m c (ix2 k d) := by
  obtain ⟨e0, e1⟩ := idx_in1 t
  refine (congrFun (V_main_arg1 m c) (((cfg0.win 1).blk t).view.emb (ix2 k d))).trans ?_
  refine congrArg (wArg m c) (funext fun a => Fin.ext ?_)
  match a with
  | ⟨0, _⟩ => show win0_1.index t (0 : Fin 2) * 8 + 1 * k.val = k.val; omega
  | ⟨1, _⟩ => show win0_1.index t (1 : Fin 2) * 1024 + 1 * d.val = d.val; omega

/-- The bias, reshaped to a row before the launch. -/
theorem V_bias : V m c main_v0 = shapeCast S1x8 (bArg m c) shapeCasts_S8_S1x8 := by
  show StableHlo.after hostOps0 (fun b => m (c, b)) (Proc.devRef .tc main_v0) = _
  rw [StableHlo.after_cons, StableHlo.after_nil, StableHlo.reshape_result]
  rfl

theorem bs_apply (t : Fin cfg0.N) (k : Fin 8) : bs m c t (ix2 0 k) = bArg m c (ix1 k) := by
  obtain ⟨e0, e1⟩ := idx_in2 t
  refine (congrFun (V_bias m c) (((cfg0.win 2).blk t).view.emb (ix2 (0 : Fin 1) k))).trans ?_
  have e : ((cfg0.win 2).blk t).view.emb (ix2 (0 : Fin 1) k) = (ix2 (0 : Fin 1) k : S1x8.Idx) := funext fun a => Fin.ext (by
    match a with
    | ⟨0, _⟩ => show win0_2.index t (0 : Fin 2) * 1 + 1 * 0 = 0; omega
    | ⟨1, _⟩ => show win0_2.index t (1 : Fin 2) * 8 + 1 * k.val = k.val; omega)
  rw [e]
  exact shapeCast_a_1a_apply _ _ _ _

/-- A row of a point's block is a token's. -/
theorem row_eq (t : Fin cfg0.N) (p : Fin 256) (r : Fin 16384) (hr : r.val = t.val * 256 + p.val) :
    blockRow (xs m c t) (ws m c t) (bs m c t) p = tokenRow (xArg m c) (wArg m c) (bArg m c) r := by
  unfold blockRow tokenRow
  refine congr (congr (congrArg logitRow ?_) ?_) ?_
  · exact funext fun d => xs_apply m c t p d r hr
  · exact funext fun k => funext fun d => ws_apply m c t k d
  · exact funext fun k => bs_apply m c t k

/-! ### What a grid point writes back -/

theorem stored3 (t : Fin cfg0.N) : (dats m 0 c).flushed 3 t = (cfg0.win 3).cut (grid0.coords t) (k0_pay12 (xs m c t) (ws m c t) (bs m c t)) := by
  have ht := points_lt t
  by_cases h0 : t.val % 64 = 0
  · rw [flushed3_A m c t h0 (by omega), out_A_3]
  · by_cases h1 : t.val % 64 = 63
    · rw [flushed3_C m c t h0 h1, out_C_3]
    · rw [flushed3_B m c t h0 h1, out_B_3]

theorem stored4 (t : Fin cfg0.N) : (dats m 0 c).flushed 4 t = (cfg0.win 4).cut (grid0.coords t) (k0_pay15 (xs m c t) (ws m c t) (bs m c t)) := by
  have ht := points_lt t
  by_cases h0 : t.val % 64 = 0
  · rw [flushed4_A m c t h0 (by omega), out_A_4]
  · by_cases h1 : t.val % 64 = 63
    · rw [flushed4_C m c t h0 h1, out_C_4]
    · rw [flushed4_B m c t h0 h1, out_B_4]

theorem stored7 (t : Fin cfg0.N) : (dats m 0 c).flushed 7 t = (cfg0.win 7).cut (grid0.coords t) (weight0 (xs m c t) (ws m c t) (bs m c t)) := by
  have ht := points_lt t
  by_cases h0 : t.val % 64 = 0
  · rw [flushed7_A m c t h0 (by omega), out_A_7]
  · by_cases h1 : t.val % 64 = 63
    · rw [flushed7_C m c t h0 h1, out_C_7]
    · rw [flushed7_B m c t h0 h1, out_B_7]

theorem stored8 (t : Fin cfg0.N) : (dats m 0 c).flushed 8 t = (cfg0.win 8).cut (grid0.coords t) (weight1 (xs m c t) (ws m c t) (bs m c t)) := by
  have ht := points_lt t
  by_cases h0 : t.val % 64 = 0
  · rw [flushed8_A m c t h0 (by omega), out_A_8]
  · by_cases h1 : t.val % 64 = 63
    · rw [flushed8_C m c t h0 h1, out_C_8]
    · rw [flushed8_B m c t h0 h1, out_B_8]

theorem stored11 (t : Fin cfg0.N) : (dats m 0 c).flushed 11 t = (cfg0.win 11).cut (grid0.coords t) (xs m c t) := by
  have ht := points_lt t
  by_cases h0 : t.val % 64 = 0
  · rw [flushed11_A m c t h0 (by omega), out_A_11]
  · by_cases h1 : t.val % 64 = 63
    · rw [flushed11_C m c t h0 h1, out_C_11]
    · rw [flushed11_B m c t h0 h1, out_B_11]

/-! ### The arrays after the last point -/

section
variable (hx : ∀ i, IsReal (xArg m c i)) (hw : ∀ i, IsReal (wArg m c i)) (hb : ∀ i, IsReal (bArg m c i))

include hx hw hb

theorem row_real (r : Fin 16384) (k : Fin 8) : IsReal (tokenRow (xArg m c) (wArg m c) (bArg m c) r k) :=
  logitRow_isReal (fun _ => hx _) (fun _ _ => hw _) (fun _ => hb _) k

theorem final3 : (dats m 0 c).arrAt 3 cfg0.N = Cert.RouterReferenceIdeal.Read.val_main_v16 (F := Ideal) (xArg m c) (wArg m c) (bArg m c) := by
  refine (dats m 0 c).arrAt_eq_of_cover 3 _ (fun t _ => ?_) (fun i => (covered_iff3 i).2 (by
    have h0 : (i 0).val < 16384 := (i 0).isLt
    have h1 : (i 1).val < 1 := (i 1).isLt
    omega))
  rw [stored3]
  obtain ⟨e0, e1, e2⟩ := idx_facts3 t
  have ht := points_lt t
  funext y
  have hy0 : (y 0).val < 256 := (y 0).isLt
  have hy1 : (y 1).val < 1 := (y 1).isLt
  have hj : (((cfg0.win 3).blk t).view.emb y 0).val = t.val * 256 + (y 0).val := by
    show win0_3.index t (0 : Fin 2) * 256 + 1 * (y 0).val = _
    omega
  let p : Fin 256 := ⟨(y 0).val, hy0⟩
  let r : Fin 16384 := ⟨t.val * 256 + (y 0).val, by omega⟩
  have hy : (cfg0.win 3).xinj (grid0.coords t) y = (ix2 p (0 : Fin 1) : S256x1.Idx) := funext fun a => Fin.ext (by
    match a with
    | ⟨0, _⟩ => rfl
    | ⟨1, _⟩ => show (y 1).val = 0; omega)
  obtain ⟨k1, h1⟩ := exists_best (tokenRow (xArg m c) (wArg m c) (bArg m c) r)
  obtain ⟨k2, h2⟩ := exists_best (masked (tokenRow (xArg m c) (wArg m c) (bArg m c) r) k1)
  show k0_pay12 (xs m c t) (ws m c t) (bs m c t) ((cfg0.win 3).xinj (grid0.coords t) y)
    = Cert.RouterReferenceIdeal.Read.val_main_v16 (F := Ideal) (xArg m c) (wArg m c) (bArg m c) (((cfg0.win 3).blk t).view.emb y)
  have e := row_eq m c t p r rfl
  rw [hy]
  refine Eq.trans ?_ (v16_at (row_real m c hx hw hb r) h1 h2 _ hj).symm
  rw [← e] at h1
  exact (pay12_at h1 (0 : Fin 1))

theorem final4 : (dats m 0 c).arrAt 4 cfg0.N = Cert.RouterReferenceIdeal.Read.val_main_v17 (F := Ideal) (xArg m c) (wArg m c) (bArg m c) := by
  refine (dats m 0 c).arrAt_eq_of_cover 4 _ (fun t _ => ?_) (fun i => (covered_iff4 i).2 (by
    have h0 : (i 0).val < 16384 := (i 0).isLt
    have h1 : (i 1).val < 1 := (i 1).isLt
    omega))
  rw [stored4]
  obtain ⟨e0, e1, e2⟩ := idx_facts4 t
  have ht := points_lt t
  funext y
  have hy0 : (y 0).val < 256 := (y 0).isLt
  have hy1 : (y 1).val < 1 := (y 1).isLt
  have hj : (((cfg0.win 4).blk t).view.emb y 0).val = t.val * 256 + (y 0).val := by
    show win0_4.index t (0 : Fin 2) * 256 + 1 * (y 0).val = _
    omega
  let p : Fin 256 := ⟨(y 0).val, hy0⟩
  let r : Fin 16384 := ⟨t.val * 256 + (y 0).val, by omega⟩
  have hy : (cfg0.win 4).xinj (grid0.coords t) y = (ix2 p (0 : Fin 1) : S256x1.Idx) := funext fun a => Fin.ext (by
    match a with
    | ⟨0, _⟩ => rfl
    | ⟨1, _⟩ => show (y 1).val = 0; omega)
  obtain ⟨k1, h1⟩ := exists_best (tokenRow (xArg m c) (wArg m c) (bArg m c) r)
  obtain ⟨k2, h2⟩ := exists_best (masked (tokenRow (xArg m c) (wArg m c) (bArg m c) r) k1)
  show k0_pay15 (xs m c t) (ws m c t) (bs m c t) ((cfg0.win 4).xinj (grid0.coords t) y)
    = Cert.RouterReferenceIdeal.Read.val_main_v17 (F := Ideal) (xArg m c) (wArg m c) (bArg m c) (((cfg0.win 4).blk t).view.emb y)
  have e := row_eq m c t p r rfl
  rw [hy]
  refine Eq.trans ?_ (v17_at (row_real m c hx hw hb r) h1 h2 _ hj).symm
  rw [← e] at h1 h2
  exact (pay15_at h1 h2 (0 : Fin 1))

theorem final7 : (dats m 0 c).arrAt 7 cfg0.N = Cert.RouterReferenceIdeal.Read.val_main_v91 (F := Ideal) (xArg m c) (wArg m c) (bArg m c) := by
  refine (dats m 0 c).arrAt_eq_of_cover 7 _ (fun t _ => ?_) (fun i => (covered_iff7 i).2 (by
    have h0 : (i 0).val < 16384 := (i 0).isLt
    have h1 : (i 1).val < 1 := (i 1).isLt
    omega))
  rw [stored7]
  obtain ⟨e0, e1, e2⟩ := idx_facts7 t
  have ht := points_lt t
  funext y
  have hy0 : (y 0).val < 256 := (y 0).isLt
  have hy1 : (y 1).val < 1 := (y 1).isLt
  have hj : (((cfg0.win 7).blk t).view.emb y 0).val = t.val * 256 + (y 0).val := by
    show win0_7.index t (0 : Fin 2) * 256 + 1 * (y 0).val = _
    omega
  let p : Fin 256 := ⟨(y 0).val, hy0⟩
  let r : Fin 16384 := ⟨t.val * 256 + (y 0).val, by omega⟩
  have hy : (cfg0.win 7).xinj (grid0.coords t) y = (ix2 p (0 : Fin 1) : S256x1.Idx) := funext fun a => Fin.ext (by
    match a with
    | ⟨0, _⟩ => rfl
    | ⟨1, _⟩ => show (y 1).val = 0; omega)
  obtain ⟨k1, h1⟩ := exists_best (tokenRow (xArg m c) (wArg m c) (bArg m c) r)
  obtain ⟨k2, h2⟩ := exists_best (masked (tokenRow (xArg m c) (wArg m c) (bArg m c) r) k1)
  show weight0 (xs m c t) (ws m c t) (bs m c t) ((cfg0.win 7).xinj (grid0.coords t) y)
    = Cert.RouterReferenceIdeal.Read.val_main_v91 (F := Ideal) (xArg m c) (wArg m c) (bArg m c) (((cfg0.win 7).blk t).view.emb y)
  have e := row_eq m c t p r rfl
  rw [hy]
  refine Eq.trans ?_ (v91_at (row_real m c hx hw hb r) h1 h2 _ hj).symm
  rw [← e] at h1 h2 ⊢
  exact (weight0_at h1 h2 (0 : Fin 1))

theorem final8 : (dats m 0 c).arrAt 8 cfg0.N = Cert.RouterReferenceIdeal.Read.val_main_v92 (F := Ideal) (xArg m c) (wArg m c) (bArg m c) := by
  refine (dats m 0 c).arrAt_eq_of_cover 8 _ (fun t _ => ?_) (fun i => (covered_iff8 i).2 (by
    have h0 : (i 0).val < 16384 := (i 0).isLt
    have h1 : (i 1).val < 1 := (i 1).isLt
    omega))
  rw [stored8]
  obtain ⟨e0, e1, e2⟩ := idx_facts8 t
  have ht := points_lt t
  funext y
  have hy0 : (y 0).val < 256 := (y 0).isLt
  have hy1 : (y 1).val < 1 := (y 1).isLt
  have hj : (((cfg0.win 8).blk t).view.emb y 0).val = t.val * 256 + (y 0).val := by
    show win0_8.index t (0 : Fin 2) * 256 + 1 * (y 0).val = _
    omega
  let p : Fin 256 := ⟨(y 0).val, hy0⟩
  let r : Fin 16384 := ⟨t.val * 256 + (y 0).val, by omega⟩
  have hy : (cfg0.win 8).xinj (grid0.coords t) y = (ix2 p (0 : Fin 1) : S256x1.Idx) := funext fun a => Fin.ext (by
    match a with
    | ⟨0, _⟩ => rfl
    | ⟨1, _⟩ => show (y 1).val = 0; omega)
  obtain ⟨k1, h1⟩ := exists_best (tokenRow (xArg m c) (wArg m c) (bArg m c) r)
  obtain ⟨k2, h2⟩ := exists_best (masked (tokenRow (xArg m c) (wArg m c) (bArg m c) r) k1)
  show weight1 (xs m c t) (ws m c t) (bs m c t) ((cfg0.win 8).xinj (grid0.coords t) y)
    = Cert.RouterReferenceIdeal.Read.val_main_v92 (F := Ideal) (xArg m c) (wArg m c) (bArg m c) (((cfg0.win 8).blk t).view.emb y)
  have e := row_eq m c t p r rfl
  rw [hy]
  refine Eq.trans ?_ (v92_at (row_real m c hx hw hb r) h1 h2 _ hj).symm
  rw [← e] at h1 h2 ⊢
  exact (weight1_at h1 h2 (0 : Fin 1))

end

theorem final11 : (dats m 0 c).arrAt 11 cfg0.N = xArg m c := by
  refine (dats m 0 c).arrAt_eq_of_cover 11 _ (fun t _ => ?_) (fun i => (covered_iff11 i).2 (by
    have h0 : (i 0).val < 16384 := (i 0).isLt
    have h1 : (i 1).val < 1024 := (i 1).isLt
    omega))
  rw [stored11]
  obtain ⟨e0, e1, e2⟩ := idx_facts11 t
  have ht := points_lt t
  funext y
  have hy0 : (y 0).val < 256 := (y 0).isLt
  have hy1 : (y 1).val < 1024 := (y 1).isLt
  let p : Fin 256 := ⟨(y 0).val, hy0⟩
  let q : Fin 1024 := ⟨(y 1).val, hy1⟩
  let r : Fin 16384 := ⟨t.val * 256 + (y 0).val, by omega⟩
  have hy : (cfg0.win 11).xinj (grid0.coords t) y = (ix2 p q : S256x1024.Idx) := funext fun a => Fin.ext (by
    match a with
    | ⟨0, _⟩ => rfl
    | ⟨1, _⟩ => rfl)
  have hj : ((cfg0.win 11).blk t).view.emb y = (ix2 r q : S16384x1024.Idx) := funext fun a => Fin.ext (by
    match a with
    | ⟨0, _⟩ => show win0_11.index t (0 : Fin 2) * 256 + 1 * (y 0).val = t.val * 256 + (y 0).val; omega
    | ⟨1, _⟩ => show win0_11.index t (1 : Fin 2) * 1024 + 1 * (y 1).val = (y 1).val; omega)
  show xs m c t ((cfg0.win 11).xinj (grid0.coords t) y) = xArg m c (((cfg0.win 11).blk t).view.emb y)
  rw [hy, hj]
  exact xs_apply m c t p q r rfl

end Cert.Proof.Router

end
-- ==== Proof.Router.Counting.lean ====
/-
  What one step of the router's body leaves in the blocks that take part in counting: the two ranks of a row, the running
  counts that a step hands to the next, and, at the last step, the experts' first slots and the tiles' experts.
-/
module

public import proofs.«01_k».proof.Proof.Router.Body
public import Idealize.ShloMosaic.Lib.VecWindow

@[expose] public section

noncomputable section

namespace Cert.Proof.Router

open Cert.RouterIdeal Cert.RouterIdeal.Gen
open Idealize.ShloMosaic Idealize.ShloMosaic.TcCoe

variable {F : FTy → Type} [FloatOps F] [Named F]

/-- The expert that an entry of a block of logits belongs to. -/
def lanes : IVec S256x8 32 := iota .tc S256x8 32 [1] iota_S256x8_d1_w32

section Values
variable (x0 : Vec F S256x1024 .f32) (x1 : Vec F S8x1024 .f32) (x2 : Vec F S1x8 .f32) (xs0 : Vec F S1x8 .f32)

/-- The marks of the rows' first experts, of their second experts, of both, and their running sums up to six shifts. -/
def marks0 : FVec F S256x8 .f32 := k0_pay21 lanes (k0_pay12 x0 x1 x2)
def marks1 : FVec F S256x8 .f32 := k0_pay22 lanes (k0_pay15 x0 x1 x2)
def marks : FVec F S256x8 .f32 := k0_pay23 lanes (k0_pay12 x0 x1 x2) (k0_pay15 x0 x1 x2)
def sums : FVec F S256x8 .f32 := k0_pay24 lanes (k0_pay12 x0 x1 x2) (k0_pay15 x0 x1 x2)

/-- A row's ranks, from the step's inputs and the counts before the step. -/
def rank0 : IVec S256x1 32 := k0_pay2 (marks0 x0 x1 x2) (marks x0 x1 x2) (sums x0 x1 x2) xs0
def rank1 : IVec S256x1 32 := k0_pay3 (marks1 x0 x1 x2) (marks x0 x1 x2) (sums x0 x1 x2) xs0
/-- The counts after the step. -/
def counts : FVec F S1x8 .f32 := k0_pay5 (marks x0 x1 x2) xs0
/-- The experts' first slots, and the tiles' experts. -/
def firstSlots : IVec S1x8 32 := k0_pay7 (marks x0 x1 x2) xs0
def tileExperts : IVec S136x1 32 := k0_pay8 (marks x0 x1 x2) xs0
end Values

variable (c : Dev nD) (i : grid0.Coords) (arg1 : Memref sig .tc .vmem S256x1024 .f32) (harg1 : arg1.IsWhole)
variable (arg2 : Memref sig .tc .vmem S8x1024 .f32) (harg2 : arg2.IsWhole) (arg3 : Memref sig .tc .vmem S1x8 .f32)
variable (harg3 : arg3.IsWhole) (arg4 : Memref sig .tc .vmem S256x1 .i32) (harg4 : arg4.IsWhole)
variable (arg5 : Memref sig .tc .vmem S256x1 .i32) (harg5 : arg5.IsWhole) (arg6 : Memref sig .tc .vmem S256x1 .i32)
variable (harg6 : arg6.IsWhole) (arg7 : Memref sig .tc .vmem S256x1 .i32) (harg7 : arg7.IsWhole)
variable (arg8 : Memref sig .tc .vmem S256x1 .f32) (harg8 : arg8.IsWhole) (arg9 : Memref sig .tc .vmem S256x1 .f32)
variable (harg9 : arg9.IsWhole) (arg10 : Memref sig .tc .vmem S1x8 .i32) (harg10 : arg10.IsWhole)
variable (arg11 : Memref sig .tc .vmem S136x1 .i32) (harg11 : arg11.IsWhole) (arg12 : Memref sig .tc .vmem S256x1024 .f32)
variable (harg12 : arg12.IsWhole) (arg13 : Memref sig .tc .vmem S1x8 .f32) (harg13 : arg13.IsWhole)
variable (x0 : Vec F S256x1024 .f32) (x1 : Vec F S8x1024 .f32) (x2 : Vec F S1x8 .f32) (xs0 : Vec F S1x8 .f32)

/-- A function of the three loaded blocks and the loaded counts. -/
theorem at_loads_counts {β : Type} (f : Vec F S256x1024 .f32 → Vec F S8x1024 .f32 → Vec F S1x8 .f32 → Vec F S1x8 .f32 → β)
    (b1 : ∀ a, (![0, 0] : Fin 2 → ℕ) a + S256x1024.size a ≤ S256x1024.size a)
    (b2 : ∀ a, (![0, 0] : Fin 2 → ℕ) a + S8x1024.size a ≤ S8x1024.size a)
    (b3 : ∀ a, (![0, 0] : Fin 2 → ℕ) a + S1x8.size a ≤ S1x8.size a) {y y' : Vec F S1x8 .f32} (hy : y = y') :
    f (arg1.view.readAt (Elt F) (Rect.unit (s := S256x1024) ![0, 0] S256x1024.size b1).toLoadRect (harg1.unread x0))
        (arg2.view.readAt (Elt F) (Rect.unit (s := S8x1024) ![0, 0] S8x1024.size b2).toLoadRect (harg2.unread x1))
        (arg3.view.readAt (Elt F) (Rect.unit (s := S1x8) ![0, 0] S1x8.size b3).toLoadRect (harg3.unread x2)) y
      = f x0 x1 x2 y' :=
  congr (at_loads arg1 harg1 arg2 harg2 arg3 harg3 x0 x1 x2 f b1 b2 b3) hy

/-- The first step's counts before it are the zeros that it stored. -/
theorem zero_counts {sp : Space} (v : View sig .tc sp S1x8 .f32) (g : v.ty.Contents (Elt F))
    (inb inb' : ∀ a, (![0, 0] : Fin 2 → ℕ) a + S1x8.size a ≤ S1x8.size a) (w : Vec F S1x8 .f32) :
    v.readAt (Elt F) (Rect.unit (s := S1x8) ![0, 0] S1x8.size inb).toLoadRect
      (v.writes (Elt F) g [⟨Rect.unit (s := S1x8) ![0, 0] S1x8.size inb', w⟩]) = w :=
  (View.ld_unit_zero off2 inb (v.read (Elt F) (v.writes (Elt F) g [⟨Rect.unit (s := S1x8) ![0, 0] S1x8.size inb', w⟩]))).trans
    (read_stored v g off2 inb' w)

/-- The last of several stores over the whole of a buffer is what remains. -/
theorem read_last {sp : Space} {S : Shape} {e : EltTy} (v : View sig .tc sp S e) (g : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) g (⟨Rect.unit off S.size inb, w⟩ :: L)) = w := by
  funext y
  exact View.read_writes_cons_unit_of_mem v g inb w L y y h fun a => by simp

/-! ## The first step -/

theorem out_A_5 (hc0 : cond0_0 i) (hc1 : ¬cond0_1 i) :
    out0_A_5
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2
      = rank0 x0 x1 x2 k0_pay9 := by
  unfold out0_A_5
  refine (read_stored (S := S256x1) _ _ off2 _ _).trans ?_
  exact at_loads_counts arg1 harg1 arg2 harg2 arg3 harg3 x0 x1 x2 rank0 _ _ _ (zero_counts _ _ _ _ _)

theorem out_A_6 (hc0 : cond0_0 i) (hc1 : ¬cond0_1 i) :
    out0_A_6
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2
      = rank1 x0 x1 x2 k0_pay9 := by
  unfold out0_A_6
  refine (read_stored (S := S256x1) _ _ off2 _ _).trans ?_
  exact at_loads_counts arg1 harg1 arg2 harg2 arg3 harg3 x0 x1 x2 rank1 _ _ _ (zero_counts _ _ _ _ _)

theorem carry_A (hc0 : cond0_0 i) (hc1 : ¬cond0_1 i) :
    sout0_A_0
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2
      = counts x0 x1 x2 k0_pay9 := by
  unfold sout0_A_0
  refine (read_last (S := S1x8) _ _ off2 _ _ _).trans ?_
  exact at_loads_counts arg1 harg1 arg2 harg2 arg3 harg3 x0 x1 x2 counts _ _ _ (zero_counts _ _ _ _ _)

/-! ## A step between -/

theorem out_B_5 (hc0 : ¬cond0_0 i) (hc1 : ¬cond0_1 i) :
    out0_B_5
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = rank0 x0 x1 x2 xs0 := by
  unfold out0_B_5
  refine (read_stored (S := S256x1) _ _ off2 _ _).trans ?_
  exact at_loads_counts arg1 harg1 arg2 harg2 arg3 harg3 x0 x1 x2 rank0 _ _ _ (load_all (S := S1x8) arg13 harg13 xs0 off2 _)

theorem out_B_6 (hc0 : ¬cond0_0 i) (hc1 : ¬cond0_1 i) :
    out0_B_6
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = rank1 x0 x1 x2 xs0 := by
  unfold out0_B_6
  refine (read_stored (S := S256x1) _ _ off2 _ _).trans ?_
  exact at_loads_counts arg1 harg1 arg2 harg2 arg3 harg3 x0 x1 x2 rank1 _ _ _ (load_all (S := S1x8) arg13 harg13 xs0 off2 _)

theorem carry_B (hc0 : ¬cond0_0 i) (hc1 : ¬cond0_1 i) :
    sout0_B_0
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = counts x0 x1 x2 xs0 := by
  unfold sout0_B_0
  refine (read_last (S := S1x8) _ _ off2 _ _ _).trans ?_
  exact at_loads_counts arg1 harg1 arg2 harg2 arg3 harg3 x0 x1 x2 counts _ _ _ (load_all (S := S1x8) arg13 harg13 xs0 off2 _)

/-! ## The last step -/

theorem out_C_5 (hc0 : ¬cond0_0 i) (hc1 : cond0_1 i) :
    out0_C_5
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = rank0 x0 x1 x2 xs0 := by
  unfold out0_C_5
  refine (read_stored (S := S256x1) _ _ off2 _ _).trans ?_
  exact at_loads_counts arg1 harg1 arg2 harg2 arg3 harg3 x0 x1 x2 rank0 _ _ _ (load_all (S := S1x8) arg13 harg13 xs0 off2 _)

theorem out_C_6 (hc0 : ¬cond0_0 i) (hc1 : cond0_1 i) :
    out0_C_6
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = rank1 x0 x1 x2 xs0 := by
  unfold out0_C_6
  refine (read_stored (S := S256x1) _ _ off2 _ _).trans ?_
  exact at_loads_counts arg1 harg1 arg2 harg2 arg3 harg3 x0 x1 x2 rank1 _ _ _ (load_all (S := S1x8) arg13 harg13 xs0 off2 _)

theorem carry_C (hc0 : ¬cond0_0 i) (hc1 : cond0_1 i) :
    sout0_C_0
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = counts x0 x1 x2 xs0 := by
  unfold sout0_C_0
  refine (read_last (S := S1x8) _ _ off2 _ _ _).trans ?_
  exact at_loads_counts arg1 harg1 arg2 harg2 arg3 harg3 x0 x1 x2 counts _ _ _ (load_all (S := S1x8) arg13 harg13 xs0 off2 _)

theorem out_C_9 (hc0 : ¬cond0_0 i) (hc1 : cond0_1 i) :
    out0_C_9
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = firstSlots x0 x1 x2 xs0 := by
  unfold out0_C_9
  refine (read_stored (S := S1x8) _ _ off2 _ _).trans ?_
  exact at_loads_counts arg1 harg1 arg2 harg2 arg3 harg3 x0 x1 x2 firstSlots _ _ _ (load_all (S := S1x8) arg13 harg13 xs0 off2 _)

theorem out_C_10 (hc0 : ¬cond0_0 i) (hc1 : cond0_1 i) :
    out0_C_10
      c i arg1 harg1 arg2 harg2 arg3 harg3 arg4 harg4 arg5 harg5
      arg6 harg6 arg7 harg7 arg8 harg8 arg9 harg9 arg10 harg10 arg11 harg11 arg12 harg12 arg13 harg13
      hc0 hc1 x0 x1 x2 xs0
      = tileExperts x0 x1 x2 xs0 := by
  unfold out0_C_10
  refine (read_stored (S := S136x1) _ _ off2 _ _).trans ?_
  exact at_loads_counts arg1 harg1 arg2 harg2 arg3 harg3 x0 x1 x2 tileExperts _ _ _ (load_all (S := S1x8) arg13 harg13 xs0 off2 _)

end Cert.Proof.Router

end
-- ==== Proof.Router.Queue.lean ====
/-
  Counting in the natural numbers: how many choices of an expert come before a token, where each expert's queue starts when
  every queue fills whole runs of 256 slots, and which expert a run belongs to.
-/
module

public import Idealize.ShloMosaic.PureOps.Ideal.Laws
public import Idealize.ShloMosaic.PureOps.Reduce

@[expose] public section

noncomputable section

namespace Cert.Proof.Router

open Idealize.ShloMosaic

/-- The sum of the first `n` terms. -/
def run (f : ℕ → ℕ) (n : ℕ) : ℕ := ∑ p ∈ Finset.range n, f p

theorem run_succ (f : ℕ → ℕ) (n : ℕ) : run f (n + 1) = run f n + f n := Finset.sum_range_succ f n

theorem run_add (f : ℕ → ℕ) (a n : ℕ) : run f (a + n) = run f a + run (fun p => f (a + p)) n := Finset.sum_range_add f a n

theorem run_fin (f : ℕ → ℕ) (n : ℕ) : (∑ p : Fin n, f p.val) = run f n := Fin.sum_univ_eq_sum_range f n

theorem run_le {f : ℕ → ℕ} {d : ℕ} (h : ∀ p, f p ≤ d) (n : ℕ) : run f n ≤ d * n := by
  induction n with
  | zero => simp [run]
  | succ n ih => rw [run_succ, Nat.mul_succ]; exact Nat.add_le_add ih (h n)

theorem run_mono (f : ℕ → ℕ) {a b : ℕ} (h : a ≤ b) : run f a ≤ run f b := by
  obtain ⟨d, rfl⟩ := Nat.exists_eq_add_of_le h
  rw [run_add]; exact Nat.le_add_right _ _

/-- A sum over `Fin N` of the terms before `n`. -/
theorem run_before (f : ℕ → ℕ) (N n : ℕ) (h : n ≤ N) : (∑ p : Fin N, if p.val < n then f p.val else 0) = run f n := by
  rw [Fin.sum_univ_eq_sum_range (fun p => if p < n then f p else 0) N, ← Finset.sum_filter]
  refine Finset.sum_congr (Finset.ext fun p => ?_) fun _ _ => rfl
  simp only [Finset.mem_filter, Finset.mem_range]
  omega

/-- The sum of the last `s` terms up to `p`, as a difference of two sums. -/
def win (f : ℕ → ℕ) (s p : ℕ) : ℝ := (run f (p + 1) : ℝ) - run f (p + 1 - s)

theorem win_one (f : ℕ → ℕ) (p : ℕ) : win f 1 p = f p := by
  unfold win; rw [Nat.add_sub_cancel, run_succ]; push_cast; ring

theorem win_low (f : ℕ → ℕ) {s p : ℕ} (h : p < s) : win f s p = run f (p + 1) := by
  unfold win; rw [Nat.sub_eq_zero_of_le h]; simp [run]

theorem win_high (f : ℕ → ℕ) {s p : ℕ} (h : s ≤ p) : win f s p + win f s (p - s) = win f (2 * s) p := by
  unfold win
  rw [show p - s + 1 = p + 1 - s by omega, show p + 1 - 2 * s = p + 1 - s - s by omega]
  ring

theorem win_twice (f : ℕ → ℕ) {s p : ℕ} (h : p < s) : win f s p + 0 = win f (2 * s) p := by
  rw [win_low f h, win_low f (by omega : p < 2 * s), add_zero]

/-! ### Words -/

theorem fold_words {ι : Type} (S : Finset ι) (g : ι → ℕ) :
    S.fold IntOp.addi 0#32 (fun p => BitVec.ofNat 32 (g p)) = BitVec.ofNat 32 (∑ p ∈ S, g p) := by
  classical
  induction S using Finset.induction_on with
  | empty => simp
  | insert a S ha ih => rw [Finset.sum_insert ha, Finset.fold_insert ha, ih, BitVec.ofNat_add]; rfl

theorem toInt_small {n : ℕ} (h : n < 2 ^ 31) : (BitVec.ofNat 32 n).toInt = n := by
  rw [BitVec.toInt_eq_toNat_of_lt (by rw [BitVec.toNat_ofNat]; omega), BitVec.toNat_ofNat]
  omega

/-- A natural number goes through the reals to its word. -/
theorem fptosi_nat {n : ℕ} (h : n < 2 ^ 31) : Ideal.fptosi 32 ((n : ℝ) : EReal) = BitVec.ofNat 32 n := by
  rw [Ideal.fptosi, Ideal.toIntClamped_coe, if_pos (Nat.cast_nonneg n), Int.floor_natCast, min_eq_right (by push_cast; omega),
    max_eq_right (by push_cast; omega)]
  exact BitVec.ofInt_natCast 32 n

/-! ### The queues -/

variable (one two : Fin 16384 → Fin 8)

/-- How many of its two choices token `p` gives to expert `k`. -/
def hits (k p : ℕ) : ℕ :=
  if h : p < 16384 then (if (one ⟨p, h⟩).val = k then 1 else 0) + (if (two ⟨p, h⟩).val = k then 1 else 0) else 0

theorem hits_le (k p : ℕ) : hits one two k p ≤ 2 := by
  unfold hits; split_ifs <;> omega

theorem hits_at (k : ℕ) (p : Fin 16384) : hits one two k p.val = (if (one p).val = k then 1 else 0) + (if (two p).val = k then 1 else 0) := by
  unfold hits; rw [dif_pos p.isLt]

/-- The choices of expert `k` before token `n`. -/
def queue (k n : ℕ) : ℕ := run (hits one two k) n

theorem queue_le (k n : ℕ) : queue one two k n ≤ 2 * n := run_le (hits_le one two k) n

/-- The slots of expert `k`: its load rounded up to whole runs. -/
def slots (k : ℕ) : ℕ := (queue one two k 16384 + 255) / 256 * 256

theorem slots_le (k : ℕ) : slots one two k ≤ 33024 := by
  have := queue_le one two k 16384
  unfold slots; omega

/-- The first slot of expert `k`. -/
def start (k : ℕ) : ℕ := run (slots one two) k

theorem start_le (k : Fin 8) : start one two k.val ≤ 264192 :=
  (run_le (slots_le one two) k.val).trans (by have := k.isLt; omega)

/-- The expert of the run that begins at slot `x`. -/
theorem exists_owner (x : ℕ) : ∃ E : Fin 8, ∀ k : Fin 8, start one two k.val ≤ x ↔ k ≤ E := by
  classical
  have hne : (Finset.univ.filter fun k : Fin 8 => start one two k.val ≤ x).Nonempty := ⟨0, Finset.mem_filter.mpr ⟨Finset.mem_univ _, by simp [start, run]⟩⟩
  refine ⟨Finset.max' _ hne, fun k => ⟨fun h => Finset.le_max' _ k (by simpa using h), fun h => ?_⟩⟩
  have hm := (Finset.mem_filter.mp (Finset.max'_mem _ hne)).2
  exact (run_mono _ h).trans hm

end Cert.Proof.Router

end
-- ==== Proof.Router.CountPay.lean ====
/-
  What the router's body counts, at the ideal values: the marks of the chosen experts, their running sums by doubled
  shifts, the two ranks of a row, the counts after a step, and the first slots and owners of the runs.
-/
module

public import proofs.«01_k».proof.Proof.Router.Counting
public import proofs.«01_k».proof.Proof.Router.Pay
public import proofs.«01_k».proof.Proof.Router.Queue
public import Idealize.ShloMosaic.Lib.Pipeline.Value

@[expose] public section

noncomputable section

namespace Cert.Proof.Router

open Cert.RouterIdeal Cert.RouterIdeal.Gen
open Idealize.ShloMosaic Idealize.ShloMosaic.TcCoe Idealize.ShloMosaic.ValueIdx

/-! ### Running sums by doubled shifts -/

theorem zero_f32 : (Scalar.ofBits (F := Ideal) .f32 0x00000000#32 : Ideal .f32) = (0 : EReal) := Ideal.ofBits_zero_f32

theorem shift_rows {s n : ℕ} (X : FVec Ideal S256x8 .f32) (k : Fin 8) (f : ℕ → ℕ)
    (hX : ∀ r : Fin 256, X (ix2 r k) = ((win f s r.val : ℝ) : EReal)) (hs : S256x8.Slices ![0, 0] ⟨2, ![n, 8]⟩)
    (hc : Shape.Concatenates [⟨2, ![s, 8]⟩, ⟨2, ![n, 8]⟩] S256x8 0) (hsn : s + n = 256) {s' : ℕ} (hs' : s' = 2 * s) (r : Fin 256) :
    addf X (concatenate S256x8 0 [⟨⟨2, ![s, 8]⟩, broadcast ⟨2, ![s, 8]⟩ (Scalar.ofBits (F := Ideal) .f32 0x00000000#32)⟩,
        ⟨⟨2, ![n, 8]⟩, extractStridedSlice ⟨2, ![n, 8]⟩ ![0, 0] X hs⟩] hc) (ix2 r k)
      = ((win f s' r.val : ℝ) : EReal) := by
  subst hs'
  show (X (ix2 r k) : EReal) + _ = _
  rw [hX]
  by_cases h : r.val < s
  · rw [← win_twice f h, EReal.coe_add]
    refine congrArg (((win f s r.val : ℝ) : EReal) + ·) ?_
    refine (concatenate_pair_apply_left (s₁ := ⟨2, ![s, 8]⟩) (s₂ := ⟨2, ![n, 8]⟩) (0 : Fin 2) _ _ hc (ix2 r k) rfl (ix2 (⟨r.val, h⟩ : Fin s) k) fun b => ?_).trans ?_
    · match b with
      | ⟨0, _⟩ => rfl
      | ⟨1, _⟩ => rfl
    · exact zero_f32
  · have hr := r.isLt
    rw [← win_high f (not_lt.mp h), EReal.coe_add]
    refine congrArg (((win f s r.val : ℝ) : EReal) + ·) ?_
    refine (concatenate_pair_apply_right (s₁ := ⟨2, ![s, 8]⟩) (s₂ := ⟨2, ![n, 8]⟩) (0 : Fin 2) _ _ hc (ix2 r k) rfl rfl (ix2 (⟨r.val - s, by omega⟩ : Fin n) k) (fun b hb => ?_) ?_).trans ?_
    · match b with
      | ⟨0, _⟩ => exact absurd rfl hb
      | ⟨1, _⟩ => rfl
    · show r.val - s + s = r.val
      omega
    · refine (extractStridedSlice_apply _ X hs _ (ix2 (⟨r.val - s, by omega⟩ : Fin 256) k) fun b => ?_).trans (hX _)
      match b with
      | ⟨0, _⟩ => show r.val - s = 0 + (r.val - s); omega
      | ⟨1, _⟩ => show k.val = 0 + k.val; omega

theorem shift_cols {s n : ℕ} (X : FVec Ideal S1x8 .f32) (f : ℕ → ℕ)
    (hX : ∀ k : Fin 8, X (ix2 0 k) = ((win f s k.val : ℝ) : EReal)) (hs : S1x8.Slices ![0, 0] ⟨2, ![1, n]⟩)
    (hc : Shape.Concatenates [⟨2, ![1, s]⟩, ⟨2, ![1, n]⟩] S1x8 1) (hsn : s + n = 8) {s' : ℕ} (hs' : s' = 2 * s) (k : Fin 8) :
    addf X (concatenate S1x8 1 [⟨⟨2, ![1, s]⟩, broadcast ⟨2, ![1, s]⟩ (Scalar.ofBits (F := Ideal) .f32 0x00000000#32)⟩,
        ⟨⟨2, ![1, n]⟩, extractStridedSlice ⟨2, ![1, n]⟩ ![0, 0] X hs⟩] hc) (ix2 0 k)
      = ((win f s' k.val : ℝ) : EReal) := by
  subst hs'
  show (X (ix2 0 k) : EReal) + _ = _
  rw [hX]
  by_cases h : k.val < s
  · rw [← win_twice f h, EReal.coe_add]
    refine congrArg (((win f s k.val : ℝ) : EReal) + ·) ?_
    refine (concatenate_pair_apply_left (s₁ := ⟨2, ![1, s]⟩) (s₂ := ⟨2, ![1, n]⟩) (1 : Fin 2) _ _ hc (ix2 0 k) rfl (ix2 (0 : Fin 1) (⟨k.val, h⟩ : Fin s)) fun b => ?_).trans ?_
    · match b with
      | ⟨0, _⟩ => rfl
      | ⟨1, _⟩ => rfl
    · exact zero_f32
  · have hr := k.isLt
    rw [← win_high f (not_lt.mp h), EReal.coe_add]
    refine congrArg (((win f s k.val : ℝ) : EReal) + ·) ?_
    refine (concatenate_pair_apply_right (s₁ := ⟨2, ![1, s]⟩) (s₂ := ⟨2, ![1, n]⟩) (1 : Fin 2) _ _ hc (ix2 0 k) rfl rfl (ix2 (0 : Fin 1) (⟨k.val - s, by omega⟩ : Fin n)) (fun b hb => ?_) ?_).trans ?_
    · match b with
      | ⟨0, _⟩ => rfl
      | ⟨1, _⟩ => exact absurd rfl hb
    · show k.val - s + s = k.val
      omega
    · refine (extractStridedSlice_apply _ X hs _ (ix2 (0 : Fin 1) (⟨k.val - s, by omega⟩ : Fin 8)) fun b => ?_).trans (hX _)
      match b with
      | ⟨0, _⟩ => rfl
      | ⟨1, _⟩ => show k.val - s = 0 + (k.val - s); omega

/-! ### Reals and words -/

theorem real_sum {ι : Type} (S : Finset ι) (g : ι → ℕ) : (((∑ p ∈ S, g p : ℕ) : ℝ) : EReal) = ∑ p ∈ S, ((g p : ℝ) : EReal) := by
  classical
  induction S using Finset.induction_on with
  | empty => simp
  | insert a S ha ih => rw [Finset.sum_insert ha, Finset.sum_insert ha, ← ih, Nat.cast_add, EReal.coe_add]

theorem f256 : (Scalar.ofBits (F := Ideal) .f32 0x43800000#32 : Ideal .f32) = ((256 : ℝ) : EReal) := by
  show Ideal.ofBits .f32 0x43800000#32 = _
  simp [Ideal.ofBits, Ideal.ieee]
  rw [← EReal.coe_mul]
  norm_num

/-- A count over 256, rounded up, times 256. -/
theorem rounded (c : ℕ) :
    (Ideal.liftRound Int.ceil (Ideal.div ((c : ℝ) : EReal) (Scalar.ofBits (F := Ideal) .f32 0x43800000#32 : Ideal .f32))
      * (Scalar.ofBits (F := Ideal) .f32 0x43800000#32 : Ideal .f32) : EReal) = (((c + 255) / 256 * 256 : ℕ) : ℝ) := by
  rw [f256]
  have hne : ((256 : ℝ) : EReal) ≠ 0 := by norm_cast
  have hd : Ideal.div ((c : ℝ) : EReal) ((256 : ℝ) : EReal) = (((c : ℝ) / 256 : ℝ) : EReal) := by
    unfold Ideal.div
    rw [if_neg hne, ← EReal.coe_inv, ← EReal.coe_mul, div_eq_mul_inv]
  have hc : ⌈((c : ℝ) / 256)⌉ = (((c + 255) / 256 : ℕ) : ℤ) := by
    have hlo : 256 * ((c + 255) / 256) ≤ c + 255 := Nat.mul_div_le _ _
    have hhi : c ≤ 256 * ((c + 255) / 256) := by omega
    have hlo' : (256 : ℝ) * (((c + 255) / 256 : ℕ) : ℝ) ≤ c + 255 := by exact_mod_cast hlo
    have hhi' : (c : ℝ) ≤ 256 * (((c + 255) / 256 : ℕ) : ℝ) := by exact_mod_cast hhi
    rw [Int.ceil_eq_iff]
    constructor
    · rw [lt_div_iff₀ (by norm_num), Int.cast_natCast]; linarith
    · rw [div_le_iff₀ (by norm_num), Int.cast_natCast]; linarith
  rw [hd]
  show (((⌈((c : ℝ) / 256)⌉ : ℤ) : ℝ) : EReal) * ((256 : ℝ) : EReal) = _
  rw [hc, ← EReal.coe_mul]
  push_cast
  rfl

theorem sge_words {x y : ℕ} (hx : x < 2 ^ 31) (hy : y < 2 ^ 31) :
    IntOp.cmpi .sge (BitVec.ofNat 32 x) (BitVec.ofNat 32 y) = BitVec.ofBool (decide (y ≤ x)) := by
  show BitVec.ofBool ((BitVec.ofNat 32 y).sle (BitVec.ofNat 32 x)) = _
  rw [BitVec.sle, toInt_small hx, toInt_small hy]
  simp

theorem lift_tile (q : Fin 136) (k : Fin 8) :
    (reduces_S136x8_S136 : S136x8.Reduces [1] S136).lift (ix1 q) k = ix2 q k := by
  funext a
  match a with
  | ⟨0, _⟩ => rfl
  | ⟨1, _⟩ => rfl

/-- The column of the rows' sums of words. -/
theorem sum_column (X : IVec S136x8 32) (q : Fin 136) (u : Fin 1) :
    shapeCast S136x1 (multiReductionI .add [1] S136 X 0#32 reduces_S136x8_S136 rfl) shapeCasts_S136_S136x1 (ix2 q u)
      = (Finset.univ : Finset (Fin 8)).fold IntOp.addi 0#32 fun k => X (ix2 q k) := by
  rw [shapeCast_a_a1_apply]
  refine (multiReductionI_eq_fold .add X _ reduces_S136x8_S136 rfl (ix1 q)).trans ?_
  rw [Shape.Reduces.fold_filter_drop_single]
  exact congrArg (Finset.fold IntOp.addi _ · _) (funext fun k => congrArg X (lift_tile q k))

/-! ### A step's marks -/

theorem mark_at (a k : Fin 8) : Scalar.sitofp (F := Ideal) .f32
    ((IntOp.cmpi .eq (BitVec.ofNat 32 k.val) (BitVec.ofNat 32 a.val)).setWidth 32) = (((if a.val = k.val then 1 else 0 : ℕ) : ℝ) : EReal) := by
  have e : ((IntOp.cmpi .eq (BitVec.ofNat 32 k.val) (BitVec.ofNat 32 a.val)).setWidth 32).toInt = (if a.val = k.val then 1 else 0 : ℕ) := by
    revert a k; decide
  rw [Ideal.scalar_sitofp_def, e]
  norm_cast

section
variable (x0 : Vec Ideal S256x1024 .f32) (x1 : Vec Ideal S8x1024 .f32) (x2 : Vec Ideal S1x8 .f32)
variable (r : Fin 256) {a b : Fin 8} (h1 : Best (blockRow x0 x1 x2 r) a) (h2 : Best (masked (blockRow x0 x1 x2 r) a) b)

include h1 in
theorem marks0_at (k : Fin 8) : marks0 x0 x1 x2 (ix2 r k) = (((if a.val = k.val then 1 else 0 : ℕ) : ℝ) : EReal) := by
  rw [← mark_at]
  show Scalar.sitofp (F := Ideal) .f32 ((IntOp.cmpi .eq (lanes (ix2 r k)) (broadcastTo S256x8 (k0_pay12 x0 x1 x2) broadcasts_S256x1_S256x8 (ix2 r k))).setWidth 32) = _
  rw [lanes, position, spread, pay12_at h1]

include h1 h2 in
theorem marks1_at (k : Fin 8) : marks1 x0 x1 x2 (ix2 r k) = (((if b.val = k.val then 1 else 0 : ℕ) : ℝ) : EReal) := by
  rw [← mark_at]
  show Scalar.sitofp (F := Ideal) .f32 ((IntOp.cmpi .eq (lanes (ix2 r k)) (broadcastTo S256x8 (k0_pay15 x0 x1 x2) broadcasts_S256x1_S256x8 (ix2 r k))).setWidth 32) = _
  rw [lanes, position, spread, pay15_at h1 h2]

end

/-! ### From the marks, in the terms of the queues -/

section
variable {x0 : Vec Ideal S256x1024 .f32} {x1 : Vec Ideal S8x1024 .f32} {x2 : Vec Ideal S1x8 .f32} {xs0 : Vec Ideal S1x8 .f32}
variable {one two : Fin 16384 → Fin 8} {n : ℕ} (hn : n + 256 ≤ 16384)
variable (h1 : ∀ (r : Fin 256) (p : Fin 16384), p.val = n + r.val → Best (blockRow x0 x1 x2 r) (one p))
variable (h2 : ∀ (r : Fin 256) (p : Fin 16384), p.val = n + r.val → Best (masked (blockRow x0 x1 x2 r) (one p)) (two p))
variable (hxs : ∀ k : Fin 8, xs0 (ix2 0 k) = ((queue one two k.val n : ℝ) : EReal))

include hn h1 h2

/-- The block's terms of an expert's queue. -/
theorem marks_at (r : Fin 256) (k : Fin 8) : marks x0 x1 x2 (ix2 r k) = ((hits one two k.val (n + r.val) : ℝ) : EReal) := by
  obtain ⟨p, hp⟩ : ∃ p : Fin 16384, p.val = n + r.val := ⟨⟨n + r.val, by omega⟩, rfl⟩
  rw [← hp, hits_at one two k.val p, Nat.cast_add, EReal.coe_add, ← marks0_at x0 x1 x2 r (h1 r p hp), ← marks1_at x0 x1 x2 r (h1 r p hp) (h2 r p hp)]
  rfl

theorem sums_at (r : Fin 256) (k : Fin 8) :
    sums x0 x1 x2 (ix2 r k) = ((win (fun p => hits one two k.val (n + p)) 64 r.val : ℝ) : EReal) := by
  have e0 : ∀ r : Fin 256, marks x0 x1 x2 (ix2 r k) = ((win (fun p => hits one two k.val (n + p)) 1 r.val : ℝ) : EReal) := fun r => by
    rw [win_one]; exact marks_at hn h1 h2 r k
  have e1 := shift_rows (s' := 2) _ k _ e0 slices_S256x8_o0_0_S255x8 concatenates_S1x8_S255x8_S256x8_d0 rfl rfl
  have e2 := shift_rows (s' := 4) _ k _ e1 slices_S256x8_o0_0_S254x8 concatenates_S2x8_S254x8_S256x8_d0 rfl rfl
  have e3 := shift_rows (s' := 8) _ k _ e2 slices_S256x8_o0_0_S252x8 concatenates_S4x8_S252x8_S256x8_d0 rfl rfl
  have e4 := shift_rows (s' := 16) _ k _ e3 slices_S256x8_o0_0_S248x8 concatenates_S8x8_S248x8_S256x8_d0 rfl rfl
  have e5 := shift_rows (s' := 32) _ k _ e4 slices_S256x8_o0_0_S240x8 concatenates_S16x8_S240x8_S256x8_d0 rfl rfl
  exact shift_rows (s' := 64) _ k _ e5 slices_S256x8_o0_0_S224x8 concatenates_S32x8_S224x8_S256x8_d0 rfl rfl r

include hxs

/-- The choices of an expert before a row. -/
theorem before_at (r : Fin 256) (k : Fin 8) :
    k0_pay1 (marks x0 x1 x2) (sums x0 x1 x2) xs0 (ix2 r k) = ((queue one two k.val (n + r.val) : ℝ) : EReal) := by
  have e7 := shift_rows (s' := 128) _ k _ (fun r => sums_at hn h1 h2 r k) slices_S256x8_o0_0_S192x8 concatenates_S64x8_S192x8_S256x8_d0 rfl rfl
  have e8 := shift_rows (s' := 256) _ k _ e7 slices_S256x8_o0_0_S128x8 concatenates_S128x8_S128x8_S256x8_d0 rfl rfl r
  have hb : broadcastTo S256x8 xs0 broadcasts_S1x8_S256x8 (ix2 r k) = ((queue one two k.val n : ℝ) : EReal) :=
    (broadcastTo_1b_ab_apply _ _ _ _).trans (hxs k)
  refine (congrArg₂ (fun (u v : EReal) => u + v) (congrArg₂ (fun (u v : EReal) => u - v) e8 (marks_at hn h1 h2 r k)) hb).trans ?_
  rw [win_low _ r.isLt, run_succ, ← EReal.coe_sub, ← EReal.coe_add]
  unfold queue
  rw [run_add]
  refine congrArg Real.toEReal ?_
  push_cast
  ring

/-- A row's rank, where `e` is the expert that the row chose: the mask leaves the expert's column of the sum. -/
theorem picked_at (M : FVec Ideal S256x8 .f32) (r : Fin 256) (e : Fin 8) (u : Fin 1)
    (hM : ∀ k : Fin 8, M (ix2 r k) = (((if e.val = k.val then 1 else 0 : ℕ) : ℝ) : EReal)) :
    k0_pay2 M (marks x0 x1 x2) (sums x0 x1 x2) xs0 (ix2 r u) = BitVec.ofNat 32 (queue one two e.val (n + r.val)) := by
  have hq := queue_le one two e.val (n + r.val)
  have hr := r.isLt
  rw [← fptosi_nat (by omega : queue one two e.val (n + r.val) < 2 ^ 31)]
  refine congrArg (Ideal.fptosi 32) ?_
  refine (shapeCast_a_a1_apply _ _ _ _).trans ?_
  refine (Ideal.multiReduction_add_single _ _ reduces_S256x8_S256 (.inl rfl) rfl (ix1 r)).trans ?_
  show (∑ k : Fin 8, mulf M (k0_pay1 (marks x0 x1 x2) (sums x0 x1 x2) xs0) ((reduces_S256x8_S256 : S256x8.Reduces [1] S256).lift (ix1 r) k) : EReal) = _
  refine (Finset.sum_eq_single e (fun k _ hk => ?_) (fun h => absurd (Finset.mem_univ _) h)).trans ?_
  · rw [lift_row]
    show (M (ix2 r k) : EReal) * _ = 0
    rw [hM, if_neg (fun h => hk (Fin.ext h.symm)), Nat.cast_zero, EReal.coe_zero, zero_mul]
  · rw [lift_row]
    show (M (ix2 r e) : EReal) * k0_pay1 (marks x0 x1 x2) (sums x0 x1 x2) xs0 (ix2 r e) = _
    rw [hM, if_pos rfl, Nat.cast_one, EReal.coe_one, one_mul, before_at hn h1 h2 hxs]

theorem rank0_at (r : Fin 256) (p : Fin 16384) (hp : p.val = n + r.val) (u : Fin 1) :
    rank0 x0 x1 x2 xs0 (ix2 r u) = BitVec.ofNat 32 (queue one two (one p).val p.val) := by
  rw [hp]
  exact picked_at hn h1 h2 hxs _ r _ u fun k => marks0_at x0 x1 x2 r (h1 r p hp) k

theorem rank1_at (r : Fin 256) (p : Fin 16384) (hp : p.val = n + r.val) (u : Fin 1) :
    rank1 x0 x1 x2 xs0 (ix2 r u) = BitVec.ofNat 32 (queue one two (two p).val p.val) := by
  rw [hp]
  exact picked_at hn h1 h2 hxs (marks1 x0 x1 x2) r _ u fun k => marks1_at x0 x1 x2 r (h1 r p hp) (h2 r p hp) k

/-- The counts after the step. -/
theorem total_at (k : Fin 8) : k0_pay4 (marks x0 x1 x2) xs0 (ix2 0 k) = ((queue one two k.val (n + 256) : ℝ) : EReal) := by
  have hs : shapeCast S1x8 (multiReduction .add [0] S8 (marks x0 x1 x2) 0x00000000#32 reduces_S256x8_S8 (.inl rfl) rfl) shapeCasts_S8_S1x8 (ix2 0 k)
      = ((run (fun p => hits one two k.val (n + p)) 256 : ℝ) : EReal) := by
    refine (shapeCast_a_1a_apply _ _ _ _).trans ?_
    refine (Ideal.multiReduction_add_single _ _ reduces_S256x8_S8 (.inl rfl) rfl (ix1 k)).trans ?_
    show (∑ r : Fin 256, (marks x0 x1 x2 ((reduces_S256x8_S8 : S256x8.Reduces [0] S8).lift (ix1 k) r) : EReal)) = _
    rw [← run_fin]
    refine (Finset.sum_congr rfl fun r _ => ?_).trans (real_sum Finset.univ fun r : Fin 256 => hits one two k.val (n + r.val)).symm
    refine (congrArg (marks x0 x1 x2) (funext fun a => ?_)).trans (marks_at hn h1 h2 r k)
    match a with
    | ⟨0, _⟩ => rfl
    | ⟨1, _⟩ => rfl
  refine (congrArg₂ (fun (u v : EReal) => u + v) (hxs k) hs).trans ?_
  rw [← EReal.coe_add]
  unfold queue
  rw [run_add]
  push_cast
  rfl

theorem counts_at (k : Fin 8) : counts x0 x1 x2 xs0 (ix2 0 k) = ((queue one two k.val (n + 256) : ℝ) : EReal) := by
  refine (shapeCast_apply _ _ (ix2 0 k) (ix2 0 k) rfl).trans (total_at hn h1 h2 hxs k)

/-! ### After the last step -/

variable (hlast : n + 256 = 16384)

include hlast

theorem start_at (k : Fin 8) : k0_pay6 (marks x0 x1 x2) xs0 (ix2 0 k) = ((start one two k.val : ℝ) : EReal) := by
  have hs : ∀ k : Fin 8, mulf (ceil (divf (k0_pay4 (marks x0 x1 x2) xs0) (broadcast S1x8 (Scalar.ofBits (F := Ideal) .f32 0x43800000#32))))
      (broadcast S1x8 (Scalar.ofBits (F := Ideal) .f32 0x43800000#32)) (ix2 0 k) = ((slots one two k.val : ℝ) : EReal) := fun k => by
    refine Eq.trans ?_ (rounded (queue one two k.val 16384))
    show Ideal.liftRound Int.ceil (Ideal.div (k0_pay4 (marks x0 x1 x2) xs0 (ix2 0 k)) _) * _ = _
    rw [total_at hn h1 h2 hxs, hlast]
    rfl
  have e0 : ∀ k : Fin 8, _ = ((win (slots one two) 1 k.val : ℝ) : EReal) := fun k => (hs k).trans (by rw [win_one])
  have e1 := shift_cols (s' := 2) _ _ e0 slices_S1x8_o0_0_S1x7 concatenates_S1x1_S1x7_S1x8_d1 rfl rfl
  have e2 := shift_cols (s' := 4) _ _ e1 slices_S1x8_o0_0_S1x6 concatenates_S1x2_S1x6_S1x8_d1 rfl rfl
  have e3 := shift_cols (s' := 8) _ _ e2 slices_S1x8_o0_0_S1x4 concatenates_S1x4_S1x4_S1x8_d1 rfl rfl k
  refine (congrArg₂ (fun (u v : EReal) => u - v) e3 (hs k)).trans ?_
  rw [win_low _ k.isLt, run_succ, ← EReal.coe_sub]
  refine congrArg Real.toEReal ?_
  unfold start
  push_cast
  ring

theorem firstSlots_at (k : Fin 8) : firstSlots x0 x1 x2 xs0 (ix2 0 k) = BitVec.ofNat 32 (start one two k.val) := by
  have hq := start_le one two k
  rw [← fptosi_nat (by omega : start one two k.val < 2 ^ 31)]
  exact congrArg (Ideal.fptosi 32) (start_at hn h1 h2 hxs hlast k)

theorem tileExperts_at (q : Fin 136) (u : Fin 1) (E : Fin 8) (hE : ∀ k : Fin 8, start one two k.val ≤ q.val * 256 ↔ k ≤ E) :
    tileExperts x0 x1 x2 xs0 (ix2 q u) = BitVec.ofNat 32 E.val := by
  have hf : ∀ k : Fin 8, extui 32 (cmpi .sge (muli (iota .tc S136x8 32 [0] iota_S136x8_d0_w32) (broadcast S136x8 256#32))
      (broadcastTo S136x8 (shapeCast S1x8 (firstSlots x0 x1 x2 xs0) shapeCasts_S1x8_S1x8) broadcasts_S1x8_S136x8)) natLt_1_32 (ix2 q k)
      = if k ≤ E then 1#32 else 0#32 := fun k => by
    have hq := start_le one two k
    have hq' := q.isLt
    have eb : broadcastTo S136x8 (shapeCast S1x8 (firstSlots x0 x1 x2 xs0) shapeCasts_S1x8_S1x8) broadcasts_S1x8_S136x8 (ix2 q k)
        = BitVec.ofNat 32 (start one two k.val) :=
      (broadcastTo_1b_ab_apply _ _ _ _).trans ((shapeCast_apply _ _ (ix2 0 k) (ix2 0 k) rfl).trans (firstSlots_at hn h1 h2 hxs hlast k))
    have ei : muli (iota .tc S136x8 32 [0] iota_S136x8_d0_w32) (broadcast S136x8 256#32) (ix2 q k) = BitVec.ofNat 32 (q.val * 256) := by
      show BitVec.ofNat 32 (0 * 136 + q.val) * BitVec.ofNat 32 256 = _
      rw [Nat.zero_mul, Nat.zero_add, BitVec.ofNat_mul]
    show (IntOp.cmpi .sge _ _).setWidth 32 = _
    rw [eb, ei, sge_words (by omega) (by omega)]
    simp only [hE]
    by_cases h : k ≤ E <;> simp [h]
  show IntOp.minsi 7#32 (IntOp.maxsi 0#32 (IntOp.subi (shapeCast S136x1 (multiReductionI .add [1] S136 (extui 32 (cmpi .sge (muli (iota .tc S136x8 32 [0] iota_S136x8_d0_w32) (broadcast S136x8 256#32))
      (broadcastTo S136x8 (shapeCast S1x8 (firstSlots x0 x1 x2 xs0) shapeCasts_S1x8_S1x8) broadcasts_S1x8_S136x8)) natLt_1_32) 0#32 reduces_S136x8_S136 rfl) shapeCasts_S136_S136x1 (ix2 q u)) 1#32)) = _
  rw [sum_column, funext hf]
  clear hE hf
  revert E
  decide

end

end Cert.Proof.Router

end
-- ==== Proof.Router.RefCount.lean ====
/-
  The reference's integer results read at an index: a token's place in its expert's queue, the experts' first slots and the
  runs' owners, in the terms of `Queue.lean`, from the two experts of every token.
-/
module

public import proofs.«01_k».proof.Proof.Router.Queue
public import proofs.«01_k».proof.Proof.Gen.RouterReferenceIdeal.Read
public import Idealize.ShloMosaic.Lib.ValueLayoutCasts

@[expose] public section

noncomputable section

namespace Cert.Proof.Router

open Cert.RouterReferenceIdeal Cert.RouterReferenceIdeal.Gen Cert.RouterReferenceIdeal.Read
open Idealize.ShloMosaic Idealize.ShloMosaic.TcCoe Idealize.ShloMosaic.ValueIdx

theorem same_word (a b : Fin 8) : (IntOp.cmpi .eq (BitVec.ofNat 32 a.val) (BitVec.ofNat 32 b.val)).setWidth 32
    = BitVec.ofNat 32 (if a.val = b.val then 1 else 0) := by revert a b; decide

theorem slt_word {x y : ℕ} (hx : x < 2 ^ 31) (hy : y < 2 ^ 31) :
    IntOp.cmpi .slt (BitVec.ofNat 32 x) (BitVec.ofNat 32 y) = BitVec.ofBool (decide (x < y)) := by
  show BitVec.ofBool ((BitVec.ofNat 32 x).slt (BitVec.ofNat 32 y)) = _
  rw [BitVec.slt, toInt_small hx, toInt_small hy]
  simp

theorem sle_word {x y : ℕ} (hx : x < 2 ^ 31) (hy : y < 2 ^ 31) :
    IntOp.cmpi .sle (BitVec.ofNat 32 x) (BitVec.ofNat 32 y) = BitVec.ofBool (decide (x ≤ y)) := by
  show BitVec.ofBool ((BitVec.ofNat 32 x).sle (BitVec.ofNat 32 y)) = _
  rw [BitVec.sle, toInt_small hx, toInt_small hy]
  simp

theorem select_word {p : Prop} [Decidable p] (x y : BitVec 32) : Scalar.select (BitVec.ofBool (decide p)) x y = if p then x else y := by
  by_cases h : p <;> simp [Scalar.select, h]

theorem div_word {n : ℕ} (h : n < 2 ^ 31) : IntOp.divsi .host (BitVec.ofNat 32 n) 256#32 = BitVec.ofNat 32 (n / 256) := by
  unfold IntOp.divsi
  rw [if_neg (by rintro (h | ⟨-, h⟩) <;> exact absurd h (by decide))]
  have hm : (BitVec.ofNat 32 n).msb = false := by
    rw [BitVec.msb_eq_false_iff_two_mul_lt, BitVec.toNat_ofNat]; omega
  rw [BitVec.sdiv_eq, hm, show (256#32 : BitVec 32).msb = false from rfl]
  apply BitVec.eq_of_toNat_eq
  rw [BitVec.udiv_eq, BitVec.toNat_udiv, BitVec.toNat_ofNat, BitVec.toNat_ofNat, BitVec.toNat_ofNat,
    Nat.mod_eq_of_lt (by omega : n < 2 ^ 32), Nat.mod_eq_of_lt (by norm_num : 256 < 2 ^ 32), Nat.mod_eq_of_lt (by omega : n / 256 < 2 ^ 32)]

section
variable (x0 : (⟨S16384x1024, .f32⟩ : BufTy).Contents (Elt Ideal)) (x1 : (⟨S8x1024, .f32⟩ : BufTy).Contents (Elt Ideal))
  (x2 : (⟨S8, .f32⟩ : BufTy).Contents (Elt Ideal)) (one two : Fin 16384 → Fin 8)
variable (h1 : ∀ (r : Fin 16384) (i : S16384x1.Idx), (i 0).val = r.val → val_main_v16 (F := Ideal) x0 x1 x2 i = BitVec.ofNat 32 (one r).val)
variable (h2 : ∀ (r : Fin 16384) (i : S16384x1.Idx), (i 0).val = r.val → val_main_v17 (F := Ideal) x0 x1 x2 i = BitVec.ofNat 32 (two r).val)

theorem earlier_at (r p : Fin 16384) : val_main_v23 (F := Ideal) (ix2 r p) = BitVec.ofBool (decide (p.val < r.val)) := by
  have hr := r.isLt
  have hp := p.isLt
  rw [← slt_word (by omega : p.val < 2 ^ 31) (by omega : r.val < 2 ^ 31), val_main_v23_apply, val_main_v21_apply, val_main_v22_apply,
    val_main_v19_apply, val_main_v20_apply]
  rfl

include h1 h2

/-! ### A token's place -/

theorem v73_at (r p : Fin 16384) : val_main_v73 (F := Ideal) x0 x1 x2 (ix2 r p) = BitVec.ofNat 32 (hits one two (one r).val p.val) := by
  rw [hits_at, BitVec.ofNat_add, ← same_word, ← same_word, ← h1 p (ix2 p 0) rfl, ← h2 p (ix2 p 0) rfl, ← h1 r (ix2 r 0) rfl,
    val_main_v73_apply, val_main_v67_apply, val_main_v72_apply, val_main_v66_apply, val_main_v71_apply, val_main_v64_apply, val_main_v65_apply, val_main_v69_apply, val_main_v70_apply,
    val_main_v63_apply, val_main_v68_apply]
  refine congrArg₂ IntOp.addi (congrArg (BitVec.setWidth 32) (congrArg₂ (IntOp.cmpi .eq) (congrArg _ ?_) (congrArg _ ?_)))
    (congrArg (BitVec.setWidth 32) (congrArg₂ (IntOp.cmpi .eq) (congrArg _ ?_) (congrArg _ ?_)))
  all_goals
    funext a
    match a with
    | ⟨0, _⟩ => rfl
    | ⟨1, _⟩ => rfl

theorem place1_at (r : Fin 16384) (i : S16384x1.Idx) (hi : (i 0).val = r.val) :
    val_main_v76 (F := Ideal) x0 x1 x2 i = BitVec.ofNat 32 (queue one two (one r).val r.val) := by
  rw [val_main_v76_apply, show idx_main_v76 i = ix1 r from funext fun a => by
    match a with
    | ⟨0, _⟩ => exact Fin.ext hi]
  unfold val_main_v75
  have hR : S16384x16384.Reduces [1] S16384 := by decide
  refine (Host.reduce_eq_fold_single IntOp.addi (val_main_v74 (F := Ideal) x0 x1 x2) (val_main_c_11 (F := Ideal))
    reducesTo_S16384x16384_S16384_d1 hR h_S_ (ix1 r)).trans ?_
  unfold queue
  rw [← run_before _ 16384 r.val r.isLt.le, ← fold_words]
  refine congrArg₂ (Finset.fold IntOp.addi · · _) rfl (funext fun p : Fin 16384 => ?_)
  refine (congrArg (val_main_v74 (F := Ideal) x0 x1 x2) (show hR.lift (ix1 r) p = ix2 r p from funext fun a => by
    match a with
    | ⟨0, _⟩ => rfl
    | ⟨1, _⟩ => rfl)).trans ?_
  rw [val_main_v74_apply, earlier_at, select_word, v73_at x0 x1 x2 one two h1 h2, val_main_call2_v1_apply]
  by_cases h : p.val < r.val
  · rw [if_pos h, if_pos h]
  · rw [if_neg h, if_neg h]; rfl

theorem v87_at (r p : Fin 16384) : val_main_v87 (F := Ideal) x0 x1 x2 (ix2 r p) = BitVec.ofNat 32 (hits one two (two r).val p.val) := by
  rw [hits_at, BitVec.ofNat_add, ← same_word, ← same_word, ← h1 p (ix2 p 0) rfl, ← h2 p (ix2 p 0) rfl, ← h2 r (ix2 r 0) rfl,
    val_main_v87_apply, val_main_v81_apply, val_main_v86_apply, val_main_v80_apply, val_main_v85_apply, val_main_v78_apply, val_main_v79_apply, val_main_v83_apply, val_main_v84_apply,
    val_main_v77_apply, val_main_v82_apply]
  refine congrArg₂ IntOp.addi (congrArg (BitVec.setWidth 32) (congrArg₂ (IntOp.cmpi .eq) (congrArg _ ?_) (congrArg _ ?_)))
    (congrArg (BitVec.setWidth 32) (congrArg₂ (IntOp.cmpi .eq) (congrArg _ ?_) (congrArg _ ?_)))
  all_goals
    funext a
    match a with
    | ⟨0, _⟩ => rfl
    | ⟨1, _⟩ => rfl

theorem place2_at (r : Fin 16384) (i : S16384x1.Idx) (hi : (i 0).val = r.val) :
    val_main_v90 (F := Ideal) x0 x1 x2 i = BitVec.ofNat 32 (queue one two (two r).val r.val) := by
  rw [val_main_v90_apply, show idx_main_v90 i = ix1 r from funext fun a => by
    match a with
    | ⟨0, _⟩ => exact Fin.ext hi]
  unfold val_main_v89
  have hR : S16384x16384.Reduces [1] S16384 := by decide
  refine (Host.reduce_eq_fold_single IntOp.addi (val_main_v88 (F := Ideal) x0 x1 x2) (val_main_c_13 (F := Ideal))
    reducesTo_S16384x16384_S16384_d1 hR h_S_ (ix1 r)).trans ?_
  unfold queue
  rw [← run_before _ 16384 r.val r.isLt.le, ← fold_words]
  refine congrArg₂ (Finset.fold IntOp.addi · · _) rfl (funext fun p : Fin 16384 => ?_)
  refine (congrArg (val_main_v88 (F := Ideal) x0 x1 x2) (show hR.lift (ix1 r) p = ix2 r p from funext fun a => by
    match a with
    | ⟨0, _⟩ => rfl
    | ⟨1, _⟩ => rfl)).trans ?_
  rw [val_main_v88_apply, earlier_at, select_word, v87_at x0 x1 x2 one two h1 h2, val_main_call3_v1_apply]
  by_cases h : p.val < r.val
  · rw [if_pos h, if_pos h]
  · rw [if_neg h, if_neg h]; rfl

/-! ### The first slots -/

theorem v35_at (p : Fin 16384) (k : Fin 8) : val_main_v35 (F := Ideal) x0 x1 x2 (ix2 p k) = BitVec.ofNat 32 (hits one two k.val p.val) := by
  rw [hits_at, BitVec.ofNat_add, ← same_word, ← same_word, ← h1 p (ix2 p 0) rfl, ← h2 p (ix2 p 0) rfl,
    val_main_v35_apply, val_main_v29_apply, val_main_v34_apply, val_main_v28_apply, val_main_v33_apply, val_main_v26_apply,
    val_main_v27_apply, val_main_v31_apply, val_main_v32_apply, val_main_v25_apply, val_main_v30_apply]
  refine congrArg₂ IntOp.addi (congrArg (BitVec.setWidth 32) (congrArg₂ (IntOp.cmpi .eq) (congrArg _ ?_) rfl))
    (congrArg (BitVec.setWidth 32) (congrArg₂ (IntOp.cmpi .eq) (congrArg _ ?_) rfl))
  all_goals
    funext a
    match a with
    | ⟨0, _⟩ => rfl
    | ⟨1, _⟩ => rfl

theorem load_at (k : Fin 8) : val_main_v36 (F := Ideal) x0 x1 x2 (ix1 k) = BitVec.ofNat 32 (queue one two k.val 16384) := by
  unfold val_main_v36
  have hR : S16384x8.Reduces [0] S8 := by decide
  refine (Host.reduce_eq_fold_single IntOp.addi (val_main_v35 (F := Ideal) x0 x1 x2) (val_main_c (F := Ideal))
    reducesTo_S16384x8_S8_d0 hR h_S_ (ix1 k)).trans ?_
  unfold queue
  rw [← run_fin, ← fold_words]
  refine congrArg₂ (Finset.fold IntOp.addi · · _) rfl (funext fun p : Fin 16384 => ?_)
  refine (congrArg (val_main_v35 (F := Ideal) x0 x1 x2) (show hR.lift (ix1 k) p = ix2 p k from funext fun a => by
    match a with
    | ⟨0, _⟩ => rfl
    | ⟨1, _⟩ => rfl)).trans ?_
  exact v35_at x0 x1 x2 one two h1 h2 p k

theorem slots_at (k : Fin 8) : val_main_v42 (F := Ideal) x0 x1 x2 (ix1 k) = BitVec.ofNat 32 (slots one two k.val) := by
  have hq := queue_le one two k.val 16384
  unfold slots
  rw [BitVec.ofNat_mul, ← div_word (by omega), BitVec.ofNat_add, ← load_at x0 x1 x2 one two h1 h2 k, val_main_v42_apply,
    val_main_v40_apply, val_main_v38_apply, val_main_v37_apply, val_main_v39_apply, val_main_v41_apply]
  rfl

theorem base_at (k : Fin 8) : val_main_v50 (F := Ideal) x0 x1 x2 (ix1 k) = BitVec.ofNat 32 (start one two k.val) := by
  unfold val_main_v50
  have hR : S8x8.Reduces [1] S8 := by decide
  refine (Host.reduce_eq_fold_single IntOp.addi (val_main_v49 (F := Ideal) x0 x1 x2) (val_main_c_6 (F := Ideal))
    reducesTo_S8x8_S8_d1 hR h_S_ (ix1 k)).trans ?_
  unfold start
  rw [← run_before _ 8 k.val k.isLt.le, ← fold_words]
  refine congrArg₂ (Finset.fold IntOp.addi · · _) rfl (funext fun p : Fin 8 => ?_)
  refine (congrArg (val_main_v49 (F := Ideal) x0 x1 x2) (show hR.lift (ix1 k) p = ix2 k p from funext fun a => by
    match a with
    | ⟨0, _⟩ => rfl
    | ⟨1, _⟩ => rfl)).trans ?_
  have e : val_main_v47 (F := Ideal) (ix2 k p) = BitVec.ofBool (decide (p.val < k.val)) := by
    have hk := k.isLt
    have hp := p.isLt
    rw [← slt_word (by omega : p.val < 2 ^ 31) (by omega : k.val < 2 ^ 31), val_main_v47_apply, val_main_v45_apply, val_main_v46_apply,
      val_main_v43_apply, val_main_v44_apply]
    rfl
  rw [val_main_v49_apply, e, select_word, val_main_call0_v1_apply, val_main_v48_apply, val_main_call0_v2_apply]
  by_cases h : p.val < k.val
  · rw [if_pos h, if_pos h, ← slots_at x0 x1 x2 one two h1 h2 p]
    refine congrArg _ (funext fun a => ?_)
    match a with
    | ⟨0, _⟩ => rfl
  · rw [if_neg h, if_neg h]; rfl

theorem base_row_at (k : Fin 8) (i : S1x8.Idx) (hi : (i 1).val = k.val) :
    val_main_v93 (F := Ideal) x0 x1 x2 i = BitVec.ofNat 32 (start one two k.val) := by
  rw [← base_at x0 x1 x2 one two h1 h2 k, val_main_v93_apply]
  refine congrArg _ (funext fun a => ?_)
  match a with
  | ⟨0, _⟩ => exact Fin.ext hi

/-! ### The runs' owners -/

theorem owner_at (q : Fin 136) (E : Fin 8) (hE : ∀ k : Fin 8, start one two k.val ≤ q.val * 256 ↔ k ≤ E) (i : S136x1.Idx) (hi : (i 0).val = q.val) :
    val_main_v62 (F := Ideal) x0 x1 x2 i = BitVec.ofNat 32 E.val := by
  rw [val_main_v62_apply, show idx_main_v62 i = ix1 q from funext fun a => by
    match a with
    | ⟨0, _⟩ => exact Fin.ext hi]
  unfold val_main_v61
  have hR : S136x8.Reduces [1] S136 := by decide
  refine (Host.reduce_eq_fold_single IntOp.maxsi (val_main_v60 (F := Ideal) x0 x1 x2) (val_main_c_9 (F := Ideal))
    reducesTo_S136x8_S136_d1 hR h_S_ (ix1 q)).trans ?_
  have e : ∀ k : Fin 8, val_main_v60 (F := Ideal) x0 x1 x2 (hR.lift (ix1 q) k) = if k ≤ E then BitVec.ofNat 32 k.val else 0#32 := fun k => by
    have hk := start_le one two k
    have hq := q.isLt
    refine (congrArg (val_main_v60 (F := Ideal) x0 x1 x2) (show hR.lift (ix1 q) k = ix2 q k from funext fun a => by
      match a with
      | ⟨0, _⟩ => rfl
      | ⟨1, _⟩ => rfl)).trans ?_
    have eb : val_main_v56 (F := Ideal) x0 x1 x2 (ix2 q k) = BitVec.ofNat 32 (start one two k.val) := by
      rw [← base_at x0 x1 x2 one two h1 h2 k, val_main_v56_apply, val_main_v54_apply]
      refine congrArg _ (funext fun a => ?_)
      match a with
      | ⟨0, _⟩ => rfl
    have er : val_main_v57 (F := Ideal) (ix2 q k) = BitVec.ofNat 32 (q.val * 256) := by
      rw [BitVec.ofNat_mul, val_main_v57_apply, val_main_v55_apply, val_main_v53_apply, val_main_v51_apply, val_main_v52_apply]
      rfl
    rw [val_main_v60_apply, val_main_v58_apply, eb, er, sle_word (by omega) (by omega), select_word, val_main_call1_v1_apply,
      val_main_v59_apply, val_main_call1_v2_apply]
    simp only [hE]
    rfl
  refine (congrArg (fun g : Fin 8 → BitVec 32 => (Finset.univ : Finset (Fin 8)).fold IntOp.maxsi 2147483648#32 g) (funext e)).trans ?_
  clear e hE
  revert E
  decide

end

end Cert.Proof.Router

end
-- ==== Proof.Router.FinalCount.lean ====
/-
  The router's launch, the counting results: the counts that one grid point hands to the next, what each point writes back
  to the two arrays of ranks and the last one to the first slots and the tiles' experts, and the arrays after the last point.
-/
module

public import proofs.«01_k».proof.Proof.Router.Final
public import proofs.«01_k».proof.Proof.Router.CountPay
public import proofs.«01_k».proof.Proof.Router.RefCount

@[expose] public section

noncomputable section

namespace Cert.Proof.Router

open Cert.RouterIdeal Cert.RouterIdeal.Gen Cert.RouterIdeal.Value
open Idealize.ShloMosaic Idealize.ShloMosaic.TcCoe Idealize.ShloMosaic.ValueIdx

variable (m : (ℓ : Loc nD τ sig) → Buf (Elt Ideal) ℓ) (c : Dev nD)

/-! ### Every token's two experts -/

/-- A token's logits. -/
abbrev row (r : Fin 16384) : Fin 8 → EReal := tokenRow (xArg m c) (wArg m c) (bArg m c) r

def firstOf (r : Fin 16384) : Fin 8 := (exists_best (row m c r)).choose
def secondOf (r : Fin 16384) : Fin 8 := (exists_best (masked (row m c r) (firstOf m c r))).choose

theorem firstOf_best (r : Fin 16384) : Best (row m c r) (firstOf m c r) := (exists_best (row m c r)).choose_spec
theorem secondOf_best (r : Fin 16384) : Best (masked (row m c r) (firstOf m c r)) (secondOf m c r) :=
  (exists_best (masked (row m c r) (firstOf m c r))).choose_spec

theorem block_fits (t : Fin cfg0.N) : t.val * 256 + 256 ≤ 16384 := by have := points_lt t; omega

theorem block_first (t : Fin cfg0.N) (p : Fin 256) (r : Fin 16384) (hr : r.val = t.val * 256 + p.val) :
    Best (blockRow (xs m c t) (ws m c t) (bs m c t) p) (firstOf m c r) := by
  rw [row_eq m c t p r hr]
  exact firstOf_best m c r

theorem block_second (t : Fin cfg0.N) (p : Fin 256) (r : Fin 16384) (hr : r.val = t.val * 256 + p.val) :
    Best (masked (blockRow (xs m c t) (ws m c t) (bs m c t) p) (firstOf m c r)) (secondOf m c r) := by
  rw [row_eq m c t p r hr]
  exact secondOf_best m c r

/-- An expert's queue, over the launch's tokens. -/
abbrev queueOf (k n : ℕ) : ℕ := queue (firstOf m c) (secondOf m c) k n

/-! ### The counts between the points -/

/-- The counts that point `n` leaves. -/
abbrev left (n : ℕ) (hn : n < cfg0.N) : Vec Ideal S1x8 .f32 := (outsAt0 m c n hn).2.2.2.2.2.2.2.2.2

theorem left_A (t : Fin cfg0.N) (h0 : t.val % 64 = 0) (h1 : ¬t.val % 64 = 63) :
    left m c t.val t.isLt = counts (xs m c t) (ws m c t) (bs m c t) (k0_pay9 (F := Ideal)) := by
  unfold left
  rw [outsAt0_A m c t h0 h1]
  dsimp only
  rw [carry_A]

theorem left_B (t : Fin cfg0.N) (h0 : ¬t.val % 64 = 0) (h1 : ¬t.val % 64 = 63) :
    left m c t.val t.isLt = counts (xs m c t) (ws m c t) (bs m c t) (left m c (t.val - 1) (Nat.lt_of_le_of_lt (Nat.sub_le _ _) t.isLt)) := by
  unfold left
  rw [outsAt0_B m c t h0 h1]
  dsimp only
  rw [carry_B]

theorem left_C (t : Fin cfg0.N) (h0 : ¬t.val % 64 = 0) (h1 : t.val % 64 = 63) :
    left m c t.val t.isLt = counts (xs m c t) (ws m c t) (bs m c t) (left m c (t.val - 1) (Nat.lt_of_le_of_lt (Nat.sub_le _ _) t.isLt)) := by
  unfold left
  rw [outsAt0_C m c t h0 h1]
  dsimp only
  rw [carry_C]

theorem no_counts (k : Fin 8) : k0_pay9 (F := Ideal) (ix2 0 k) = ((queueOf m c k.val 0 : ℝ) : EReal) := by
  have e : k0_pay9 (F := Ideal) (ix2 0 k) = (0 : EReal) := by
    unfold k0_pay9
    rw [shapeCast_apply _ _ (ix2 0 k) (ix2 0 k) rfl]
    exact zero_f32
  rw [e]
  simp [queue, run]

theorem left_at (n : ℕ) : ∀ (hn : n < cfg0.N) (k : Fin 8), left m c n hn (ix2 0 k) = ((queueOf m c k.val (n * 256 + 256) : ℝ) : EReal) := by
  induction n with
  | zero =>
    intro hn k
    have e := left_A m c ⟨0, hn⟩ rfl (by show ¬0 % 64 = 63; decide)
    refine (congrFun e (ix2 0 k)).trans ?_
    have h := counts_at (block_fits ⟨0, hn⟩) (block_first m c ⟨0, hn⟩) (block_second m c ⟨0, hn⟩) (xs0 := k0_pay9 (F := Ideal))
      (fun k => by simpa using no_counts m c k) k
    exact h
  | succ n ih =>
    intro hn k
    have hlt := points_lt ⟨n + 1, hn⟩
    have hlt' : n + 1 < 64 := hlt
    have h := counts_at (block_fits ⟨n + 1, hn⟩) (block_first m c ⟨n + 1, hn⟩) (block_second m c ⟨n + 1, hn⟩)
      (xs0 := left m c n (Nat.lt_of_succ_lt hn)) (fun k => by rw [ih]; simp only [Nat.succ_mul]) k
    refine Eq.trans ?_ h
    by_cases h1 : (n + 1) % 64 = 63
    · exact congrFun (left_C m c ⟨n + 1, hn⟩ (by show ¬(n + 1) % 64 = 0; omega) h1) (ix2 0 k)
    · exact congrFun (left_B m c ⟨n + 1, hn⟩ (by show ¬(n + 1) % 64 = 0; omega) h1) (ix2 0 k)

/-- The counts before a point after the first. -/
theorem left_before (t : Fin cfg0.N) (h0 : ¬t.val % 64 = 0) (k : Fin 8) :
    left m c (t.val - 1) (Nat.lt_of_le_of_lt (Nat.sub_le _ _) t.isLt) (ix2 0 k) = ((queueOf m c k.val (t.val * 256) : ℝ) : EReal) := by
  rw [left_at, show (t.val - 1) * 256 + 256 = t.val * 256 by omega]

/-! ### What a grid point writes back -/

theorem stored5 (t : Fin cfg0.N) : ∃ u : Vec Ideal S1x8 .f32, (∀ k : Fin 8, u (ix2 0 k) = ((queueOf m c k.val (t.val * 256) : ℝ) : EReal))
    ∧ (dats m 0 c).flushed 5 t = (cfg0.win 5).cut (grid0.coords t) (rank0 (xs m c t) (ws m c t) (bs m c t) u) := by
  have ht := points_lt t
  by_cases h0 : t.val % 64 = 0
  · refine ⟨k0_pay9 (F := Ideal), fun k => ?_, ?_⟩
    · rw [show t.val * 256 = 0 by omega]; exact no_counts m c k
    · rw [flushed5_A m c t h0 (by omega), out_A_5]
  · refine ⟨_, left_before m c t h0, ?_⟩
    by_cases h1 : t.val % 64 = 63
    · rw [flushed5_C m c t h0 h1, out_C_5]
    · rw [flushed5_B m c t h0 h1, out_B_5]

theorem stored6 (t : Fin cfg0.N) : ∃ u : Vec Ideal S1x8 .f32, (∀ k : Fin 8, u (ix2 0 k) = ((queueOf m c k.val (t.val * 256) : ℝ) : EReal))
    ∧ (dats m 0 c).flushed 6 t = (cfg0.win 6).cut (grid0.coords t) (rank1 (xs m c t) (ws m c t) (bs m c t) u) := by
  have ht := points_lt t
  by_cases h0 : t.val % 64 = 0
  · refine ⟨k0_pay9 (F := Ideal), fun k => ?_, ?_⟩
    · rw [show t.val * 256 = 0 by omega]; exact no_counts m c k
    · rw [flushed6_A m c t h0 (by omega), out_A_6]
  · refine ⟨_, left_before m c t h0, ?_⟩
    by_cases h1 : t.val % 64 = 63
    · rw [flushed6_C m c t h0 h1, out_C_6]
    · rw [flushed6_B m c t h0 h1, out_B_6]

theorem flush9 : ∀ t : Fin cfg0.N, (cfg0.win 9).flush t = true → t.val = 63 :=
  (by decide +kernel : ∀ t : Fin grid0.N, (cfg0.win 9).flush t = true → t.val = 63)

theorem stored9 (t : Fin cfg0.N) (h : t.val = 63) : ∃ u : Vec Ideal S1x8 .f32,
    (∀ k : Fin 8, u (ix2 0 k) = ((queueOf m c k.val (t.val * 256) : ℝ) : EReal))
    ∧ (dats m 0 c).flushed 9 t = (cfg0.win 9).cut (grid0.coords t) (firstSlots (xs m c t) (ws m c t) (bs m c t) u) := by
  refine ⟨_, left_before m c t (by omega), ?_⟩
  rw [flushed9_C m c t (by omega) (by omega), out_C_9]

theorem flush10 : ∀ t : Fin cfg0.N, (cfg0.win 10).flush t = true → t.val = 63 :=
  (by decide +kernel : ∀ t : Fin grid0.N, (cfg0.win 10).flush t = true → t.val = 63)

theorem stored10 (t : Fin cfg0.N) (h : t.val = 63) : ∃ u : Vec Ideal S1x8 .f32,
    (∀ k : Fin 8, u (ix2 0 k) = ((queueOf m c k.val (t.val * 256) : ℝ) : EReal))
    ∧ (dats m 0 c).flushed 10 t = (cfg0.win 10).cut (grid0.coords t) (tileExperts (xs m c t) (ws m c t) (bs m c t) u) := by
  refine ⟨_, left_before m c t (by omega), ?_⟩
  rw [flushed10_C m c t (by omega) (by omega), out_C_10]

/-! ### The arrays after the last point -/

theorem ranks5 (G : IVec S16384x1 32)
    (hG : ∀ (r : Fin 16384) (i : S16384x1.Idx), (i 0).val = r.val → G i = BitVec.ofNat 32 (queueOf m c (firstOf m c r).val r.val)) :
    (dats m 0 c).arrAt 5 cfg0.N = G := by
  refine (dats m 0 c).arrAt_eq_of_cover 5 _ (fun t _ => ?_) (fun i => (covered_iff5 i).2 (by
    have h0 : (i 0).val < 16384 := (i 0).isLt
    have h1 : (i 1).val < 1 := (i 1).isLt
    omega))
  obtain ⟨u, hu, e⟩ := stored5 m c t
  rw [e]
  obtain ⟨e0, e1, e2⟩ := idx_facts5 t
  have ht := points_lt t
  funext y
  have hy0 : (y 0).val < 256 := (y 0).isLt
  have hy1 : (y 1).val < 1 := (y 1).isLt
  have hj : (((cfg0.win 5).blk t).view.emb y 0).val = t.val * 256 + (y 0).val := by
    show win0_5.index t (0 : Fin 2) * 256 + 1 * (y 0).val = _
    omega
  let p : Fin 256 := ⟨(y 0).val, hy0⟩
  obtain ⟨r, hr⟩ : ∃ r : Fin 16384, r.val = t.val * 256 + p.val := ⟨⟨t.val * 256 + (y 0).val, by omega⟩, rfl⟩
  have hy : (cfg0.win 5).xinj (grid0.coords t) y = (ix2 p (0 : Fin 1) : S256x1.Idx) := funext fun a => Fin.ext (by
    match a with
    | ⟨0, _⟩ => rfl
    | ⟨1, _⟩ => show (y 1).val = 0; omega)
  show rank0 (xs m c t) (ws m c t) (bs m c t) u ((cfg0.win 5).xinj (grid0.coords t) y)
    = G (((cfg0.win 5).blk t).view.emb y)
  rw [hy]
  refine Eq.trans ?_ (hG r _ (hj.trans hr.symm)).symm
  exact rank0_at (block_fits t) (block_first m c t) (block_second m c t) hu p r hr 0

theorem ranks6 (G : IVec S16384x1 32)
    (hG : ∀ (r : Fin 16384) (i : S16384x1.Idx), (i 0).val = r.val → G i = BitVec.ofNat 32 (queueOf m c (secondOf m c r).val r.val)) :
    (dats m 0 c).arrAt 6 cfg0.N = G := by
  refine (dats m 0 c).arrAt_eq_of_cover 6 _ (fun t _ => ?_) (fun i => (covered_iff6 i).2 (by
    have h0 : (i 0).val < 16384 := (i 0).isLt
    have h1 : (i 1).val < 1 := (i 1).isLt
    omega))
  obtain ⟨u, hu, e⟩ := stored6 m c t
  rw [e]
  obtain ⟨e0, e1, e2⟩ := idx_facts6 t
  have ht := points_lt t
  funext y
  have hy0 : (y 0).val < 256 := (y 0).isLt
  have hy1 : (y 1).val < 1 := (y 1).isLt
  have hj : (((cfg0.win 6).blk t).view.emb y 0).val = t.val * 256 + (y 0).val := by
    show win0_6.index t (0 : Fin 2) * 256 + 1 * (y 0).val = _
    omega
  let p : Fin 256 := ⟨(y 0).val, hy0⟩
  obtain ⟨r, hr⟩ : ∃ r : Fin 16384, r.val = t.val * 256 + p.val := ⟨⟨t.val * 256 + (y 0).val, by omega⟩, rfl⟩
  have hy : (cfg0.win 6).xinj (grid0.coords t) y = (ix2 p (0 : Fin 1) : S256x1.Idx) := funext fun a => Fin.ext (by
    match a with
    | ⟨0, _⟩ => rfl
    | ⟨1, _⟩ => show (y 1).val = 0; omega)
  show rank1 (xs m c t) (ws m c t) (bs m c t) u ((cfg0.win 6).xinj (grid0.coords t) y)
    = G (((cfg0.win 6).blk t).view.emb y)
  rw [hy]
  refine Eq.trans ?_ (hG r _ (hj.trans hr.symm)).symm
  exact rank1_at (block_fits t) (block_first m c t) (block_second m c t) hu p r hr 0

section
variable (hx : ∀ i, IsReal (xArg m c i)) (hw : ∀ i, IsReal (wArg m c i)) (hb : ∀ i, IsReal (bArg m c i))

include hx hw hb

theorem first_ref (r : Fin 16384) (i : Cert.RouterReferenceIdeal.S16384x1.Idx) (hi : (i 0).val = r.val) :
    Cert.RouterReferenceIdeal.Read.val_main_v16 (F := Ideal) (xArg m c) (wArg m c) (bArg m c) i = BitVec.ofNat 32 (firstOf m c r).val :=
  v16_at (row_real m c hx hw hb r) (firstOf_best m c r) (secondOf_best m c r) i hi

theorem second_ref (r : Fin 16384) (i : Cert.RouterReferenceIdeal.S16384x1.Idx) (hi : (i 0).val = r.val) :
    Cert.RouterReferenceIdeal.Read.val_main_v17 (F := Ideal) (xArg m c) (wArg m c) (bArg m c) i = BitVec.ofNat 32 (secondOf m c r).val :=
  v17_at (row_real m c hx hw hb r) (firstOf_best m c r) (secondOf_best m c r) i hi

theorem final5 : (dats m 0 c).arrAt 5 cfg0.N = Cert.RouterReferenceIdeal.Read.val_main_v76 (F := Ideal) (xArg m c) (wArg m c) (bArg m c) :=
  ranks5 m c _ fun r i hi => place1_at _ _ _ _ _ (first_ref m c hx hw hb) (second_ref m c hx hw hb) r i hi

theorem final6 : (dats m 0 c).arrAt 6 cfg0.N = Cert.RouterReferenceIdeal.Read.val_main_v90 (F := Ideal) (xArg m c) (wArg m c) (bArg m c) :=
  ranks6 m c _ fun r i hi => place2_at _ _ _ _ _ (first_ref m c hx hw hb) (second_ref m c hx hw hb) r i hi

theorem final9 : (dats m 0 c).arrAt 9 cfg0.N = Cert.RouterReferenceIdeal.Read.val_main_v93 (F := Ideal) (xArg m c) (wArg m c) (bArg m c) := by
  refine (dats m 0 c).arrAt_eq_of_cover 9 _ (fun t hf => ?_) (fun i => (covered_iff9 i).2 (by
    have h0 : (i 0).val < 1 := (i 0).isLt
    have h1 : (i 1).val < 8 := (i 1).isLt
    omega))
  have h63 := flush9 t hf
  obtain ⟨u, hu, e⟩ := stored9 m c t h63
  rw [e]
  obtain ⟨-, e0, -, e1, -⟩ := idx_facts9 t
  funext y
  have hy0 : (y 0).val < 1 := (y 0).isLt
  have hy1 : (y 1).val < 8 := (y 1).isLt
  let k : Fin 8 := ⟨(y 1).val, hy1⟩
  have hj : (((cfg0.win 9).blk t).view.emb y 1).val = k.val := by
    show win0_9.index t (1 : Fin 2) * 8 + 1 * (y 1).val = (y 1).val
    omega
  have hy : (cfg0.win 9).xinj (grid0.coords t) y = (ix2 (0 : Fin 1) k : S1x8.Idx) := funext fun a => Fin.ext (by
    match a with
    | ⟨0, _⟩ => show (y 0).val = 0; omega
    | ⟨1, _⟩ => rfl)
  show firstSlots (xs m c t) (ws m c t) (bs m c t) u ((cfg0.win 9).xinj (grid0.coords t) y)
    = Cert.RouterReferenceIdeal.Read.val_main_v93 (F := Ideal) (xArg m c) (wArg m c) (bArg m c) (((cfg0.win 9).blk t).view.emb y)
  rw [hy]
  refine Eq.trans ?_ (base_row_at _ _ _ _ _ (first_ref m c hx hw hb) (second_ref m c hx hw hb) k _ hj).symm
  exact firstSlots_at (block_fits t) (block_first m c t) (block_second m c t) hu (by omega) k

theorem final10 : (dats m 0 c).arrAt 10 cfg0.N = Cert.RouterReferenceIdeal.Read.val_main_v62 (F := Ideal) (xArg m c) (wArg m c) (bArg m c) := by
  refine (dats m 0 c).arrAt_eq_of_cover 10 _ (fun t hf => ?_) (fun i => (covered_iff10 i).2 (by
    have h0 : (i 0).val < 136 := (i 0).isLt
    have h1 : (i 1).val < 1 := (i 1).isLt
    omega))
  have h63 := flush10 t hf
  obtain ⟨u, hu, e⟩ := stored10 m c t h63
  rw [e]
  obtain ⟨-, e0, -, e1, -⟩ := idx_facts10 t
  funext y
  have hy0 : (y 0).val < 136 := (y 0).isLt
  have hy1 : (y 1).val < 1 := (y 1).isLt
  let q : Fin 136 := ⟨(y 0).val, hy0⟩
  have hj : (((cfg0.win 10).blk t).view.emb y 0).val = q.val := by
    show win0_10.index t (0 : Fin 2) * 136 + 1 * (y 0).val = (y 0).val
    omega
  have hy : (cfg0.win 10).xinj (grid0.coords t) y = (ix2 q (0 : Fin 1) : S136x1.Idx) := funext fun a => Fin.ext (by
    match a with
    | ⟨0, _⟩ => rfl
    | ⟨1, _⟩ => show (y 1).val = 0; omega)
  obtain ⟨E, hE⟩ := exists_owner (firstOf m c) (secondOf m c) (q.val * 256)
  show tileExperts (xs m c t) (ws m c t) (bs m c t) u ((cfg0.win 10).xinj (grid0.coords t) y)
    = Cert.RouterReferenceIdeal.Read.val_main_v62 (F := Ideal) (xArg m c) (wArg m c) (bArg m c) (((cfg0.win 10).blk t).view.emb y)
  rw [hy]
  refine Eq.trans ?_ (owner_at _ _ _ _ _ (first_ref m c hx hw hb) (second_ref m c hx hw hb) q E hE _ hj).symm
  exact tileExperts_at (block_fits t) (block_first m c t) (block_second m c t) hu (by omega) q 0 E hE

end

end Cert.Proof.Router

end
-- ==== Proof.Router.Claims.lean ====
/-
  The claims of the router's program: it runs and leaves its arguments, the ideal program names its mask −∞, and both
  programs end with the reference's results.
-/
module

public import proofs.«01_k».proof.Defs
public import proofs.«01_k».proof.Proof.Gen.Router.Frame
public import proofs.«01_k».proof.Proof.Gen.RouterIdeal.Frame
public import proofs.«01_k».proof.Proof.Gen.Pre_finite
public import proofs.«01_k».proof.Proof.Router.Body
public import proofs.«01_k».proof.Proof.Router.Finite
public import proofs.«01_k».proof.Proof.Router.FinalCount

@[expose] public section

noncomputable section

namespace Cert.Proof.Router

open Idealize.ShloMosaic Idealize.ShloMosaic.TcCoe Idealize.SL.Sem
open Cert.RouterReferenceIdeal.Read

theorem facts_kernel : Cert.Router.Facts := Cert.Router.Gen.facts
theorem facts_ideal : Cert.RouterIdeal.Facts := Cert.RouterIdeal.Gen.facts
theorem facts_reference : Cert.RouterReferenceIdeal.Facts := Cert.RouterReferenceIdeal.Gen.facts
theorem facts_finite : Cert.Pre_finite.Facts := Cert.Pre_finite.Gen.facts

theorem frame_kernel : Cert.quiescent_Router (hRouter := facts_kernel) := fun m ρ _ => Cert.Router.Gen.frame m ρ

theorem frame_ideal : Cert.quiescent_RouterIdeal (hRouterIdeal := facts_ideal) := fun m ρ _ => Cert.RouterIdeal.Gen.frame m ρ

theorem frame_ideal_finite : Cert.quiescent_RouterIdeal_pre_finite (hRouterIdeal := facts_ideal) (hPre_finite := facts_finite) :=
  fun m ρ _ => frame_ideal m ρ trivial

/-- The reference declares no semaphore. -/
theorem frame_reference : Cert.quiescent_RouterReferenceIdeal (hRouterReferenceIdeal := facts_reference) := fun m ρ _ =>
  (θ_run Cert.RouterReferenceIdeal.defs _ _).mono
    (fun r h => ⟨fun c => (h c).2.2.2.2.2.2.2.2.2, sem_eq_zero_of_no_sems (by decide) r.2⟩)
    (Cert.RouterReferenceIdeal.Value.run (F := Ideal) m ρ)

theorem frame_reference_finite :
    Cert.quiescent_RouterReferenceIdeal_pre_finite (hRouterReferenceIdeal := facts_reference) (hPre_finite := facts_finite) :=
  fun m ρ _ => frame_reference m ρ trivial

/-- The mask stands for −∞. -/
theorem mask_named : Cert.preserves_Router_RouterIdeal := IdealRules.named_const.statement _ _ _ _ _ rfl

/-- Of finite arguments both programs choose the same experts with the same weights, and queue the tokens alike. -/
theorem same_choice : Cert.algebraic_RouterIdeal_RouterReferenceIdeal_pre_finite (hRouterIdeal := facts_ideal)
    (hRouterReferenceIdeal := facts_reference) (hPre_finite := facts_finite) := fun m ρ m' ρ' hp hm =>
  have hA := fun c => entries_real _ _ _ (hp c)
  ⟨fun c => val_main_v16 (F := Ideal) (xArg m c) (wArg m c) (bArg m c),
    fun c => val_main_v17 (F := Ideal) (xArg m c) (wArg m c) (bArg m c),
    fun c => val_main_v76 (F := Ideal) (xArg m c) (wArg m c) (bArg m c),
    fun c => val_main_v90 (F := Ideal) (xArg m c) (wArg m c) (bArg m c),
    fun c => val_main_v91 (F := Ideal) (xArg m c) (wArg m c) (bArg m c),
    fun c => val_main_v92 (F := Ideal) (xArg m c) (wArg m c) (bArg m c),
    fun c => val_main_v93 (F := Ideal) (xArg m c) (wArg m c) (bArg m c),
    fun c => val_main_v62 (F := Ideal) (xArg m c) (wArg m c) (bArg m c),
    fun c => xArg m c,
    (θ_run Cert.RouterIdeal.defs _ _).mono
      (fun r h c => by
        obtain ⟨h3, h4, h5, h6, h7, h8, h9, h10, h11, hargs⟩ := h c
        obtain ⟨hx, hw, hb⟩ := hA c
        exact ⟨h3.trans (final3 m c hx hw hb),
          h4.trans (final4 m c hx hw hb),
          h5.trans (final5 m c hx hw hb),
          h6.trans (final6 m c hx hw hb),
          h7.trans (final7 m c hx hw hb),
          h8.trans (final8 m c hx hw hb),
          h9.trans (final9 m c hx hw hb),
          h10.trans (final10 m c hx hw hb),
          h11.trans (final11 m c), hargs⟩)
      (Cert.RouterIdeal.Value.run_blocks m ρ),
    (θ_run Cert.RouterReferenceIdeal.defs _ _).mono
      (fun r h c => by
        obtain ⟨h0, h1, h2, h3, h4, h5, h6, h7, h8, hargs⟩ := h c
        obtain ⟨e0, e1, e2⟩ := hm c
        exact ⟨h0.trans ((val_main_v16_eq _ _ _).trans (congr (congr (congrArg (val_main_v16 (F := Ideal)) e0) e1) e2)),
          h1.trans ((val_main_v17_eq _ _ _).trans (congr (congr (congrArg (val_main_v17 (F := Ideal)) e0) e1) e2)),
          h2.trans ((val_main_v76_eq _ _ _).trans (congr (congr (congrArg (val_main_v76 (F := Ideal)) e0) e1) e2)),
          h3.trans ((val_main_v90_eq _ _ _).trans (congr (congr (congrArg (val_main_v90 (F := Ideal)) e0) e1) e2)),
          h4.trans ((val_main_v91_eq _ _ _).trans (congr (congr (congrArg (val_main_v91 (F := Ideal)) e0) e1) e2)),
          h5.trans ((val_main_v92_eq _ _ _).trans (congr (congr (congrArg (val_main_v92 (F := Ideal)) e0) e1) e2)),
          h6.trans ((val_main_v93_eq _ _ _).trans (congr (congr (congrArg (val_main_v93 (F := Ideal)) e0) e1) e2)),
          h7.trans ((val_main_v62_eq _ _ _).trans (congr (congr (congrArg (val_main_v62 (F := Ideal)) e0) e1) e2)),
          h8.trans e0, hargs⟩)
      (Cert.RouterReferenceIdeal.Value.run (F := Ideal) m' ρ')⟩

end Cert.Proof.Router

end
-- ==== Proof.Sc.Stream.lean ====
/-
  One tile of a double-buffered row gather, in general: the program a tile runs (fetch the tile's row
  numbers, then for every chunk of 128 of them gather the rows of a table into one of two row buffers while the
  other is written out), and its run, over any signature, thread and float values. The program is given as a
  recursion over the chunks, so that the run is an induction: each chunk is proved once.

  The value is carried all along: `target` is what the output's rows are to hold, and the run ends with every row
  of the tile's block equal to it.
-/
module

public import Idealize.ShloMosaic.Lib.SparseCore.Quiescent
public import Idealize.ShloMosaic.Lib.SparseCore.Ops
public import Idealize.ShloMosaic.Lib.SparseCore.Stream
public import Idealize.ShloMosaic.Lib.Tactic

@[expose] public section

noncomputable section

namespace Cert.Proof.Sc

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-- An array of `n` rows of 2 × 128 words. -/
abbrev Rows (n : ℕ) : Shape := ⟨3, ![n, 2, 128]⟩
/-- A list of `n` row numbers. -/
abbrev Lst (n : ℕ) : Shape := ⟨1, ![n]⟩

/-- What one tile of the gather works on: the table, its row numbers in HBM and their scratch, the output array and
    the offsets of its chunks of 128 rows there, the two row buffers, and the semaphores: one for the fetch of the row
    numbers, one for each row buffer's gathers, one for each chunk's write-out. -/
structure Tile (sig : RefSig) (nt len no n : ℕ) where
  tbl : Memref sig .scVector .hbm (Rows nt) .f32
  ids : Memref sig .scVector .hbm (Lst len) .i32
  lst : Memref sig .scVector .vmem (Lst len) .i32
  hlst : lst.IsWhole
  out : Memref sig .scVector .hbm (Rows no) .f32
  off : ℕ → Fin 3 → ℕ
  hoff : ∀ c : Fin n, ∀ a, off c.val a + (Rows 128).size a ≤ (Rows no).size a
  hlen : ∀ c : Fin n, ∀ a, (![128 * c.val] : Fin 1 → ℕ) a + (Lst 128).size a ≤ (Lst len).size a
  bufA : Memref sig .scVector .vmem (Rows 128) .f32
  hbufA : bufA.IsWhole
  bufB : Memref sig .scVector .vmem (Rows 128) .f32
  hbufB : bufB.IsWhole
  semA : DmaSem sig
  semB : DmaSem sig
  fsem : DmaSem sig
  osem : Fin n → DmaSem sig
  hg : (Rows nt).Gathers 0 (Rows 128)
  hr : (Rows nt).StreamRows 0

namespace Tile

variable {sig : RefSig} {nt len no n : ℕ} (T : Tile sig nt len no n)

/-- The row buffer of a parity, -/
def buf (b : Bool) : Memref sig .scVector .vmem (Rows 128) .f32 := match b with | false => T.bufA | true => T.bufB
/-- the whole of its scratch buffer, -/
theorem hbuf (b : Bool) : (T.buf b).IsWhole := match b with | false => T.hbufA | true => T.hbufB
/-- and its gathers' semaphore. -/
def gsem (b : Bool) : DmaSem sig := match b with | false => T.semA | true => T.semB
/-- Chunk `c` of the row numbers. -/
def lstRect (c : Fin n) : Rect (Lst len) := Rect.unit (s := Lst len) ![128 * c.val] (Lst 128).size (T.hlen c)
def lstAt (c : Fin n) : Memref sig .scVector .vmem (Lst 128) .i32 := T.lst.slice (T.lstRect c) (fun _ => rfl)
/-- Chunk `c` of the output. -/
def outRect (c : Fin n) : Rect (Rows no) := Rect.unit (s := Rows no) (T.off c.val) (Rows 128).size (T.hoff c)
def outAt (c : Fin n) : Memref sig .scVector .hbm (Rows 128) .f32 := T.out.slice (T.outRect c) (fun _ => rfl)

section Prog

variable {nD : ℕ} {τ : Topo} {F : FTy → Type} {Λ : Labels} {cc : Fin τ.nSC} {jj : Fin τ.nSub}

/-- Start the gather of chunk `c` into buffer `b`. -/
def start (b : Bool) (c : Fin n) : Prog (TpuEff nD τ sig (Elt F) Λ (.scVector cc jj)) PUnit :=
  SparseCore.enqueueIndirectGather rfl T.tbl (T.buf b) T.hg (T.lstAt c) rfl (T.gsem b) (View.wordExact_bits rfl) rfl (Or.inl rfl) T.hr

/-- Wait for the gather of chunk `c` into buffer `b` and write the buffer out. -/
def drain (b : Bool) (c : Fin n) : Prog (TpuEff nD τ sig (Elt F) Λ (.scVector cc jj)) PUnit := do
  SparseCore.waitIndirectGather (T.gsem b) T.tbl (T.buf b) (View.wordExact_bits rfl) (T.hbuf b).wordExact
  Prog.lift (.enqueueDma (T.buf b) (.here (T.outAt c)) (.dma (T.osem c)) (T.hbuf b).wordExact (View.wordExact_bits rfl) ⟨Or.inl rfl, trivial⟩)
  Prog.lift (.waitDma2 (T.osem c) (T.buf b) (T.outAt c) (T.hbuf b).wordExact (View.wordExact_bits rfl))

/-- From chunk `c` on, `k` chunks following it: chunk `c` is in flight into buffer `b`. -/
def go : (k c : ℕ) → c + k < n → Bool → Prog (TpuEff nD τ sig (Elt F) Λ (.scVector cc jj)) PUnit
  | 0, c, h, b => T.drain b ⟨c, h⟩
  | k + 1, c, h, b => do
      T.start (!b) ⟨c + 1, by omega⟩
      T.drain b ⟨c, by omega⟩
      go k (c + 1) (by omega) (!b)

/-- The whole task: the fetch of the row numbers, the first gather, all the chunks. -/
def run (h : 0 + (n - 1) < n) : Prog (TpuEff nD τ sig (Elt F) Λ (.scVector cc jj)) PUnit := do
  Prog.lift (.enqueueDma T.ids (.here T.lst) (.dma T.fsem) (View.wordExact_bits rfl) T.hlst.wordExact ⟨Or.inl rfl, trivial⟩)
  Prog.lift (.waitDma2 T.fsem T.ids T.lst (View.wordExact_bits rfl) T.hlst.wordExact)
  T.start false ⟨0, by omega⟩
  T.go (n - 1) 0 h false

end Prog

end Tile

end Cert.Proof.Sc

end
-- ==== Proof.Sc.Call1.lean ====
/-
  The second call's kernel as the general gather: its task on a vector subcore IS `Tile.run` of the record `tile1`.
-/
module

public import proofs.«01_k».proof.Proof.Sc.Stream
public import proofs.«01_k».proof.Defs
public import proofs.«01_k».proof.Proof.Gen.KernelIdeal

@[expose] public section

noncomputable section

namespace Cert.Proof.Sc

open Cert.KernelIdeal Cert.KernelIdeal.Gen
open Idealize.ShloMosaic

theorem osem1_lt (c : Fin 32) : (50 + c.val) + S_.numel ≤ 93 := by
  have : S_.numel = 1 := rfl
  omega

theorem hlen1 (c : Fin 32) : ∀ a, (![128 * c.val] : Fin 1 → ℕ) a + (Lst 128).size a ≤ (Lst 4096).size a := by
  intro a
  match a with
  | 0 => show 128 * c.val + 128 ≤ 4096; omega

/-- The second call's task on subcore `L`. -/
def tile1 (L : grid2.Coords) : Tile sig 139264 4096 131072 32 where
  tbl := (Memref.whole main_v26_scv).slice (Rect.unit (s := S139264x2x128) ![0, 0, 0] S139264x2x128.size inb_S139264x2x128_S139264x2x128_0_0_0) (fun _ => rfl)
  ids := (Memref.whole main_v27_scv).slice (Rect.unit (s := S131072) (k2_off1 L) S4096.size (k2_off1_inb L)) (fun _ => rfl)
  lst := Memref.whole cc2_scratch0
  hlst := Memref.isWhole_whole _
  out := Memref.whole main_v28_scv
  off := fun c => k2_off2 L (BitVec.ofNat 32 (128 * c))
  hoff := k2_off2_inb L
  hlen := hlen1
  bufA := Memref.whole cc2_scratch1
  hbufA := Memref.isWhole_whole _
  bufB := Memref.whole cc2_scratch2
  hbufB := Memref.isWhole_whole _
  semA := cc2_scratch3.sem
  semB := cc2_scratch4.sem
  fsem := cc2_scoped0.sem
  osem := fun c => (SemArray.consecutive (50 + c.val) S_ (osem1_lt c) : DmaSems sig S_).sem
  hg := gathers_S139264x2x128_S128x2x128
  hr := by decide

variable {F : FTy → Type} [FloatOps F]

set_option maxRecDepth 65536 in
theorem kernel1_eq (L : grid2.Coords) :
    cc2_gather_k (F := F) L (Memref.whole main_v26_scv) (Memref.isWhole_whole _) (Memref.whole main_v27_scv) (Memref.isWhole_whole _) (Memref.whole main_v28_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32
      = (tile1 L).run (by decide) := rfl

end Cert.Proof.Sc

end
-- ==== Proof.Sc.Call0.lean ====
/-
  The first call's kernel as the general gather: its task on a vector subcore IS `Tile.run` of the record `tile0`.
-/
module

public import proofs.«01_k».proof.Proof.Sc.Stream
public import proofs.«01_k».proof.Defs
public import proofs.«01_k».proof.Proof.Gen.KernelIdeal

@[expose] public section

noncomputable section

namespace Cert.Proof.Sc

open Cert.KernelIdeal Cert.KernelIdeal.Gen
open Idealize.ShloMosaic

theorem osem0_lt (c : Fin 34) : (3 + c.val) + S_.numel ≤ 93 := by
  have : S_.numel = 1 := rfl
  omega

theorem hlen0 (c : Fin 34) : ∀ a, (![128 * c.val] : Fin 1 → ℕ) a + (Lst 128).size a ≤ (Lst 4352).size a := by
  intro a
  match a with
  | 0 => show 128 * c.val + 128 ≤ 4352; omega

/-- The first call's task on subcore `L`. -/
def tile0 (L : grid0.Coords) : Tile sig 65536 4352 139264 34 where
  tbl := (Memref.whole main_v11_scv).slice (Rect.unit (s := S65536x2x128) ![0, 0, 0] S65536x2x128.size inb_S65536x2x128_S65536x2x128_0_0_0) (fun _ => rfl)
  ids := (Memref.whole main_v12_scv).slice (Rect.unit (s := S139264) (k0_off1 L) S4352.size (k0_off1_inb L)) (fun _ => rfl)
  lst := Memref.whole cc0_scratch0
  hlst := Memref.isWhole_whole _
  out := Memref.whole main_v13_scv
  off := fun c => k0_off2 L (BitVec.ofNat 32 (128 * c))
  hoff := k0_off2_inb L
  hlen := hlen0
  bufA := Memref.whole cc0_scratch1
  hbufA := Memref.isWhole_whole _
  bufB := Memref.whole cc0_scratch2
  hbufB := Memref.isWhole_whole _
  semA := cc0_scratch3.sem
  semB := cc0_scratch4.sem
  fsem := cc0_scoped0.sem
  osem := fun c => (SemArray.consecutive (3 + c.val) S_ (osem0_lt c) : DmaSems sig S_).sem
  hg := gathers_S65536x2x128_S128x2x128
  hr := by decide

variable {F : FTy → Type} [FloatOps F]

set_option maxRecDepth 65536 in
theorem kernel0_eq (L : grid0.Coords) :
    cc0_gather_k (F := F) L (Memref.whole main_v11_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34
      = (tile0 L).run (by decide) := rfl

end Cert.Proof.Sc

end
-- ==== Proof.Sc.Run.lean ====
/-
  The run of one tile's gather (Stream.lean): from shares of the table and of the row numbers, its own scratch and its
  block of the output, with its semaphores at zero, every chunk of the block ends at `target`'s rows.
-/
module

public import proofs.«01_k».proof.Proof.Sc.Stream

@[expose] public section

noncomputable section

namespace Cert.Proof.Sc

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

namespace Tile

variable {nD : ℕ} {τ : Topo} {sig : RefSig} {Ix : Type} [DecidableEq Ix] {F : FTy → Type} {U : Type} [URA U] [CountersIn U]
variable {Lvl : Type} [Preorder Lvl] {Λ : Labels}
variable {defs : Defs nD τ sig (Elt F) Λ} (𝒱 : Variants)

local notation "𝕄" => MT nD τ sig Ix (Elt F) ℕ U Lvl

variable {nt len no n : ℕ} (T : Tile sig nt len no n)
variable (d : Dev nD) (cc : Fin τ.nSC) (jj : Fin τ.nSub) (bd : Option 𝒱.V) (ι : Ix)

/-- A row buffer's credit is its rows' sum (`hcr`: the signature counts SparseCore transfers by the bits moved). -/
def CreditByBits : Prop := ∀ (b : Bool) (s' : Shape),
  sig.dmaCredit .scVector (Kind.table .scVector .vmem) (T.buf b).view.buf s' .f32 = s'.numel * 32

variable (tv : Buf (Elt F) (T.tbl.view.loc (V d cc jj))) (lv : Buf (Elt F) (T.lst.view.loc (V d cc jj)))

/-- Every row number names a row of the table. -/
def InRange : Prop := ∀ (c : Fin n) x, ((T.lstAt c).view.read (Elt F) lv x).toNat < (Rows nt).size T.hg.axis

variable (hin : T.InRange d cc jj lv)

/-- What chunk `c`'s gather brings. -/
def rowsOf (c : Fin n) : (Rows 128).Idx → Elt F .f32 :=
  SparseCore.gatherPayload T.hg (T.tbl.view.read (Elt F) tv) (SparseCore.rows ((T.lstAt c).view.read (Elt F) lv) rfl (hin c))

/-- One of the two halves of a share. -/
def half (q : PosShare TreeShare) : Bool → PosShare TreeShare
  | false => q.left
  | true => q.right

/-- A row buffer at rest: its shares of the table and of the row numbers, the buffer, its semaphore at zero. -/
def Free (q : PosShare TreeShare) (b : Bool) : sProp 𝕄 :=
  iprop((T.tbl.view.loc (V d cc jj) ↦{half q b} tv) ∗ (T.lst.view.loc (V d cc jj) ↦{half fullShare b} lv)
    ∗ (∃ f, (T.buf b).view.loc (V d cc jj) ↦{fullShare} f) ∗ semVal ((V d cc jj), SemLoc.dma (T.gsem b)) 0)

/-- What the gather of chunk `c` into buffer `b` delivers at its wait. -/
def Landed (q : PosShare TreeShare) (b : Bool) (c : Fin n) : sProp 𝕄 :=
  iprop((∃ f, ⌜(T.buf b).view.read (Elt F) f = T.rowsOf d cc jj tv lv hin c⌝ ∗ (T.buf b).view.loc (V d cc jj) ↦{fullShare} f)
    ∗ (T.tbl.view.loc (V d cc jj) ↦[T.tbl.view.set]{half q b} tv) ∗ ((T.lstAt c).view.loc (V d cc jj) ↦[(T.lstAt c).view.set]{half fullShare b} lv))

/-- The gather of chunk `c` into buffer `b`, in flight. -/
def InFlight (q : PosShare TreeShare) (b : Bool) (c : Fin n) : sProp 𝕄 :=
  iprop(Flight (countersEmb (nD := nD) (τ := τ) (sig := sig) (Ix := Ix) (Val := Elt F) (Name := ℕ) (U := U) (Lvl := Lvl)) (V d cc jj) (.dma (T.gsem b)) ι
      (T.buf b).view.dmaCredit (T.Landed d cc jj tv lv hin q b c)
    ∗ (T.tbl.view.loc (V d cc jj) ↦[Finset.univ \ T.tbl.view.set]{half q b} tv)
    ∗ ((T.lstAt c).view.loc (V d cc jj) ↦[Finset.univ \ (T.lstAt c).view.set]{half fullShare b} lv))

variable {α : Type} {Q : α → sProp (MT nD τ sig Ix (Elt F) ℕ U Lvl)}

/-- The start of a gather: a row buffer at rest becomes one in flight. -/
theorem wp_start (hcr : T.CreditByBits) (q : PosShare TreeShare) (b : Bool) (c : Fin n)
    {k : PUnit → Prog (TpuEff nD τ sig (Elt F) Λ (.scVector cc jj)) α} :
    (T.Free d cc jj tv lv q b : sProp 𝕄)
      ⊢ iprop((T.InFlight d cc jj ι tv lv hin q b c -∗ wp frame (wpE defs 𝒱 (V d cc jj) bd) Set.univ (k ⟨⟩) Q)
          -∗ wp frame (wpE defs 𝒱 (V d cc jj) bd) Set.univ (T.start b c >>= k) Q) := by
  unfold Free start
  have hpos : 0 < (Rows 128).numel := by decide
  iintro ⟨Ht, Hl, ⟨%f, Hb⟩, Hs⟩ Hk
  ihave Ht' := (pointsTo_split_subset (Finset.subset_univ T.tbl.view.set)).1 $$ Ht
  icases Ht' with ⟨Ht, Htr⟩
  ihave Hl' := (pointsTo_split_subset (Finset.subset_univ (T.lstAt c).view.set)).1 $$ Hl
  icases Hl' with ⟨Hl, Hlr⟩
  have hset : (T.buf b).view.set = Finset.univ := (T.hbuf b).set_eq_univ
  ihave Hb' := (Entails.of_eq (show ((T.buf b).view.loc (V d cc jj) ↦{fullShare} f : sProp 𝕄)
      = (T.buf b).view.loc (V d cc jj) ↦[(T.buf b).view.set]{fullShare} f by rw [hset])) $$ Hb
  iapply (SparseCore.wp_indirectGatherLocal countersEmb 𝒱 (V d cc jj) bd (src := T.tbl) (dst := T.buf b) (offs := T.lstAt c) (hg := T.hg) ι (T.buf b).view.dmaCredit
    (SparseCore.sum_rowCredit_eq_dmaCredit (T.buf b) _ (hcr b)) hpos (hin c)) $$ [Ht Hb' Hl Hs]
  · isplitl [Ht]; · iexact Ht
    isplitl [Hb']; · iexact Hb'
    isplitl [Hl]; · iexact Hl
    iexact Hs
  iintro Hfl
  iapply Hk
  unfold InFlight
  isplitl [Hfl]
  · iapply (Flight_mono countersEmb (V d cc jj) (D' := T.Landed d cc jj tv lv hin q b c) (by
      unfold Landed
      iintro ⟨Hb, Ht, Hl⟩
      isplitl [Hb]
      · iexists _
        isplitr
        swap
        · iapply (Entails.of_eq (show ((T.buf b).view.loc (V d cc jj) ↦[(T.buf b).view.set]{fullShare} _ : sProp 𝕄)
            = (T.buf b).view.loc (V d cc jj) ↦{fullShare} _ by rw [hset]))
          iexact Hb
        · ipureintro
          exact View.read_write_univ _ _
      isplitl [Ht]; · iexact Ht
      iexact Hl)) $$ Hfl
  isplitl [Htr]; · iexact Htr
  iexact Hlr

variable (Sd : Finset (Idx (T.out.view.loc (V d cc jj)))) (target : (Rows no).Idx → Elt F .f32)

/-- The chunks before number `c` are written out. -/
def Done (c : ℕ) : sProp 𝕄 :=
  iprop(∃ f : Buf (Elt F) (T.out.view.loc (V d cc jj)), ⌜∀ c' : Fin n, c'.val < c → ∀ y : (Rows 128).Idx, T.out.view.read (Elt F) f ((T.outRect c').emb y) = target ((T.outRect c').emb y)⌝
    ∗ T.out.view.loc (V d cc jj) ↦[Sd]{fullShare} f)

/-- The write-outs' semaphores, all at zero. -/
def Sems : sProp 𝕄 := bigSep Finset.univ fun c : Fin n => semVal ((V d cc jj), SemLoc.dma (T.osem c)) 0

/-- What the thread owes, its waits recorded so far those of `W` and waits of the index `ι`. -/
def Owes (O : CellTallies nD τ sig Ix) (W : Waits sig Ix) : sProp 𝕄 :=
  iprop(∃ W', ⌜∀ p ∈ W', p ∈ W ∨ p.2 = ι⌝ ∗ owes (V d cc jj) O W')

variable (O : CellTallies nD τ sig Ix) (W : Waits sig Ix)

/-- The wait for chunk `c`'s gather and its write-out: the buffer is at rest again and one more chunk is done. -/
theorem wp_drain (q : PosShare TreeShare) (b : Bool) (c : Fin n) (hSd : (T.outAt c).view.set ⊆ Sd)
    (hT : ∀ y, T.rowsOf d cc jj tv lv hin c y = target ((T.outRect c).emb y))
    {k : PUnit → Prog (TpuEff nD τ sig (Elt F) Λ (.scVector cc jj)) α} :
    (iprop(MayWaits (V d cc jj) ι O ∗ T.InFlight d cc jj ι tv lv hin q b c ∗ T.Done d cc jj Sd target c.val ∗ T.Sems d cc jj ∗ Owes d cc jj ι O W) : sProp 𝕄)
      ⊢ iprop((iprop(T.Free d cc jj tv lv q b ∗ T.Done d cc jj Sd target (c.val + 1) ∗ T.Sems d cc jj ∗ Owes d cc jj ι O W)
            -∗ wp frame (wpE defs 𝒱 (V d cc jj) bd) Set.univ (k ⟨⟩) Q)
          -∗ wp frame (wpE defs 𝒱 (V d cc jj) bd) Set.univ (T.drain b c >>= k) Q) := by
  unfold InFlight Done Owes Sems
  rw [SparseCore.bigSep_erase' (Finset.mem_univ c)]
  iintro ⟨#Hmw, ⟨Hfl, Htr, Hlr⟩, ⟨%f, %hf, Ho⟩, ⟨Hsem, Hsems⟩, ⟨%W', %hW, HO⟩⟩ Hk
  -- the wait for the gather
  iapply (Transfers.wp_waitLocalO countersEmb 𝒱 (V d cc jj) bd ι (rfl : (T.buf b).view.dmaCredit = _)
    (k := fun _ => (do
      Prog.lift (.enqueueDma (T.buf b) (.here (T.outAt c)) (.dma (T.osem c)) (T.hbuf b).wordExact (View.wordExact_bits rfl) ⟨Or.inl rfl, trivial⟩)
      Prog.lift (.waitDma2 (T.osem c) (T.buf b) (T.outAt c) (T.hbuf b).wordExact (View.wordExact_bits rfl)) >>= k))) $$ [Hfl HO]
  · isplitl [Hfl]; · iexact Hfl
    isplitl [HO]; · iexact HO
    iapply (Transfers.MayWaits.elim (SemLoc.dma (T.gsem b))) $$ Hmw
  unfold Landed
  iintro ⟨⟨⟨%g, %hg, Hb⟩, Ht, Hl⟩, Hgs, HO⟩
  -- the write-out
  have hset : (T.buf b).view.set = Finset.univ := (T.hbuf b).set_eq_univ
  ihave Hb' := (Entails.of_eq (show ((T.buf b).view.loc (V d cc jj) ↦{fullShare} g : sProp 𝕄)
      = (T.buf b).view.loc (V d cc jj) ↦[(T.buf b).view.set]{fullShare} g by rw [hset])) $$ Hb
  iapply (Transfers.wp_dmaLocal countersEmb 𝒱 (V d cc jj) bd (src := T.buf b) (via := .same) (dst := T.outAt c) (sm := .dma (T.osem c)) ι
    (T.outAt c).view.dmaCredit rfl (View.dmaCredit_pos _ (by decide)) hSd
    (k := fun _ => (Prog.lift (.waitDma2 (T.osem c) (T.buf b) (T.outAt c) (T.hbuf b).wordExact (View.wordExact_bits rfl)) >>= k))) $$ [Hb' Ho Hsem]
  · isplitl [Hb']; · iexact Hb'
    isplitl [Ho]; · iexact Ho
    iexact Hsem
  iintro Hfl
  -- its wait
  iapply (Transfers.wp_waitLocalO countersEmb 𝒱 (V d cc jj) bd ι (rfl : (T.outAt c).view.dmaCredit = _) (k := k)) $$ [Hfl HO]
  · isplitl [Hfl]; · iexact Hfl
    isplitl [HO]; · iexact HO
    iapply (Transfers.MayWaits.elim (SemLoc.dma (T.osem c))) $$ Hmw
  iintro ⟨⟨Ho, Hb⟩, Hsem, HO⟩
  iapply Hk
  unfold Free
  isplitl [Ht Htr Hl Hlr Hb Hgs]
  · isplitl [Ht Htr]
    · iapply (pointsTo_split_subset (Finset.subset_univ T.tbl.view.set)).2
      isplitl [Ht] <;> iassumption
    isplitl [Hl Hlr]
    · iapply (pointsTo_split_subset (ℓ := T.lst.view.loc (V d cc jj)) (Finset.subset_univ (T.lstAt c).view.set)).2
      isplitl [Hl]; · iexact Hl
      iexact Hlr
    isplitl [Hb]
    · iexists g
      iapply (Entails.of_eq (show ((T.buf b).view.loc (V d cc jj) ↦[(T.buf b).view.set]{fullShare} g : sProp 𝕄)
        = (T.buf b).view.loc (V d cc jj) ↦{fullShare} g by rw [hset]))
      iexact Hb
    iexact Hgs
  isplitl [Ho]
  · iexists _
    isplitr
    swap
    · iexact Ho
    · ipureintro
      intro c' hc' y
      by_cases hm : (T.outRect c').emb y ∈ Finset.univ.map (T.outRect c).emb
      · obtain ⟨y', -, hy'⟩ := Finset.mem_map.mp hm
        rw [← hy']
        refine (View.read_slice_write_emb (v := T.out.view) (T.outRect c) f _ (Finset.mem_univ y')).trans ?_
        rw [← hT y', ← hg]
      · refine (View.read_slice_write_of_not_mem (v := T.out.view) (T.outRect c) f _ _ hm).trans ?_
        refine hf c' (lt_of_le_of_ne (Nat.lt_succ_iff.mp hc') fun e => hm ?_) y
        rw [Fin.ext e]
        exact Finset.mem_map_of_mem _ (Finset.mem_univ y)
  isplitl [Hsem Hsems]
  · isplitl [Hsem] <;> iassumption
  iexists _
  isplitr
  swap
  · iexact HO
  · ipureintro
    intro p hp
    rcases Finset.mem_insert.mp hp with hp | hp
    · exact .inr (hp ▸ rfl)
    rcases Finset.mem_insert.mp hp with hp | hp
    · exact .inr (hp ▸ rfl)
    exact hW p hp

/-- All the chunks from `c` on: by induction on how many follow. -/
theorem wp_go (hcr : T.CreditByBits) (q : PosShare TreeShare) (hSd : ∀ c, (T.outAt c).view.set ⊆ Sd)
    (hT : ∀ c y, T.rowsOf d cc jj tv lv hin c y = target ((T.outRect c).emb y)) :
    ∀ (k c : ℕ) (h : c + k < n) (b : Bool) (R : PUnit → Prog (TpuEff nD τ sig (Elt F) Λ (.scVector cc jj)) α),
    (iprop(MayWaits (V d cc jj) ι O ∗ T.InFlight d cc jj ι tv lv hin q b ⟨c, by omega⟩ ∗ T.Free d cc jj tv lv q (!b)
        ∗ T.Done d cc jj Sd target c ∗ T.Sems d cc jj ∗ Owes d cc jj ι O W) : sProp 𝕄)
      ⊢ iprop((iprop(T.Free d cc jj tv lv q false ∗ T.Free d cc jj tv lv q true ∗ T.Done d cc jj Sd target (c + k + 1) ∗ T.Sems d cc jj ∗ Owes d cc jj ι O W)
            -∗ wp frame (wpE defs 𝒱 (V d cc jj) bd) Set.univ (R ⟨⟩) Q)
          -∗ wp frame (wpE defs 𝒱 (V d cc jj) bd) Set.univ (T.go k c h b >>= R) Q)
  | 0, c, h, b, R => by
    rw [go]
    iintro ⟨#Hmw, Hfl, Hfr, Hd, Hs, HO⟩ Hk
    iapply (T.wp_drain 𝒱 d cc jj bd ι tv lv hin Sd target O W q b ⟨c, h⟩ (hSd _) (hT _)) $$ [Hfl Hd Hs HO]
    · isplitr; · iexact Hmw
      isplitl [Hfl]; · iexact Hfl
      isplitl [Hd]; · iexact Hd
      isplitl [Hs] <;> iassumption
    iintro ⟨Hfl, Hd, Hs, HO⟩
    iapply Hk
    cases b with
    | false =>
      isplitl [Hfl]; · iexact Hfl
      isplitl [Hfr]; · iexact Hfr
      isplitl [Hd]; · iexact Hd
      isplitl [Hs] <;> iassumption
    | true =>
      isplitl [Hfr]; · iexact Hfr
      isplitl [Hfl]; · iexact Hfl
      isplitl [Hd]; · iexact Hd
      isplitl [Hs] <;> iassumption
  | k + 1, c, h, b, R => by
    rw [go, show c + (k + 1) + 1 = (c + 1) + k + 1 by omega]
    simp only [Prog.bind_assoc]
    have hc : c < n := by omega
    have hc1 : c + 1 < n := by omega
    have hk : c + 1 + k < n := by omega
    iintro ⟨#Hmw, Hfl, Hfr, Hd, Hs, HO⟩ Hk
    iapply (T.wp_start 𝒱 d cc jj bd ι tv lv hin hcr q (!b) ⟨c + 1, hc1⟩) $$ Hfr
    iintro Hfl2
    iapply (T.wp_drain 𝒱 d cc jj bd ι tv lv hin Sd target O W q b ⟨c, hc⟩ (hSd _) (hT _)) $$ [Hfl Hd Hs HO]
    · isplitr; · iexact Hmw
      isplitl [Hfl]; · iexact Hfl
      isplitl [Hd]; · iexact Hd
      isplitl [Hs] <;> iassumption
    iintro ⟨Hfr, Hd, Hs, HO⟩
    iapply (wp_go hcr q hSd hT k (c + 1) hk (!b) R) $$ [Hfl2 Hfr Hd Hs HO]
    · isplitr; · iexact Hmw
      isplitl [Hfl2]; · iexact Hfl2
      isplitl [Hfr]; · rw [Bool.not_not]; iexact Hfr
      isplitl [Hd]; · iexact Hd
      isplitl [Hs] <;> iassumption
    iexact Hk

/-- What the task needs to know of the row numbers `iv` it fetches: wherever the scratch holds them, they name rows of
    the table, and the rows they name are `target`'s. -/
def Brings (iv : Buf (Elt F) (T.ids.view.loc (V d cc jj))) : Prop :=
  ∀ lv : Buf (Elt F) (T.lst.view.loc (V d cc jj)), T.lst.view.read (Elt F) lv = T.ids.view.read (Elt F) iv →
    ∃ hin : T.InRange d cc jj lv, ∀ c y, T.rowsOf d cc jj tv lv hin c y = target ((T.outRect c).emb y)

/-- What the task holds at its start and, but for the output, at its end. -/
def Own (q qi : PosShare TreeShare) (iv : Buf (Elt F) (T.ids.view.loc (V d cc jj))) : sProp 𝕄 :=
  iprop((T.tbl.view.loc (V d cc jj) ↦{q} tv) ∗ (T.ids.view.loc (V d cc jj) ↦[T.ids.view.set]{qi} iv)
    ∗ (∃ f, T.lst.view.loc (V d cc jj) ↦{fullShare} f) ∗ (∃ f, T.bufA.view.loc (V d cc jj) ↦{fullShare} f)
    ∗ (∃ f, T.bufB.view.loc (V d cc jj) ↦{fullShare} f) ∗ semVal (V d cc jj, SemLoc.dma T.fsem) 0
    ∗ semVal (V d cc jj, SemLoc.dma T.semA) 0 ∗ semVal (V d cc jj, SemLoc.dma T.semB) 0 ∗ T.Sems d cc jj ∗ Owes d cc jj ι O W)

/-- The whole task: the fetch of the row numbers, its wait, all the chunks. -/
theorem wp_task (hcr : T.CreditByBits) (q qi : PosShare TreeShare) (iv : Buf (Elt F) (T.ids.view.loc (V d cc jj)))
    (hSd : ∀ c, (T.outAt c).view.set ⊆ Sd) (hB : T.Brings d cc jj tv target iv) (h : 0 + (n - 1) < n) (hlen : 0 < len) :
    (iprop(MayWaits (V d cc jj) ι O ∗ T.Own d cc jj ι tv O W q qi iv ∗ ∃ f, T.out.view.loc (V d cc jj) ↦[Sd]{fullShare} f) : sProp 𝕄)
      ⊢ wp frame (wpE defs 𝒱 (V d cc jj) bd) Set.univ (T.run h)
          fun _ => iprop(T.Own d cc jj ι tv O W q qi iv ∗ T.Done d cc jj Sd target n) := by
  unfold Own run
  iintro ⟨#Hmw, ⟨Ht, Hi, ⟨%f, Hl⟩, HA, HB, Hfs, HsA, HsB, Hsems, HO⟩, ⟨%fo, Ho⟩⟩
  unfold Owes
  icases HO with ⟨%W', %hW, HO⟩
  have hset : T.lst.view.set = Finset.univ := T.hlst.set_eq_univ
  have hpos : 0 < (Lst len).numel := by
    show 0 < ∏ a : Fin 1, (![len] : Fin 1 → ℕ) a
    simpa using hlen
  have h0 : 0 < n := by omega
  -- the fetch
  iapply (Transfers.wp_dmaLocal countersEmb 𝒱 (V d cc jj) bd (src := T.ids) (via := .same) (dst := T.lst) (sm := .dma T.fsem) ι
    T.lst.view.dmaCredit rfl (View.dmaCredit_pos _ hpos) (Sd := Finset.univ) (Finset.subset_univ _)
    (k := fun _ => (do
      Prog.lift (.waitDma2 T.fsem T.ids T.lst (View.wordExact_bits rfl) T.hlst.wordExact)
      T.start false ⟨0, by omega⟩
      T.go (n - 1) 0 h false))) $$ [Hi Hl Hfs]
  · isplitl [Hi]; · iexact Hi
    isplitl [Hl]; · iexact Hl
    iexact Hfs
  iintro Hfl
  iapply (Transfers.wp_waitLocalO countersEmb 𝒱 (V d cc jj) bd ι (rfl : T.lst.view.dmaCredit = _)
    (k := fun _ => (do
      T.start false ⟨0, by omega⟩
      T.go (n - 1) 0 h false))) $$ [Hfl HO]
  · isplitl [Hfl]; · iexact Hfl
    isplitl [HO]; · iexact HO
    iapply (Transfers.MayWaits.elim (SemLoc.dma T.fsem)) $$ Hmw
  iintro ⟨⟨Hl, Hi⟩, Hfs, HO⟩
  obtain ⟨hin, hT⟩ := hB (T.lst.view.write (Elt F) f (T.ids.view.read (Elt F) iv) Finset.univ) (View.read_write_univ _ _)
  -- halve the shares of the table and of the row numbers
  ihave Ht' := (pointsTo_share (PosShare.mem_left_op_right q)).1 $$ Ht
  icases Ht' with ⟨HtA, HtB⟩
  ihave Hl' := (pointsTo_share (PosShare.mem_left_op_right fullShare)).1 $$ Hl
  icases Hl' with ⟨HlA, HlB⟩
  iapply (T.wp_start 𝒱 d cc jj bd ι tv _ hin hcr q false ⟨0, h0⟩ (k := fun _ => T.go (n - 1) 0 h false)) $$ [HtA HlA HA HsA]
  · unfold Free
    isplitl [HtA]; · iexact HtA
    isplitl [HlA]; · iexact HlA
    isplitl [HA]; · iexact HA
    iexact HsA
  iintro HflA
  have hgo := T.wp_go (defs := defs) (Lvl := Lvl) (U := U) 𝒱 d cc jj bd ι tv _ hin Sd target O W (α := PUnit)
    (Q := fun _ => iprop(T.Own d cc jj ι tv O W q qi iv ∗ T.Done d cc jj Sd target n)) hcr q hSd hT (n - 1) 0 h false (fun _ => .ret ⟨⟩)
  rw [show ∀ p : Prog (TpuEff nD τ sig (Elt F) Λ (.scVector cc jj)) PUnit, (p >>= fun _ => .ret ⟨⟩) = p from Prog.bind_pure] at hgo
  unfold Own at hgo
  iapply hgo $$ [HflA HtB HlB HB HsB Ho Hsems HO]
  · isplitr; · iexact Hmw
    isplitl [HflA]; · iexact HflA
    isplitl [HtB HlB HB HsB]
    · unfold Free
      isplitl [HtB]; · iexact HtB
      isplitl [HlB]; · iexact HlB
      isplitl [HB]; · iexact HB
      iexact HsB
    isplitl [Ho]
    · unfold Done
      iexists fo
      isplitr; swap; · iexact Ho
      ipureintro
      intro c' hc'; exact absurd hc' (Nat.not_lt_zero _)
    isplitl [Hsems]; · iexact Hsems
    unfold Owes
    iexists _
    isplitr; swap; · iexact HO
    ipureintro
    intro p hp
    rcases Finset.mem_insert.mp hp with hp | hp
    · exact .inr (hp ▸ rfl)
    exact hW p hp
  iintro ⟨HFA, HFB, Hd, Hsems, HO⟩
  unfold Free
  icases HFA with ⟨HtA, HlA, HA, HsA⟩
  icases HFB with ⟨HtB, HlB, HB, HsB⟩
  rw [← Prog.pure_eq_ret, wp_pure]
  imodintro
  rw [show 0 + (n - 1) + 1 = n by omega]
  isplitr [Hd]
  · isplitl [HtA HtB]
    · iapply (pointsTo_share (PosShare.mem_left_op_right q)).2
      isplitl [HtA]; · iexact HtA
      iexact HtB
    isplitl [Hi]; · iexact Hi
    isplitl [HlA HlB]
    · iexists _
      iapply (pointsTo_share (PosShare.mem_left_op_right fullShare)).2
      isplitl [HlA]; · iexact HlA
      iexact HlB
    isplitl [HA]; · iexact HA
    isplitl [HB]; · iexact HB
    isplitl [Hfs]; · iexact Hfs
    isplitl [HsA]; · iexact HsA
    isplitl [HsB]; · iexact HsB
    isplitl [Hsems]; · iexact Hsems
    iexact HO
  · iexact Hd

end Tile

end Cert.Proof.Sc
end
-- ==== Proof.Sc.Task.lean ====
/-
  One tile's task as a launch hands it over: its scratch buffers and semaphores out of the subcore's own, shares of the
  table and of the row numbers and its block of the output in, the block at the wanted rows out.
-/
module

public import proofs.«01_k».proof.Proof.Sc.Run

@[expose] public section

noncomputable section

namespace Cert.Proof.Sc

open Idealize.ShloMosaic
open Idealize.ShloMosaic.SparseCore (S V T)
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

namespace Tile

variable {nD : ℕ} {τ : Topo} {sig : RefSig} {Ix : Type} [DecidableEq Ix] {F : FTy → Type} {U : Type} [URA U] [CountersIn U]
variable {Lvl : Type} [Preorder Lvl] {Λ : Labels}
variable {defs : Defs nD τ sig (Elt F) Λ} (𝒱 : Variants)

local notation "𝕄" => MT nD τ sig Ix (Elt F) ℕ U Lvl

variable {nt len no n : ℕ} (T : Tile sig nt len no n)
variable (d : Dev nD) (cc : Fin τ.nSC) (jj : Fin τ.nSub) (bd : Option 𝒱.V) (ι : Ix)

/-! ## The subcore's own semaphores and buffers -/

/-- The task's semaphores: the fetch's, the two gathers', the write-outs'. -/
def semOf : Fin 3 ⊕ Fin n → DmaSem sig
  | .inl 0 => T.fsem
  | .inl 1 => T.semA
  | .inl 2 => T.semB
  | .inr c => T.osem c

/-- The rest of the subcore's own semaphores, at zero. -/
def restSems : sProp 𝕄 :=
  bigSep (ownCells (V d cc jj) \ Finset.univ.image fun x => (((V d cc jj), SemLoc.dma (T.semOf x)) : GSem nD τ sig)) fun g => semVal g 0

/-- The task's semaphores out of the subcore's own. -/
theorem ownSems0_eq (hinj : Function.Injective T.semOf) (hsc : ∀ x, (SemLoc.dma (T.semOf x) : SemLoc sig).isScoped .scVector = true) :
    (ownSems0 (V d cc jj) : sProp 𝕄)
      = iprop(semVal ((V d cc jj), SemLoc.dma T.fsem) 0 ∗ semVal ((V d cc jj), SemLoc.dma T.semA) 0 ∗ semVal ((V d cc jj), SemLoc.dma T.semB) 0
          ∗ T.Sems d cc jj ∗ T.restSems d cc jj) := by
  unfold ownSems0 restSems Sems
  have hsub : (Finset.univ.image fun x => (((V d cc jj), SemLoc.dma (T.semOf x)) : GSem nD τ sig)) ⊆ ownCells (V d cc jj) := by
    intro g hg
    obtain ⟨x, -, rfl⟩ := Finset.mem_image.mp hg
    exact mem_ownCells.mpr ⟨rfl, hsc x⟩
  rw [SparseCore.bigSep_sdiff_split' hsub, SparseCore.bigSep_image_of_injOn
    (fun a _ b _ e => hinj (SemLoc.dma.inj (Prod.mk.inj e).2)),
    show ∀ Φ : Fin 3 ⊕ Fin n → sProp 𝕄, bigSep Finset.univ Φ = iprop(bigSep Finset.univ (fun a => Φ (.inl a)) ∗ bigSep Finset.univ (fun b => Φ (.inr b)))
      from fun Φ => bigSep_univ_sum Φ,
    show (Finset.univ : Finset (Fin 3)) = {0, 1, 2} from rfl, SparseCore.bigSep_insert' (by decide), SparseCore.bigSep_insert' (by decide), bigSep_singleton]
  refine BI.Entails.antisymm (show (_ : sProp 𝕄) ⊢ _ from ?_) (show (_ : sProp 𝕄) ⊢ _ from ?_)
  · iintro ⟨⟨⟨H0, H1, H2⟩, H3⟩, H4⟩
    isplitl [H0]; · iexact H0
    isplitl [H1]; · iexact H1
    isplitl [H2]; · iexact H2
    isplitl [H3]; · iexact H3
    iexact H4
  · iintro ⟨H0, H1, H2, H3, H4⟩
    isplitr [H4]
    · isplitr [H3]
      · isplitl [H0]; · iexact H0
        isplitl [H1]; · iexact H1
        iexact H2
      · iexact H3
    · iexact H4

/-- Three buffers of a subcore out of its own. -/
theorem ownBufs_three (r0 r1 r2 : Ref sig .scVector) (h10 : r1 ≠ r0) (h20 : r2 ≠ r0) (h21 : r2 ≠ r1)
    (o0 : ((Proc.scVector cc jj).devRef r0).owner = .proc (.scVector cc jj)) (o1 : ((Proc.scVector cc jj).devRef r1).owner = .proc (.scVector cc jj))
    (o2 : ((Proc.scVector cc jj).devRef r2).owner = .proc (.scVector cc jj)) :
    (ownBufs (V d cc jj) : sProp 𝕄)
      = iprop((∃ f, (V d cc jj).loc r0 ↦{fullShare} f) ∗ (∃ f, (V d cc jj).loc r1 ↦{fullShare} f) ∗ (∃ f, (V d cc jj).loc r2 ↦{fullShare} f)
          ∗ bigSep ((((ownRefs (τ := τ) (.scVector cc jj)).erase ((Proc.scVector cc jj).devRef r0)).erase
              ((Proc.scVector cc jj).devRef r1)).erase ((Proc.scVector cc jj).devRef r2))
              fun b => iprop(∃ f, ((d, b) : Loc nD τ sig) ↦{fullShare} f)) := by
  unfold ownBufs
  refine (SparseCore.bigSep_erase' (SparseCore.Cfg.mem_ownRefs_of_owner (p := Proc.scVector cc jj) o0)).trans ?_
  rw [SparseCore.bigSep_erase' (Finset.mem_erase.mpr ⟨fun e => h10 (Proc.devRef_injective _ e),
      SparseCore.Cfg.mem_ownRefs_of_owner (p := Proc.scVector cc jj) o1⟩),
    SparseCore.bigSep_erase' (Finset.mem_erase.mpr ⟨fun e => h21 (Proc.devRef_injective _ e), Finset.mem_erase.mpr ⟨fun e => h20 (Proc.devRef_injective _ e),
      SparseCore.Cfg.mem_ownRefs_of_owner (p := Proc.scVector cc jj) o2⟩⟩)]

/-! ## The task -/

variable (tv : Buf (Elt F) (T.tbl.view.loc (V d cc jj)))
variable (Sd : Finset (Idx (T.out.view.loc (V d cc jj)))) (target : (Rows no).Idx → Elt F .f32)
variable (O : CellTallies nD τ sig Ix) (W : Waits sig Ix)

/-- The task from the subcore's own buffers and semaphores: it takes shares of the table and of the row numbers and its
    block of the output, and leaves the block at `fin`, which holds `target`'s rows there. -/
theorem wp_tile (hcr : T.CreditByBits) (q qi : PosShare TreeShare) (iv : Buf (Elt F) (T.ids.view.loc (V d cc jj)))
    (hSd : ∀ c, (T.outAt c).view.set ⊆ Sd) (hB : T.Brings d cc jj tv target iv) (h : 0 + (n - 1) < n) (hlen : 0 < len)
    (fin : Buf (Elt F) (T.out.view.loc (V d cc jj)))
    (hfin : ∀ f : Buf (Elt F) (T.out.view.loc (V d cc jj)),
      (∀ (c : Fin n) (y : (Rows 128).Idx), T.out.view.read (Elt F) f ((T.outRect c).emb y) = target ((T.outRect c).emb y)) → ∀ x ∈ Sd, f x = fin x)
    (hinj : Function.Injective T.semOf) (hsc : ∀ x, (SemLoc.dma (T.semOf x) : SemLoc sig).isScoped .scVector = true)
    (R : sProp (MT nD τ sig Ix (Elt F) ℕ U Lvl))
    (hbufs : (ownBufs (V d cc jj) : sProp 𝕄) = iprop((∃ f, T.lst.view.loc (V d cc jj) ↦{fullShare} f) ∗ (∃ f, T.bufA.view.loc (V d cc jj) ↦{fullShare} f)
      ∗ (∃ f, T.bufB.view.loc (V d cc jj) ↦{fullShare} f) ∗ R)) :
    (iprop(MayWaits (V d cc jj) ι O
        ∗ ((T.tbl.view.loc (V d cc jj) ↦{q} tv) ∗ (T.ids.view.loc (V d cc jj) ↦{qi} iv) ∗ ∃ f, T.out.view.loc (V d cc jj) ↦[Sd]{fullShare} f)
        ∗ ownBufs (V d cc jj) ∗ ownSems0 (V d cc jj) ∗ owes (V d cc jj) O W) : sProp 𝕄)
      ⊢ wp frame (wpE defs 𝒱 (V d cc jj) bd) Set.univ (T.run h) fun _ =>
          iprop(((T.tbl.view.loc (V d cc jj) ↦{q} tv) ∗ (T.ids.view.loc (V d cc jj) ↦{qi} iv) ∗ T.out.view.loc (V d cc jj) ↦[Sd]{fullShare} fin)
            ∗ ownBufs (V d cc jj) ∗ ownSems0 (V d cc jj) ∗ ∃ W', ⌜∀ p ∈ W', p ∈ W ∨ p.2 = ι⌝ ∗ owes (V d cc jj) O W') := by
  rw [hbufs, T.ownSems0_eq d cc jj hinj hsc]
  iintro ⟨Hmw, ⟨Ht, Hi, Ho⟩, ⟨Hl, HA, HB, Hbufs⟩, ⟨Hfs, HsA, HsB, Hs, Hsems⟩, HO⟩
  ihave Hi' := (pointsTo_split_subset (Finset.subset_univ T.ids.view.set)).1 $$ Hi
  icases Hi' with ⟨Hi, Hir⟩
  have key := T.wp_task (defs := defs) (Lvl := Lvl) (U := U) 𝒱 d cc jj bd ι tv Sd target O W hcr q qi iv hSd hB h hlen
  iapply (wp_wand_r frame _ Set.univ)
  isplitl [Hmw Ht Hi Hl HA HB Hfs HsA HsB Hs HO Ho]
  · iapply key
    isplitl [Hmw]; · iexact Hmw
    isplitr [Ho]
    · unfold Own
      isplitl [Ht]; · iexact Ht
      isplitl [Hi]; · iexact Hi
      isplitl [Hl]; · iexact Hl
      isplitl [HA]; · iexact HA
      isplitl [HB]; · iexact HB
      isplitl [Hfs]; · iexact Hfs
      isplitl [HsA]; · iexact HsA
      isplitl [HsB]; · iexact HsB
      isplitl [Hs]; · iexact Hs
      unfold Owes
      iexists W
      isplitr; swap; · iexact HO
      ipureintro
      exact fun p hp => .inl hp
    · iexact Ho
  unfold Own Done Owes
  iintro %_ ⟨⟨Ht, Hi, Hl, HA, HB, Hfs, HsA, HsB, Hs, HO⟩, ⟨%f, %hf, Ho⟩⟩
  have hff := hfin f fun c y => hf c c.isLt y
  isplitl [Ht Hi Hir Ho]
  · isplitl [Ht]; · iexact Ht
    isplitl [Hi Hir]
    · iapply (pointsTo_split_subset (Finset.subset_univ T.ids.view.set)).2
      isplitl [Hi]; · iexact Hi
      iexact Hir
    iapply (Entails.of_eq (pointsTo_congr hff))
    iexact Ho
  isplitl [Hl HA HB Hbufs]
  · isplitl [Hl]; · iexact Hl
    isplitl [HA]; · iexact HA
    isplitl [HB]; · iexact HB
    iexact Hbufs
  isplitl [Hfs HsA HsB Hs Hsems]
  · isplitl [Hfs]; · iexact Hfs
    isplitl [HsA]; · iexact HsA
    isplitl [HsB]; · iexact HsB
    isplitl [Hs]; · iexact Hs
    iexact Hsems
  iexact HO

end Tile

end Cert.Proof.Sc
end
-- ==== Proof.Sc.Value.lean ====
/-
  What a tile of the gather brings, as a function of the whole table and the whole list of row numbers: row `r` of the
  output is the table's row named by word `r` of the list. And the geometry of a tile's block of the output.
-/
module

public import proofs.«01_k».proof.Proof.Sc.Task

@[expose] public section

noncomputable section

namespace Cert.Proof.Sc

open Idealize.ShloMosaic
open Idealize.ShloMosaic.SparseCore (S V T)

/-- Row `r` of the result is the row of `tv` that word `r` of `iv` names (reduced by the number of rows, which leaves a
    row number in range as it is). -/
def gathered {α : Type} {nt no : ℕ} [NeZero nt] (tv : (Rows nt).Idx → α) (iv : (Lst no).Idx → BitVec 32) : (Rows no).Idx → α :=
  fun x => tv (fun
    | 0 => Fin.ofNat nt (iv (fun | 0 => x 0)).toNat
    | 1 => x 1
    | 2 => x 2)

/-- The words of a list in order. -/
theorem lst_word {n : ℕ} (k : Fin (Lst n).numel) : (((Lst n).rowMajor.symm k) 0).val = k.val := by
  rw [← Shape.rowMajor_val_one, Equiv.apply_symm_apply]

/-- The rows of the output that block `w` of `B` rows holds. -/
def blk (no B w : ℕ) : Finset (Rows no).Idx := Finset.univ.filter fun x => (x 0).val / B = w

namespace Tile

variable {nD : ℕ} {τ : Topo} {sig : RefSig} {F : FTy → Type}
variable {nt len no n : ℕ} (T : Tile sig nt len no n)
variable (d : Dev nD) (cc : Fin τ.nSC) (jj : Fin τ.nSub)

theorem outRect_emb {base : ℕ} (hoff : ∀ c : Fin n, T.off c.val = ![base + 128 * c.val, 0, 0]) (c : Fin n) (y : (Rows 128).Idx) :
    (((T.outRect c).emb y) 0).val = base + 128 * c.val + (y 0).val ∧ (((T.outRect c).emb y) 1).val = (y 1).val
      ∧ (((T.outRect c).emb y) 2).val = (y 2).val := by
  have h : ∀ a, (((T.outRect c).emb y) a).val = T.off c.val a + 1 * (y a).val := fun a => rfl
  refine ⟨?_, ?_, ?_⟩
  · rw [h, hoff]; show base + 128 * c.val + 1 * (y 0).val = _; omega
  · rw [h, hoff]; show 0 + 1 * (y 1).val = _; omega
  · rw [h, hoff]; show 0 + 1 * (y 2).val = _; omega

/-- The tile brings the rows its list names, as long as they are all rows of the table. -/
theorem brings [NeZero nt] (tv : Buf (Elt F) (T.tbl.view.loc (V d cc jj))) (iv : Buf (Elt F) (T.ids.view.loc (V d cc jj))) (base : ℕ)
    (tw : (Rows nt).Idx → Elt F .f32) (iw : (Lst no).Idx → BitVec 32) (ht : T.tbl.view.read (Elt F) tv = tw)
    (hi : ∀ (k : (Lst len).Idx) (j : (Lst no).Idx), (j 0).val = base + (k 0).val → T.ids.view.read (Elt F) iv k = iw j)
    (hb : base + len ≤ no)
    (hoff : ∀ c : Fin n, T.off c.val = ![base + 128 * c.val, 0, 0]) (hr : ∀ j, (iw j).toNat < nt) :
    T.Brings d cc jj tv (gathered tw iw) iv := by
  intro lv hlv
  -- a word of a chunk of the fetched list is a word of the whole list
  have hword : ∀ (c : Fin n) (x : (Lst 128).Idx) (j : (Lst no).Idx), (j 0).val = base + 128 * c.val + (x 0).val →
      (T.lstAt c).view.read (Elt F) lv x = iw j := by
    intro c x j hj
    have e : (T.lstAt c).view.read (Elt F) lv x = T.lst.view.read (Elt F) lv ((T.lstRect c).emb x) := rfl
    rw [e, hlv]
    refine hi _ j ?_
    have : (((T.lstRect c).emb x) 0).val = 128 * c.val + 1 * (x 0).val := rfl
    omega
  have hlen : ∀ c : Fin n, 128 * c.val + 128 ≤ len := fun c => T.hlen c 0
  have hx : ∀ x : (Lst 128).Idx, (x 0).val < 128 := fun x => (x 0).isLt
  have hin : T.InRange d cc jj lv := by
    intro c x
    rw [hword c x (fun | 0 => ⟨base + 128 * c.val + (x 0).val, by have := hlen c; have := hx x; show _ < no; omega⟩) rfl]
    exact hr _
  refine ⟨hin, fun c y => ?_⟩
  obtain ⟨e0, e1, e2⟩ := T.outRect_emb hoff c y
  have hw := hword c ((Lst 128).rowMajor.symm ((y 0).cast (rfl : (Lst 128).numel = 128).symm)) (fun | 0 => ((T.outRect c).emb y) 0)
    (by rw [lst_word]; exact e0)
  show T.tbl.view.read (Elt F) tv (T.hg.idx _ y) = _
  rw [ht]
  unfold gathered
  refine congrArg tw (funext fun a => Fin.ext ?_)
  match a with
  | 0 =>
    show (T.hg.idx _ y T.hg.axis).val = _
    rw [Shape.Gathers.idx_axis]
    show ((T.lstAt c).view.read (Elt F) lv ((Lst 128).rowMajor.symm ((y 0).cast (rfl : (Lst 128).numel = 128).symm))).toNat = _
    rw [hw]
    exact (Nat.mod_eq_of_lt (hr _)).symm
  | 1 => exact (Shape.Gathers.idx_of_ne T.hg _ y 1 (show (1 : ℕ) ≠ 0 by decide)).trans e1.symm
  | 2 => exact (Shape.Gathers.idx_of_ne T.hg _ y 2 (show (2 : ℕ) ≠ 0 by decide)).trans e2.symm

variable {base : ℕ} (hoff : ∀ c : Fin n, T.off c.val = ![base + 128 * c.val, 0, 0])
include hoff

/-- A chunk's rows are rows of the tile's block, -/
theorem outRect_mem_blk {w : ℕ} (hw : base = 128 * n * w) (c : Fin n) (y : (Rows 128).Idx) : (T.outRect c).emb y ∈ blk no (128 * n) w := by
  have h0 := (T.outRect_emb hoff c y).1
  have hy : (y 0).val < 128 := (y 0).isLt
  have hc := c.isLt
  simp only [blk, Finset.mem_filter, Finset.mem_univ, true_and]
  have hm := Nat.mul_comm (128 * n) w
  rw [h0, hw, show 128 * n * w + 128 * c.val + (y 0).val = (128 * c.val + (y 0).val) + w * (128 * n) by omega,
    Nat.add_mul_div_right _ _ (by omega), Nat.div_eq_of_lt (by omega), Nat.zero_add]

/-- and every row of the block is one of a chunk. -/
theorem blk_covered {w : ℕ} (hw : base = 128 * n * w) (hn : 0 < n) (x : (Rows no).Idx) (hx : x ∈ blk no (128 * n) w) :
    ∃ (c : Fin n) (y : (Rows 128).Idx), (T.outRect c).emb y = x := by
  simp only [blk, Finset.mem_filter, Finset.mem_univ, true_and] at hx
  have hm := Nat.div_add_mod (x 0).val (128 * n)
  have hlt := Nat.mod_lt (x 0).val (show 0 < 128 * n by omega)
  rw [hx] at hm
  have hd := Nat.div_add_mod ((x 0).val % (128 * n)) 128
  have hl := Nat.mod_lt ((x 0).val % (128 * n)) (show 0 < 128 by omega)
  refine ⟨⟨(x 0).val % (128 * n) / 128, by omega⟩, (fun
    | 0 => ⟨(x 0).val % (128 * n) % 128, hl⟩
    | 1 => x 1
    | 2 => x 2), ?_⟩
  obtain ⟨e0, e1, e2⟩ := T.outRect_emb hoff ⟨(x 0).val % (128 * n) / 128, by omega⟩ (fun
    | 0 => ⟨(x 0).val % (128 * n) % 128, hl⟩
    | 1 => x 1
    | 2 => x 2)
  funext a; apply Fin.ext
  match a with
  | 0 => rw [e0, hw]; show 128 * n * w + 128 * ((x 0).val % (128 * n) / 128) + (x 0).val % (128 * n) % 128 = _; omega
  | 1 => exact e1
  | 2 => exact e2

end Tile

end Cert.Proof.Sc
end
-- ==== Proof.Sc.Deal.lean ====
/-
  How a call's operands go out to the thirty-two tiles and come back: a read share of the table and of the list of row
  numbers to each, and its own block of the output, which comes back at the wanted rows.
-/
module

public import proofs.«01_k».proof.Proof.Sc.Value

@[expose] public section

noncomputable section

namespace Cert.Proof.Sc

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

/-- The number of tile `i` of SparseCore `c`. -/
def wk (c i : ℕ) : Fin 32 := Fin.ofNat 32 (2 * i + c)

/-- The blocks of the output are told apart by their number, -/
theorem blk_disjoint {no B : ℕ} (w w' : Fin 32) (h : w ≠ w') : Disjoint (blk no B w.val) (blk no B w'.val) :=
  Finset.disjoint_left.mpr fun _ hx hx' => h (Fin.ext ((Finset.mem_filter.mp hx).2.symm.trans (Finset.mem_filter.mp hx').2))

/-- and thirty-two of them are all of it. -/
theorem blk_cover {no B : ℕ} (hB : no = B * 32) : (Finset.univ : Finset (Fin 32)).biUnion (fun w => blk no B w.val) = Finset.univ := by
  refine Finset.eq_univ_of_forall fun x => Finset.mem_biUnion.mpr ?_
  have hx : (x 0).val < no := (x 0).isLt
  exact ⟨⟨(x 0).val / B, Nat.div_lt_of_lt_mul (by omega)⟩, Finset.mem_univ _, Finset.mem_filter.mpr ⟨Finset.mem_univ _, rfl⟩⟩

variable {nD : ℕ} {τ : Topo} {sig : RefSig} {Ix : Type} [DecidableEq Ix] {Val : EltTy → Type} {U : Type} [URA U]
variable {Lvl : Type} [Preorder Lvl]

local notation "𝕄" => MT nD τ sig Ix Val ℕ U Lvl

variable (ℓt ℓi ℓo : Loc nD τ sig) (K : Fin 32 → Finset (Idx ℓo)) (tv : Buf Val ℓt) (iv : Buf Val ℓi) (g : Buf Val ℓo)

/-- What tile `w` takes: its shares of the table and of the list, its block of the output at any contents. -/
def goP (w : Fin 32) : sProp 𝕄 :=
  iprop((ℓt ↦{shareTok fullShare 32 w} tv) ∗ (ℓi ↦{shareTok fullShare 32 w} iv) ∗ ∃ f, ℓo ↦[K w]{fullShare} f)
/-- What it brings back: the shares, its block at `g`. -/
def tdP (w : Fin 32) : sProp 𝕄 :=
  iprop((ℓt ↦{shareTok fullShare 32 w} tv) ∗ (ℓi ↦{shareTok fullShare 32 w} iv) ∗ ℓo ↦[K w]{fullShare} g)

instance goP_storable (w : Fin 32) : BI.Storable (upEmb : UEmb _ (MT nD τ sig Ix Val ℕ U Lvl)) (goP ℓt ℓi ℓo K tv iv w : sProp 𝕄) := by
  unfold goP; infer_instance
instance tdP_storable (w : Fin 32) : BI.Storable (upEmb : UEmb _ (MT nD τ sig Ix Val ℕ U Lvl)) (tdP ℓt ℓi ℓo K tv iv g w : sProp 𝕄) := by
  unfold tdP; infer_instance

/-- The tiles of both SparseCores are the thirty-two. -/
theorem tiles_eq (Φ : Fin 32 → sProp 𝕄) :
    (bigSep Finset.univ fun c : Fin 2 => bigSep Finset.univ fun i : Fin 16 => Φ (wk c i)) = bigSep Finset.univ Φ := by
  rw [show (Finset.univ : Finset (Fin 2)) = {0, 1} from rfl, SparseCore.bigSep_insert' (by decide), bigSep_singleton]
  refine Eq.trans ?_ (bigSep_univ_equiv (finProdFinEquiv : Fin 16 × Fin 2 ≃ Fin (16 * 2)) Φ).symm
  rw [bigSep_univ_prod]
  have h : ∀ i : Fin 16, (bigSep Finset.univ fun c : Fin 2 => Φ (finProdFinEquiv (i, c) : Fin (16 * 2))) = (iprop(Φ (wk 0 i) ∗ Φ (wk 1 i)) : sProp 𝕄) := by
    intro i
    rw [show (Finset.univ : Finset (Fin 2)) = {0, 1} from rfl, SparseCore.bigSep_insert' (by decide), bigSep_singleton]
    have e0 : (finProdFinEquiv (i, (0 : Fin 2)) : Fin (16 * 2)) = wk 0 i := Fin.ext (by
      have := i.isLt; show 0 + 2 * i.val = (2 * i.val + 0) % 32; omega)
    have e1 : (finProdFinEquiv (i, (1 : Fin 2)) : Fin (16 * 2)) = wk 1 i := Fin.ext (by
      have := i.isLt; show 1 + 2 * i.val = (2 * i.val + 1) % 32; omega)
    rw [e0, e1]
  refine Eq.trans ?_ (bigSep_congr fun i _ => (h i).symm)
  rw [bigSep_sep']; rfl

/-- Blocks at known contents are blocks at some contents. -/
theorem blocks_forget (f : Buf Val ℓo) :
    (bigSep Finset.univ fun w : Fin 32 => ℓo ↦[K w]{fullShare} f : sProp 𝕄) ⊢ bigSep Finset.univ fun w : Fin 32 => iprop(∃ f, ℓo ↦[K w]{fullShare} f) := by
  refine BI.bigSep_mono fun w _ => ?_
  show (_ : sProp 𝕄) ⊢ _
  iintro H; iexists f; iexact H

variable (hd : ∀ w ∈ (Finset.univ : Finset (Fin 32)), ∀ w' ∈ (Finset.univ : Finset (Fin 32)), w ≠ w' → Disjoint (K w) (K w'))
  (hc : (Finset.univ : Finset (Fin 32)).biUnion K = Finset.univ)
include hd hc

/-- The output whole is its blocks. -/
theorem out_blocks (f : Buf Val ℓo) : (ℓo ↦{fullShare} f : sProp 𝕄) = bigSep Finset.univ fun w : Fin 32 => ℓo ↦[K w]{fullShare} f := by
  rw [← pointsTo_biUnion Finset.univ (ℓ := ℓo) K hd, hc]

/-- The three arrays dealt out to the tiles, and back. -/
theorem deal :
    (iprop((ℓt ↦{fullShare} tv) ∗ (ℓi ↦{fullShare} iv) ∗ ∃ f, ℓo ↦{fullShare} f) : sProp 𝕄)
      ⊢ iprop((bigSep Finset.univ fun c : Fin 2 => bigSep Finset.univ fun i : Fin 16 => goP ℓt ℓi ℓo K tv iv (wk c i))
          ∗ ((bigSep Finset.univ fun c : Fin 2 => bigSep Finset.univ fun i : Fin 16 => tdP ℓt ℓi ℓo K tv iv g (wk c i))
              -∗ iprop((ℓt ↦{fullShare} tv) ∗ (ℓi ↦{fullShare} iv) ∗ ℓo ↦{fullShare} g))) := by
  rw [tiles_eq (fun w => goP ℓt ℓi ℓo K tv iv w), tiles_eq (fun w => tdP ℓt ℓi ℓo K tv iv g w)]
  unfold goP tdP
  rw [bigSep_sep', bigSep_sep', bigSep_sep', bigSep_sep']
  iintro ⟨Ht, Hi, ⟨%f, Ho⟩⟩
  ihave Ht' := (pointsTo_toks_split fullShare 32) $$ Ht
  icases Ht' with ⟨Htr, Ht⟩
  ihave Hi' := (pointsTo_toks_split fullShare 32) $$ Hi
  icases Hi' with ⟨Hir, Hi⟩
  isplitr [Htr Hir]
  · isplitl [Ht]; · iexact Ht
    isplitl [Hi]; · iexact Hi
    ihave Ho' := (Entails.of_eq (out_blocks ℓo K hd hc f)) $$ Ho
    iapply (blocks_forget ℓo K f)
    iexact Ho'
  · iintro ⟨Ht, Hi, Ho⟩
    isplitl [Htr Ht]
    · iapply (pointsTo_toks_join fullShare 32)
      isplitl [Htr]; · iexact Htr
      iexact Ht
    isplitl [Hir Hi]
    · iapply (pointsTo_toks_join fullShare 32)
      isplitl [Hir]; · iexact Hir
      iexact Hi
    iapply (Entails.of_eq (out_blocks ℓo K hd hc g).symm)
    iexact Ho

end Cert.Proof.Sc
end
-- ==== Proof.Sc.Base.lean ====
/-
  The kernel program as the launch theorem sees it, and the ghost state of its run: the handshakes' rounds, the two
  TensorCore pipelines' rounds, the transfers' counters.
-/
module

public import proofs.«01_k».proof.Defs
public import proofs.«01_k».proof.Proof.Gen.KernelIdeal
public import Idealize.ShloMosaic.Lib.SparseCore
public import Idealize.ShloMosaic.Lib.Transfers
public import Idealize.ShloMosaic.Lib.Pipeline.Kit

@[expose] public section

noncomputable section

namespace Cert.Proof.Sc

open Cert.KernelIdeal Cert.KernelIdeal.Gen
open Idealize.ShloMosaic
open Idealize.ShloMosaic.SparseCore.Cfg (HIx)
open Idealize.SL Idealize.SL.RA Idealize.SL.BI
open Idealize.SL.Sem
open Idealize.ShloMosaic.Rounds
open Idealize.ShloMosaic.Transfers

variable {F : FTy → Type} [FloatOps F]

/-! ## The program as the launch theorem sees it -/

abbrev ΛP : Labels := Pipeline.Sig Λ₀ (Fin 2) fun p => (pcfgs (F := F) p).Adm
abbrev KK : SparseCore.Cfg τ sig (ΛP (F := F)) 2 := sc (F := F)
abbrev DD : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (KK (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' and the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP : Emb UP (MT nD τ sig (HIx 2) (Elt F) ℕ UU ℕ)).LandsIn (upEmb : UEmb _ (MT nD τ sig (HIx 2) (Elt F) ℕ UU ℕ)) := by
  unfold EP; infer_instance

end Cert.Proof.Sc
end
-- ==== Proof.Sc.Bodies.lean ====
/-
  The two calls' tasks on a vector subcore, as the launch hands them over: shares of the table and of the row numbers
  and the tile's block of the output in, the block at the gathered rows out.
-/
module

public import proofs.«01_k».proof.Proof.Sc.Call1
public import proofs.«01_k».proof.Proof.Sc.Call0
public import proofs.«01_k».proof.Proof.Sc.Deal
public import proofs.«01_k».proof.Proof.Sc.Base
public import Idealize.ShloMosaic.Lib.StableHlo.Run
public import Idealize.ShloMosaic.Lib.Pipeline.Kit

@[expose] public section

noncomputable section

namespace Cert.Proof.Sc

open Cert.KernelIdeal Cert.KernelIdeal.Gen
open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

/-! ## The arrays -/

abbrev t0Loc (d : Dev nD) : Loc nD τ sig := (SparseCore.T d).loc main_v11
abbrev i0Loc (d : Dev nD) : Loc nD τ sig := (SparseCore.T d).loc main_v12
abbrev o0Loc (d : Dev nD) : Loc nD τ sig := (SparseCore.T d).loc main_v13
abbrev t1Loc (d : Dev nD) : Loc nD τ sig := (SparseCore.T d).loc main_v26
abbrev i1Loc (d : Dev nD) : Loc nD τ sig := (SparseCore.T d).loc main_v27
abbrev o1Loc (d : Dev nD) : Loc nD τ sig := (SparseCore.T d).loc main_v28

/-- The tiles' blocks of the two outputs. -/
abbrev K0 (d : Dev nD) (w : Fin 32) : Finset (Idx (o0Loc d)) :=
  show Finset (Rows 139264).Idx from blk 139264 4352 w.val
abbrev K1 (d : Dev nD) (w : Fin 32) : Finset (Idx (o1Loc d)) :=
  show Finset (Rows 131072).Idx from blk 131072 4096 w.val

abbrev cV0 (L : grid0.Coords) : Fin τ.nSC := (L 0).castLE hcore0
abbrev jV0 (L : grid0.Coords) : Fin τ.nSub := (L 1).castLE hsub0
abbrev cV1 (L : grid2.Coords) : Fin τ.nSC := (L 0).castLE hcore2
abbrev jV1 (L : grid2.Coords) : Fin τ.nSub := (L 1).castLE hsub2

/-! ## Facts of the two tiles -/

theorem dma_scoped : ∀ k : DmaSem sig, (SemLoc.dma k : SemLoc sig).isScoped .scVector = true := by decide

/-- Semaphores numbered one after the other are told apart. -/
theorem semOf_injective {nt len no n : ℕ} (T : Tile sig nt len no n) (a : ℕ)
    (h : ∀ x, (T.semOf x).val = a + match x with | .inl 0 => 2 | .inl 1 => 0 | .inl 2 => 1 | .inr c => 3 + c.val) :
    Function.Injective T.semOf := by
  intro x y e
  have e' := congrArg Fin.val e
  rw [h, h] at e'
  replace e' := Nat.add_left_cancel e'
  match x, y with
  | .inl 0, .inl 0 => rfl
  | .inl 1, .inl 1 => rfl
  | .inl 2, .inl 2 => rfl
  | .inr c, .inr c' => exact congrArg _ (Fin.ext (by simpa using e'))
  | .inl 0, .inl 1 => simp at e'
  | .inl 0, .inl 2 => simp at e'
  | .inl 1, .inl 0 => simp at e'
  | .inl 1, .inl 2 => simp at e'
  | .inl 2, .inl 0 => simp at e'
  | .inl 2, .inl 1 => simp at e'
  | .inl 0, .inr c => exact absurd e' (by show ¬ 2 = 3 + c.val; omega)
  | .inl 1, .inr c => exact absurd e' (by show ¬ 0 = 3 + c.val; omega)
  | .inl 2, .inr c => exact absurd e' (by show ¬ 1 = 3 + c.val; omega)
  | .inr c, .inl 0 => exact absurd e' (by show ¬ 3 + c.val = 2; omega)
  | .inr c, .inl 1 => exact absurd e' (by show ¬ 3 + c.val = 0; omega)
  | .inr c, .inl 2 => exact absurd e' (by show ¬ 3 + c.val = 1; omega)

theorem wk_val {c i : ℕ} (hc : c < 2) (hi : i < 16) : (wk c i).val = 2 * i + c := by
  show (2 * i + c) % 32 = _
  omega

variable [FloatOps F]

set_option maxRecDepth 16384 in
/-- A call's task on the vector subcore whose tile is `T`, number `2 * i + c`: the table is read whole, the list from
    the tile's first row on, the output in chunks of 128 rows from there. -/
theorem tile_body {nt no n : ℕ} [NeZero nt] (T : Tile sig nt (128 * n) no n) (a : ℕ) (d : Dev nD) (cc : Fin τ.nSC) (jj : Fin τ.nSub)
    {c i : ℕ} (hc : c < 2) (hi : i < 16) (hno : no = 128 * n * 32) (hn : 0 < n) (h : 0 + (n - 1) < n)
    (tv : Buf (Elt F) (T.tbl.view.loc (V d cc jj))) (iv : Buf (Elt F) (T.ids.view.loc (V d cc jj))) (g : Buf (Elt F) (T.out.view.loc (V d cc jj)))
    (K : Fin 32 → Finset (Idx (T.out.view.loc (V d cc jj))))
    (tw : (Rows nt).Idx → Elt F .f32) (iw : (Lst no).Idx → BitVec 32) (hr : ∀ j, (iw j).toNat < nt)
    (hcr : T.CreditByBits) (hoff : ∀ k : Fin n, T.off k.val = ![128 * n * (2 * i + c) + 128 * k.val, 0, 0])
    (hsem : ∀ x, (T.semOf x).val = a + match x with | .inl 0 => 2 | .inl 1 => 0 | .inl 2 => 1 | .inr c => 3 + c.val)
    (ht : T.tbl.view.read (Elt F) tv = tw)
    (hids : ∀ k j, (j 0).val = 128 * n * (2 * i + c) + (k 0).val → T.ids.view.read (Elt F) iv k = iw j)
    (hK : ∀ k y, (T.outRect k).emb y ∈ blk no (128 * n) (2 * i + c) → (T.outAt k).view.emb y ∈ K (wk c i))
    (hg : ∀ f, (∀ k y, T.out.view.read (Elt F) f ((T.outRect k).emb y) = gathered tw iw ((T.outRect k).emb y)) →
      (∀ x, x ∈ blk no (128 * n) (2 * i + c) → ∃ k y, (T.outRect k).emb y = x) → ∀ x ∈ K (wk c i), f x = g x)
    (R : sProp 𝕄)
    (hbufs : (ownBufs (V d cc jj) : sProp 𝕄) = iprop((∃ f, T.lst.view.loc (V d cc jj) ↦{fullShare} f)
      ∗ (∃ f, T.bufA.view.loc (V d cc jj) ↦{fullShare} f) ∗ (∃ f, T.bufB.view.loc (V d cc jj) ↦{fullShare} f) ∗ R))
    (O : CellTallies nD τ sig (HIx 2)) (W : Waits sig (HIx 2)) (hO : ∀ g, O g none = 0) :
    iprop(levAts (KK (F := F)).L (KK (F := F)).lev ∗ emp
        ∗ goP (T.tbl.view.loc (V d cc jj)) (T.ids.view.loc (V d cc jj)) (T.out.view.loc (V d cc jj)) K tv iv (wk c i)
        ∗ scopedBufs (V d cc jj) ∗ scopedSems0 (V d cc jj) ∗ owes (V d cc jj) O W)
      ⊢ wp frame (wpE (defs₀ (F := F)) 𝒱₀ (V d cc jj) none) Set.univ (T.run h)
          fun _ => (iprop(tdP (T.tbl.view.loc (V d cc jj)) (T.ids.view.loc (V d cc jj)) (T.out.view.loc (V d cc jj)) K tv iv g (wk c i)
            ∗ scopedBufs (V d cc jj) ∗ scopedSems0 (V d cc jj)
            ∗ ∃ W', ⌜∀ p ∈ W', p ∈ W ∨ p.2 = none⌝ ∗ owes (V d cc jj) O W') : sProp 𝕄) := by
  rw [(KK (F := F)).scopedBufs_V scFacts d cc jj, SparseCore.Cfg.scopedSems0_V (Val := Elt F) d cc jj]
  have key := T.wp_tile (defs := defs₀ (F := F)) (U := UU) (Lvl := ℕ) (Ix := HIx 2) 𝒱₀ d cc jj none none tv
    (K (wk c i)) (gathered tw iw) O W hcr
    (shareTok fullShare 32 (wk c i)) (shareTok fullShare 32 (wk c i)) iv
    (fun k x hx => by
      obtain ⟨y, -, rfl⟩ := Finset.mem_map.mp hx
      exact hK k y (T.outRect_mem_blk hoff rfl k y))
    (T.brings d cc jj tv iv (128 * n * (2 * i + c)) tw iw ht hids
      (by subst hno
          rw [← Nat.mul_succ]
          exact Nat.mul_le_mul_left _ (by omega))
      hoff hr)
    h (by omega) g
    (fun f hf => hg f hf (T.blk_covered hoff rfl hn))
    (semOf_injective T a hsem) (fun x => dma_scoped _) R hbufs
  refine BI.Entails.trans (show (_ : sProp 𝕄) ⊢ _ from ?_) key
  unfold goP
  iintro ⟨#Hlv, -, Hgo, Hb, Hs, HO⟩
  ihave Hmw := (show levAts (KK (F := F)).L (KK (F := F)).lev ⊢ Transfers.MayWaits (V d cc jj) (none : HIx 2) O from
    (KK (F := F)).mayWaits_none (thr := V d cc jj) hO) $$ Hlv
  isplitl [Hmw]; · iexact Hmw
  isplitl [Hgo]; · iexact Hgo
  isplitl [Hb]; · iexact Hb
  isplitl [Hs]; · iexact Hs
  iexact HO

set_option maxRecDepth 16384 in
/-- The first call's task on vector subcore `L`. -/
theorem tile_body0 (d : Dev nD) (L : grid0.Coords) (tv : (Rows 65536).Idx → F .f32) (iv : (Lst 139264).Idx → BitVec 32)
    (hr : ∀ j, (iv j).toNat < 65536) (O : CellTallies nD τ sig (HIx 2)) (W : Waits sig (HIx 2)) (hO : ∀ g, O g none = 0) :
    iprop(levAts (KK (F := F)).L (KK (F := F)).lev ∗ emp
        ∗ goP (t0Loc d) (i0Loc d) (o0Loc d) (K0 d) tv iv (wk (L 0).val (L 1).val)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ ((tile0 L).run (by decide))
          fun _ => (iprop(tdP (t0Loc d) (i0Loc d) (o0Loc d) (K0 d) tv iv (gathered (nt := 65536) (no := 139264) tv iv) (wk (L 0).val (L 1).val)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') : sProp 𝕄) :=
  have h0 : (L 0).val < 2 := (L 0).isLt
  have h1 : (L 1).val < 16 := (L 1).isLt
  have hw := wk_val h0 h1
  tile_body (n := 34) (tile0 L) 0 d (cV0 L) (jV0 L) h0 h1 (by decide) (by decide) (by decide) tv iv
    (gathered (nt := 65536) (no := 139264) tv iv) (K0 d) tv iv hr
    (fun b s' => match b with | false => rfl | true => rfl)
    (fun k => (k0_off2_eq L k).trans (by
      rw [show 8704 * (L 1).val + 4352 * (L 0).val + 128 * k.val = 128 * 34 * (2 * (L 1).val + (L 0).val) + 128 * k.val by omega]))
    (fun x => match x with
      | .inl 0 => rfl
      | .inl 1 => rfl
      | .inl 2 => rfl
      | .inr c => show 3 + c.val = 0 + (3 + c.val) by omega)
    (show (tile0 L).tbl.view.read (Elt F) tv = tv from funext fun (x : (Rows 65536).Idx) => congrArg tv (funext fun (a : Fin 3) => Fin.ext (by
      match a with
      | 0 => show 0 + 1 * (x 0).val = _; omega
      | 1 => show 0 + 1 * (x 1).val = _; omega
      | 2 => show 0 + 1 * (x 2).val = _; omega)))
    (fun k j hj => congrArg iv (funext fun (a : Fin 1) => Fin.ext (by
      match a with
      | 0 =>
        refine Eq.trans (b := k0_off1 L 0 + 1 * (k 0).val) rfl ?_
        rw [hj, k0_off1_eq]
        show 8704 * (L 1).val + 4352 * (L 0).val + 1 * (k 0).val = _
        omega)))
    (fun k y hy => by
      show (((tile0 L).outRect k).emb y : (Rows 139264).Idx) ∈ blk 139264 4352 (wk (L 0).val (L 1).val).val
      rw [hw]; exact hy)
    (fun f hf hcov x hx => by
      obtain ⟨k, y, rfl⟩ := hcov x (hw ▸ hx)
      exact hf k y)
    _ (Tile.ownBufs_three (F := F) (U := UU) (Lvl := ℕ) (Ix := HIx 2) d (cV0 L) (jV0 L) cc0_scratch0 cc0_scratch1 cc0_scratch2
      (by decide) (by decide) (by decide) rfl rfl rfl)
    O W hO

set_option maxRecDepth 16384 in
/-- The second call's task on vector subcore `L`. -/
theorem tile_body1 (d : Dev nD) (L : grid2.Coords) (tv : (Rows 139264).Idx → F .f32) (iv : (Lst 131072).Idx → BitVec 32)
    (hr : ∀ j, (iv j).toNat < 139264) (O : CellTallies nD τ sig (HIx 2)) (W : Waits sig (HIx 2)) (hO : ∀ g, O g none = 0) :
    iprop(levAts (KK (F := F)).L (KK (F := F)).lev ∗ emp
        ∗ goP (t1Loc d) (i1Loc d) (o1Loc d) (K1 d) tv iv (wk (L 0).val (L 1).val)
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ ((tile1 L).run (by decide))
          fun _ => (iprop(tdP (t1Loc d) (i1Loc d) (o1Loc d) (K1 d) tv iv (gathered (nt := 139264) (no := 131072) tv iv) (wk (L 0).val (L 1).val)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') : sProp 𝕄) :=
  have h0 : (L 0).val < 2 := (L 0).isLt
  have h1 : (L 1).val < 16 := (L 1).isLt
  have hw := wk_val h0 h1
  tile_body (n := 32) (tile1 L) 47 d (cV1 L) (jV1 L) h0 h1 (by decide) (by decide) (by decide) tv iv
    (gathered (nt := 139264) (no := 131072) tv iv) (K1 d) tv iv hr
    (fun b s' => match b with | false => rfl | true => rfl)
    (fun k => (k2_off2_eq L k).trans (by
      rw [show 8192 * (L 1).val + 4096 * (L 0).val + 128 * k.val = 128 * 32 * (2 * (L 1).val + (L 0).val) + 128 * k.val by omega]))
    (fun x => match x with
      | .inl 0 => rfl
      | .inl 1 => rfl
      | .inl 2 => rfl
      | .inr c => show 50 + c.val = 47 + (3 + c.val) by omega)
    (show (tile1 L).tbl.view.read (Elt F) tv = tv from funext fun (x : (Rows 139264).Idx) => congrArg tv (funext fun (a : Fin 3) => Fin.ext (by
      match a with
      | 0 => show 0 + 1 * (x 0).val = _; omega
      | 1 => show 0 + 1 * (x 1).val = _; omega
      | 2 => show 0 + 1 * (x 2).val = _; omega)))
    (fun k j hj => congrArg iv (funext fun (a : Fin 1) => Fin.ext (by
      match a with
      | 0 =>
        refine Eq.trans (b := k2_off1 L 0 + 1 * (k 0).val) rfl ?_
        rw [hj, k2_off1_eq]
        show 8192 * (L 1).val + 4096 * (L 0).val + 1 * (k 0).val = _
        omega)))
    (fun k y hy => by
      show (((tile1 L).outRect k).emb y : (Rows 131072).Idx) ∈ blk 131072 4096 (wk (L 0).val (L 1).val).val
      rw [hw]; exact hy)
    (fun f hf hcov x hx => by
      obtain ⟨k, y, rfl⟩ := hcov x (hw ▸ hx)
      exact hf k y)
    _ (Tile.ownBufs_three (F := F) (U := UU) (Lvl := ℕ) (Ix := HIx 2) d (cV1 L) (jV1 L) cc2_scratch0 cc2_scratch1 cc2_scratch2
      (by decide) (by decide) (by decide) rfl rfl rfl)
    O W hO

end Cert.Proof.Sc
end
-- ==== Proof.Sc.Held.lean ====
/-
  Holding a set of a device's buffers at known contents: three of them taken out and one of these put back at new
  contents, and what the final memory then holds.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Sc

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr)

variable {nD : ℕ} {τ : Topo} {sig : RefSig} {Ix : Type} [DecidableEq Ix] {Val : EltTy → Type} {U : Type} [URA U]
variable {Lvl : Type} [Preorder Lvl]

local notation "𝕄" => MT nD τ sig Ix Val ℕ U Lvl

variable (thr : Thread nD τ) (S : Finset (DevRef τ sig)) (V : Valuation τ sig Val)

/-- Three buffers out of the set, and the rest. -/
theorem held_three {a b c : DevRef τ sig} (hab : a ≠ b) (hac : a ≠ c) (hbc : b ≠ c) (ha : a ∈ S) (hb : b ∈ S) (hc : c ∈ S) :
    (held thr S V : sProp 𝕄) = iprop(((thr.1, a) ↦{fullShare} V a) ∗ ((thr.1, b) ↦{fullShare} V b) ∗ ((thr.1, c) ↦{fullShare} V c) ∗ held thr (S \ {a, b, c}) V) := by
  have hT : ({a, b, c} : Finset (DevRef τ sig)) ⊆ S := fun x hx => by
    rcases Finset.mem_insert.mp hx with rfl | hx
    · exact ha
    · rcases Finset.mem_insert.mp hx with rfl | hx
      · exact hb
      · exact Finset.mem_singleton.mp hx ▸ hc
  have h3 : (held thr {a, b, c} V : sProp 𝕄) = iprop(((thr.1, a) ↦{fullShare} V a) ∗ ((thr.1, b) ↦{fullShare} V b) ∗ ((thr.1, c) ↦{fullShare} V c)) := by
    unfold held
    rw [SparseCore.bigSep_insert' (by simp [hab, hac]), SparseCore.bigSep_insert' (by simp [hbc]), bigSep_singleton]
  rw [held_sub_split thr hT V, h3]
  refine Entails.antisymm ?_ ?_
  · show (_ : sProp 𝕄) ⊢ _
    iintro ⟨⟨Ha, Hb, Hc⟩, H⟩
    isplitl [Ha]; · iexact Ha
    isplitl [Hb]; · iexact Hb
    isplitl [Hc] <;> iassumption
  · show (_ : sProp 𝕄) ⊢ _
    iintro ⟨Ha, Hb, Hc, H⟩
    isplitr [H]
    · isplitl [Ha]; · iexact Ha
      isplitl [Hb] <;> iassumption
    · iexact H

/-- The third put back at `g`. -/
theorem held_three_update {a b c : DevRef τ sig} (hab : a ≠ b) (hac : a ≠ c) (hbc : b ≠ c) (ha : a ∈ S) (hb : b ∈ S) (hc : c ∈ S) (g : c.ty.Contents Val) :
    (held thr S (Function.update V c g) : sProp 𝕄) = iprop(((thr.1, a) ↦{fullShare} V a) ∗ ((thr.1, b) ↦{fullShare} V b) ∗ ((thr.1, c) ↦{fullShare} g) ∗ held thr (S \ {a, b, c}) V) := by
  rw [held_three thr S (Function.update V c g) hab hac hbc ha hb hc, Function.update_of_ne hac, Function.update_of_ne hbc, Function.update_self,
    held_congr thr (S := S \ {a, b, c}) (V := Function.update V c g) (V' := V) (fun x hx => Function.update_of_ne (fun e => by
      subst e
      exact (Finset.mem_sdiff.mp hx).2 (by simp)) _ _)]

/-- A buffer of the set is in the memory as it is held. -/
theorem held_read {s' : Phys nD τ sig Val} {b : DevRef τ sig} (hb : b ∈ S) :
    iprop(held thr S V ∗ SI s') ⊢ (⌜s'.mem.mem (thr.1, b) = V b⌝ : sProp 𝕄) := by
  rw [held_sub_split thr (Finset.singleton_subset_iff.mpr hb) V, show (held thr {b} V : sProp 𝕄) = iprop((thr.1, b) ↦{fullShare} V b) from bigSep_singleton ..]
  iintro ⟨⟨Hx, -⟩, HSI⟩
  ihave H := (persistent_entails_right (SI_pointsTo_agree (st := s') (ℓ := (thr.1, b)) (I := Finset.univ) (q := fullShare) (f := V b))) $$ [HSI Hx]
  · isplitl [HSI] <;> iassumption
  icases H with ⟨%hx, -, -⟩
  ipureintro
  exact funext fun i => hx i (Finset.mem_univ i)

/-- All of them are. -/
theorem held_read_all (s' : Phys nD τ sig Val) :
    iprop(held thr S V ∗ SI s') ⊢ (⌜∀ b ∈ S, s'.mem.mem (thr.1, b) = V b⌝ : sProp 𝕄) := by
  refine BIBase.Entails.trans ?_ (pure_forall (φ := fun b => b ∈ S → s'.mem.mem (thr.1, b) = V b)).2
  refine forall_intro fun b => ?_
  by_cases hb : b ∈ S
  · exact (held_read thr S V hb).trans (Laws.pure_mono fun h _ => h)
  · exact BIClass.pure_intro fun h => absurd h hb

end Cert.Proof.Sc
end
-- ==== Proof.Sc.Ops.lean ====
/-
  @main of the kernel program: the host operations before, between and after its four calls.
-/
module

public import proofs.«01_k».proof.Proof.Gen.KernelIdeal
public import Idealize.ShloMosaic.Lib.StableHlo.Run
public import Idealize.ShloMosaic.Lib.Pipeline.Frame

@[expose] public section

noncomputable section

namespace Cert.Proof.Sc

open Cert.KernelIdeal
open Cert.KernelIdeal.Gen
open Idealize.ShloMosaic Idealize.SL.Sem
open Idealize.ShloMosaic.StableHlo (seqK)

variable {F : FTy → Type} [FloatOps F]

/-- The host operations before the first gather. -/
def ops0 : List (HloOp τ sig (Elt F)) :=
  [StableHlo.reshape main_arg0 main_v0 (rfl : (.f32 : EltTy) = .f32) shapeCasts_S4x4096x1024_S16384x1024,
   StableHlo.unary main_arg5 main_v1 ((truncf .bf16 · bitsLt_bf16_f32) : (⟨S8x1024x1024, .f32⟩ : BufTy).Contents (Elt F) → (⟨S8x1024x1024, .bf16⟩ : BufTy).Contents (Elt F)),
   StableHlo.unary main_arg7 main_v2 ((truncf .bf16 · bitsLt_bf16_f32) : (⟨S1024x1024, .f32⟩ : BufTy).Contents (Elt F) → (⟨S1024x1024, .bf16⟩ : BufTy).Contents (Elt F)),
   StableHlo.unary main_arg1 main_v3 (broadcastInDim S34816x1 ![0] bcast_S34816_S34816x1_0 : (⟨S34816, .i32⟩ : BufTy).Contents (Elt F) → (⟨S34816x1, .i32⟩ : BufTy).Contents (Elt F)),
   StableHlo.nullary main_c (constantI S_ 32 4#32),
   StableHlo.unary main_c main_v4 (broadcastInDim S34816x1 ![] bcast_S_S34816x1 : (⟨S_, .i32⟩ : BufTy).Contents (Elt F) → (⟨S34816x1, .i32⟩ : BufTy).Contents (Elt F)),
   StableHlo.binary main_v3 main_v4 main_v5 (muli : (⟨S34816x1, .i32⟩ : BufTy).Contents (Elt F) → (⟨S34816x1, .i32⟩ : BufTy).Contents (Elt F) → (⟨S34816x1, .i32⟩ : BufTy).Contents (Elt F)),
   StableHlo.nullary main_v6 (iotaInDim S4 32 0),
   StableHlo.unary main_v6 main_v7 (broadcastInDim S1x4 ![1] bcast_S4_S1x4_1 : (⟨S4, .i32⟩ : BufTy).Contents (Elt F) → (⟨S1x4, .i32⟩ : BufTy).Contents (Elt F)),
   StableHlo.unary main_v5 main_v8 (broadcastInDim S34816x4 ![0, 1] bcast_S34816x1_S34816x4_0_1 : (⟨S34816x1, .i32⟩ : BufTy).Contents (Elt F) → (⟨S34816x4, .i32⟩ : BufTy).Contents (Elt F)),
   StableHlo.unary main_v7 main_v9 (broadcastInDim S34816x4 ![0, 1] bcast_S1x4_S34816x4_0_1 : (⟨S1x4, .i32⟩ : BufTy).Contents (Elt F) → (⟨S34816x4, .i32⟩ : BufTy).Contents (Elt F)),
   StableHlo.binary main_v8 main_v9 main_v10 (addi : (⟨S34816x4, .i32⟩ : BufTy).Contents (Elt F) → (⟨S34816x4, .i32⟩ : BufTy).Contents (Elt F) → (⟨S34816x4, .i32⟩ : BufTy).Contents (Elt F)),
   StableHlo.reshape main_v0 main_v11 (rfl : (.f32 : EltTy) = .f32) shapeCasts_S16384x1024_S65536x2x128,
   StableHlo.reshape main_v10 main_v12 (rfl : (.i32 : EltTy) = .i32) shapeCasts_S34816x4_S139264]

/-- What they write. -/
abbrev wr0 : List (Ref sig .tc) := [main_v0, main_v1, main_v2, main_v3, main_c, main_v4, main_v5, main_v6, main_v7, main_v8, main_v9, main_v10, main_v11, main_v12]

theorem ops0_writes : (ops0 (F := F)).map HloOp.writes = (wr0).map fun r => {Proc.devRef (τ := τ) .tc r} := rfl

theorem ops0_fresh : ∀ op ∈ ops0 (F := F), op.fresh = ∅ := List.forall_iff_forall_mem.mp (StableHlo.forall_fresh_of_map rfl)

theorem ops0_bufs : ∀ op ∈ ops0 (F := F), op.bufs ⊆ Pipeline.ucRefs τ sig :=
  List.forall_iff_forall_mem.mp ⟨Pipeline.sub_ucRefs _ (StableHlo.reshape_bufs_sub ..), Pipeline.sub_ucRefs _ (StableHlo.unary_bufs_sub ..), Pipeline.sub_ucRefs _ (StableHlo.unary_bufs_sub ..), Pipeline.sub_ucRefs _ (StableHlo.unary_bufs_sub ..), Pipeline.sub_ucRefs _ (StableHlo.nullary_bufs_sub ..), Pipeline.sub_ucRefs _ (StableHlo.unary_bufs_sub ..), Pipeline.sub_ucRefs _ (StableHlo.binary_bufs_sub ..), Pipeline.sub_ucRefs _ (StableHlo.nullary_bufs_sub ..), Pipeline.sub_ucRefs _ (StableHlo.unary_bufs_sub ..), Pipeline.sub_ucRefs _ (StableHlo.unary_bufs_sub ..), Pipeline.sub_ucRefs _ (StableHlo.unary_bufs_sub ..), Pipeline.sub_ucRefs _ (StableHlo.binary_bufs_sub ..), Pipeline.sub_ucRefs _ (StableHlo.reshape_bufs_sub ..), Pipeline.sub_ucRefs _ (StableHlo.reshape_bufs_sub ..)⟩

/-- The host operations between the first gather and the experts' product. -/
def ops1 : List (HloOp τ sig (Elt F)) :=
  [StableHlo.reshape main_v13 main_v14 (rfl : (.f32 : EltTy) = .f32) shapeCasts_S139264x2x128_S34816x1024,
   StableHlo.reshape main_arg6 main_v15 (rfl : (.f32 : EltTy) = .f32) shapeCasts_S8x1024_S8x1x1024,
   StableHlo.reshape main_arg2 main_v16 (rfl : (.f32 : EltTy) = .f32) shapeCasts_S34816_S34816x1]

/-- What they write. -/
abbrev wr1 : List (Ref sig .tc) := [main_v14, main_v15, main_v16]

theorem ops1_writes : (ops1 (F := F)).map HloOp.writes = (wr1).map fun r => {Proc.devRef (τ := τ) .tc r} := rfl

theorem ops1_fresh : ∀ op ∈ ops1 (F := F), op.fresh = ∅ := List.forall_iff_forall_mem.mp (StableHlo.forall_fresh_of_map rfl)

theorem ops1_bufs : ∀ op ∈ ops1 (F := F), op.bufs ⊆ Pipeline.ucRefs τ sig :=
  List.forall_iff_forall_mem.mp ⟨Pipeline.sub_ucRefs _ (StableHlo.reshape_bufs_sub ..), Pipeline.sub_ucRefs _ (StableHlo.reshape_bufs_sub ..), Pipeline.sub_ucRefs _ (StableHlo.reshape_bufs_sub ..)⟩

/-- The host operations between the experts' product and the second gather. -/
def ops2 : List (HloOp τ sig (Elt F)) :=
  [StableHlo.unary main_arg4 main_v18 (broadcastInDim S32768x1 ![0] bcast_S32768_S32768x1_0 : (⟨S32768, .i32⟩ : BufTy).Contents (Elt F) → (⟨S32768x1, .i32⟩ : BufTy).Contents (Elt F)),
   StableHlo.nullary main_c_0 (constantI S_ 32 4#32),
   StableHlo.unary main_c_0 main_v19 (broadcastInDim S32768x1 ![] bcast_S_S32768x1 : (⟨S_, .i32⟩ : BufTy).Contents (Elt F) → (⟨S32768x1, .i32⟩ : BufTy).Contents (Elt F)),
   StableHlo.binary main_v18 main_v19 main_v20 (muli : (⟨S32768x1, .i32⟩ : BufTy).Contents (Elt F) → (⟨S32768x1, .i32⟩ : BufTy).Contents (Elt F) → (⟨S32768x1, .i32⟩ : BufTy).Contents (Elt F)),
   StableHlo.nullary main_v21 (iotaInDim S4 32 0),
   StableHlo.unary main_v21 main_v22 (broadcastInDim S1x4 ![1] bcast_S4_S1x4_1 : (⟨S4, .i32⟩ : BufTy).Contents (Elt F) → (⟨S1x4, .i32⟩ : BufTy).Contents (Elt F)),
   StableHlo.unary main_v20 main_v23 (broadcastInDim S32768x4 ![0, 1] bcast_S32768x1_S32768x4_0_1 : (⟨S32768x1, .i32⟩ : BufTy).Contents (Elt F) → (⟨S32768x4, .i32⟩ : BufTy).Contents (Elt F)),
   StableHlo.unary main_v22 main_v24 (broadcastInDim S32768x4 ![0, 1] bcast_S1x4_S32768x4_0_1 : (⟨S1x4, .i32⟩ : BufTy).Contents (Elt F) → (⟨S32768x4, .i32⟩ : BufTy).Contents (Elt F)),
   StableHlo.binary main_v23 main_v24 main_v25 (addi : (⟨S32768x4, .i32⟩ : BufTy).Contents (Elt F) → (⟨S32768x4, .i32⟩ : BufTy).Contents (Elt F) → (⟨S32768x4, .i32⟩ : BufTy).Contents (Elt F)),
   StableHlo.reshape main_v17 main_v26 (rfl : (.f32 : EltTy) = .f32) shapeCasts_S34816x1024_S139264x2x128,
   StableHlo.reshape main_v25 main_v27 (rfl : (.i32 : EltTy) = .i32) shapeCasts_S32768x4_S131072]

/-- What they write. -/
abbrev wr2 : List (Ref sig .tc) := [main_v18, main_c_0, main_v19, main_v20, main_v21, main_v22, main_v23, main_v24, main_v25, main_v26, main_v27]

theorem ops2_writes : (ops2 (F := F)).map HloOp.writes = (wr2).map fun r => {Proc.devRef (τ := τ) .tc r} := rfl

theorem ops2_fresh : ∀ op ∈ ops2 (F := F), op.fresh = ∅ := List.forall_iff_forall_mem.mp (StableHlo.forall_fresh_of_map rfl)

theorem ops2_bufs : ∀ op ∈ ops2 (F := F), op.bufs ⊆ Pipeline.ucRefs τ sig :=
  List.forall_iff_forall_mem.mp ⟨Pipeline.sub_ucRefs _ (StableHlo.unary_bufs_sub ..), Pipeline.sub_ucRefs _ (StableHlo.nullary_bufs_sub ..), Pipeline.sub_ucRefs _ (StableHlo.unary_bufs_sub ..), Pipeline.sub_ucRefs _ (StableHlo.binary_bufs_sub ..), Pipeline.sub_ucRefs _ (StableHlo.nullary_bufs_sub ..), Pipeline.sub_ucRefs _ (StableHlo.unary_bufs_sub ..), Pipeline.sub_ucRefs _ (StableHlo.unary_bufs_sub ..), Pipeline.sub_ucRefs _ (StableHlo.unary_bufs_sub ..), Pipeline.sub_ucRefs _ (StableHlo.binary_bufs_sub ..), Pipeline.sub_ucRefs _ (StableHlo.reshape_bufs_sub ..), Pipeline.sub_ucRefs _ (StableHlo.reshape_bufs_sub ..)⟩

/-- The host operations between the second gather and the last kernel. -/
def ops3 : List (HloOp τ sig (Elt F)) :=
  [StableHlo.reshape main_v28 main_v29 (rfl : (.f32 : EltTy) = .f32) shapeCasts_S131072x2x128_S32768x1024,
   StableHlo.reshape main_arg8 main_v30 (rfl : (.f32 : EltTy) = .f32) shapeCasts_S1024_S1x1024,
   StableHlo.reshape main_arg9 main_v31 (rfl : (.f32 : EltTy) = .f32) shapeCasts_S1024_S1x1024]

/-- What they write. -/
abbrev wr3 : List (Ref sig .tc) := [main_v29, main_v30, main_v31]

theorem ops3_writes : (ops3 (F := F)).map HloOp.writes = (wr3).map fun r => {Proc.devRef (τ := τ) .tc r} := rfl

theorem ops3_fresh : ∀ op ∈ ops3 (F := F), op.fresh = ∅ := List.forall_iff_forall_mem.mp (StableHlo.forall_fresh_of_map rfl)

theorem ops3_bufs : ∀ op ∈ ops3 (F := F), op.bufs ⊆ Pipeline.ucRefs τ sig :=
  List.forall_iff_forall_mem.mp ⟨Pipeline.sub_ucRefs _ (StableHlo.reshape_bufs_sub ..), Pipeline.sub_ucRefs _ (StableHlo.reshape_bufs_sub ..), Pipeline.sub_ucRefs _ (StableHlo.reshape_bufs_sub ..)⟩

/-- The host operations after the last kernel. -/
def ops4 : List (HloOp τ sig (Elt F)) :=
  [StableHlo.reshape main_v32 main_v33 (rfl : (.f32 : EltTy) = .f32) shapeCasts_S16384x1024_S4x4096x1024]

/-- What they write. -/
abbrev wr4 : List (Ref sig .tc) := [main_v33]

theorem ops4_writes : (ops4 (F := F)).map HloOp.writes = (wr4).map fun r => {Proc.devRef (τ := τ) .tc r} := rfl

theorem ops4_fresh : ∀ op ∈ ops4 (F := F), op.fresh = ∅ := List.forall_iff_forall_mem.mp (StableHlo.forall_fresh_of_map rfl)

theorem ops4_bufs : ∀ op ∈ ops4 (F := F), op.bufs ⊆ Pipeline.ucRefs τ sig :=
  List.forall_iff_forall_mem.mp (Pipeline.sub_ucRefs _ (StableHlo.reshape_bufs_sub ..))

/-- @main is these operations with the calls between. -/
theorem main_eq (d : Dev nD) :
    main (F := F) d = seqK ops0 (sc.run d 0 >>= fun _ => seqK ops1 (Prog.lift (.customCall (SparseCore.inner (Pipeline.entry 0)) ()) >>= fun _ =>
      seqK ops2 (sc.run d 1 >>= fun _ => seqK ops3 (Prog.lift (.customCall (SparseCore.inner (Pipeline.entry 1)) ()) >>= fun _ => seqK ops4 (pure ⟨⟩))))) := rfl

end Cert.Proof.Sc
end
-- ==== Proof.Sc.Region.lean ====
/-
  One TensorCore call of the program as a region: entered with every buffer held at a valuation, left with the call's
  arrays at what its blocks' write-backs make them and every other buffer as it was.
-/
module

public import proofs.«01_k».proof.Proof.Sc.Base
public import proofs.«01_k».proof.Proof.Gen.KernelIdeal.Launch
public import Idealize.ShloMosaic.Lib.SparseCore.Quiescent
public import Idealize.ShloMosaic.Lib.Pipeline.Regions
public import Idealize.ShloMosaic.Lib.Pipeline.FrameSuffix
public import Idealize.ShloMosaic.Lib.Tactic

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose cellOf pin)
open Idealize.ShloMosaic.StableHlo (held)

variable {F : FTy → Type} [FloatOps F]

local notation "𝕄" => MT nD τ sig (HIx 2) (Elt F) ℕ UU ℕ

/-- The tables' contents, one choice per call. -/
abbrev Adms (F : FTy → Type) [FloatOps F] : Type := (p : Fin 2) → (pcfgs (F := F) p).Adm

/-- What a call's body leaves in each window's staging buffer at each point. -/
abbrev Afters (a : Adms F) : Type :=
  (p : Fin 2) → (w : Fin (pin (pcfgs (F := F)) a p).W) → Fin (pin (pcfgs (F := F)) a p).N →
    ((pin (pcfgs (F := F)) a p).win w).block.Idx → Elt F ((pin (pcfgs (F := F)) a p).win w).elt

/-- The waits a TensorCore has recorded when it has run `n` SparseCore calls. -/
def Below (n : ℕ) (d : Dev nD) : Set (SemLoc sig × HIx 2) := {p | (KK (F := F)).lev (SparseCore.T d, p.1) p.2 ≤ 8 * n}

/-- The call's data: its arrays as the valuation has them, what the body leaves, the buffers beside them and the
    tables kept, the SparseCore calls still to start owed throughout. -/
def heldDat (a : Adms F) (W : Valuation τ sig (Elt F)) (n : ℕ) (after : Afters a) (p : Fin 2) (c : Dev nD) :
    Dat τ (Elt F) (HIx 2) ℕ UU ℕ (pin (pcfgs (F := F)) a p) c where
  A w := W (Proc.devRef .tc (Pipeline.arrRef (pin (pcfgs (F := F)) a p).spec w))
  after := after p
  Φ _ := iprop(Pipeline.scopedRest (pin (pcfgs (F := F)) a p).spec c ∗ Pipeline.prefHeld (pcfgs (F := F) p).pre c (fun _ => fullShare) (a p).1)
  q w := Pipeline.shareOf (pin (pcfgs (F := F)) a p).spec w
  owed _ := (KK (F := F)).Otc c n
  recorded _ := Below (F := F) n c

/-- The buffers after the call. -/
abbrev leaves (a : Adms F) (W : Valuation τ sig (Elt F)) (n : ℕ) (after : Afters a) (p : Fin 2) (c : Dev nD) : Valuation τ sig (Elt F) :=
  Pipeline.withArrays (pin (pcfgs (F := F)) a p).spec c W (fun w => (heldDat a W n after p c).arrAt w (pin (pcfgs (F := F)) a p).N)

/-- What the thread owes between its SparseCore calls. -/
abbrev owing (n : ℕ) (c : Dev nD) : sProp 𝕄 :=
  iprop(∃ Wd, ⌜(KK (F := F)).WBelow (SparseCore.T c) Wd (8 * n)⌝ ∗ owes (SparseCore.T c) ((KK (F := F)).Otc c n) Wd)

theorem Otc_none (c : Dev nD) (n : ℕ) (g : GSem nD τ sig) : (KK (F := F)).Otc c n g none = 0 := by
  rcases Nat.eq_zero_or_pos ((KK (F := F)).Otc (N := 2) c n g none) with h | h
  · exact h
  · exact absurd (SparseCore.Cfg.lev_of_Otc_pos h) (by show ¬ 8 * n + 1 ≤ 0; omega)

theorem withArrays_keep (a : Adms F) (p : Fin 2) (c : Dev nD) (W : Valuation τ sig (Elt F))
    (A : (w : Fin (pin (pcfgs (F := F)) a p).W) → Buf (Elt F) (((pin (pcfgs (F := F)) a p).spec w).arr.view.loc (c.tc : Thread nD τ))) :
    (Pipeline.unscopedRest (pin (pcfgs (F := F)) a p).spec c (fun b => Pipeline.withArrays (pin (pcfgs (F := F)) a p).spec c W A (Proc.devRef .tc b)) : sProp 𝕄)
      = Pipeline.unscopedRest (pin (pcfgs (F := F)) a p).spec c (fun b => W (Proc.devRef .tc b)) := by
  unfold Pipeline.unscopedRest
  exact bigSep_congr fun b hb => by
    try dsimp only
    rw [Pipeline.withArrays_of_ne _ c W A b fun w e => (Finset.mem_sdiff.mp hb).2 (Finset.mem_image.mpr ⟨w, Finset.mem_univ _, e⟩)]

set_option backward.isDefEq.respectTransparency.types false in
/-- The buffers after the call, held: the arrays, the tables and the rest. -/
theorem held_leaves (a : Adms F) (p : Fin 2) (c : Dev nD) (W : Valuation τ sig (Elt F))
    (kit : Pipeline.PLaunchFacts₀ (nD := nD) (τ := τ) (pcfgs (F := F)) p)
    (dat : Dat τ (Elt F) (HIx 2) ℕ UU ℕ (pin (pcfgs (F := F)) a p) c)
    (hq : ∀ w, dat.q w = Pipeline.shareOf (pin (pcfgs (F := F)) a p).spec w)
    (hA : ∀ w, dat.A w = W (Proc.devRef .tc (Pipeline.arrRef (pin (pcfgs (F := F)) a p).spec w))) (N : ℕ) :
    iprop(dat.arrays (fun w => dat.arrAt w N)
        ∗ Pipeline.prefHeld (pcfgs (F := F) p).pre c (fun _ => fullShare) (fun k => W (Proc.devRef .tc ((pcfgs (F := F) p).pre.ref k)))
        ∗ Pipeline.unscopedRestP (pcfgs (F := F) p).pre (pin (pcfgs (F := F)) a p).spec c (fun b => W (Proc.devRef .tc b)))
      ⊢ (held (c.tc : Thread nD τ) (Pipeline.ucRefs τ sig)
        (Pipeline.withArrays (pin (pcfgs (F := F)) a p).spec c W (fun w => dat.arrAt w N)) : sProp 𝕄) := by
  have h1 := Pipeline.unscopedBufs_held (Ix := HIx 2) (Name := ℕ) (U := UU) (Lvl := ℕ) (nD := nD) c (Pipeline.withArrays (pin (pcfgs (F := F)) a p).spec c W (fun w => dat.arrAt w N))
  have h2 := Pipeline.unscopedBufs_split₀ (Ix := HIx 2) (Name := ℕ) (U := UU) (Lvl := ℕ) (pin (pcfgs (F := F)) a) p kit.win.arr_unscoped c
    (fun b => Pipeline.withArrays (pin (pcfgs (F := F)) a p).spec c W (fun w => dat.arrAt w N) (Proc.devRef .tc b))
  have h3 := withArrays_keep a p c W (fun w => dat.arrAt w N)
  have h4 := Pipeline.unscopedRest_split (Ix := HIx 2) (Name := ℕ) (U := UU) (Lvl := ℕ) (nD := nD) (τ := τ) kit.pre c (fun b => W (Proc.devRef .tc b))
  have h5 := dat.arrBufs_eq_arrays kit.sharedIn kit.arr_whole (fun w _ => hq w)
    (fun b => Pipeline.withArrays (pin (pcfgs (F := F)) a p).spec c W (fun w => dat.arrAt w N) (Proc.devRef .tc b)) (fun w => dat.arrAt w N)
    fun w => (Pipeline.withArrays_arr_shared (pin (pcfgs (F := F)) a p).spec c W _ (dat.arrAt_sharedIn kit.sharedIn W hA N) w).symm
  rw [← h1, h2, h3, h5]
  exact sep_mono .rfl (Entails.of_eq h4.symm)

theorem exit_of (a : Adms F) (p : Fin 2) (c : Dev nD) (W : Valuation τ sig (Elt F)) (n : ℕ)
    (kit : Pipeline.PLaunchFacts₀ (nD := nD) (τ := τ) (pcfgs (F := F)) p)
    (dat : Dat τ (Elt F) (HIx 2) ℕ UU ℕ (pin (pcfgs (F := F)) a p) c)
    (hq : ∀ w, dat.q w = Pipeline.shareOf (pin (pcfgs (F := F)) a p).spec w)
    (hA : ∀ w, dat.A w = W (Proc.devRef .tc (Pipeline.arrRef (pin (pcfgs (F := F)) a p).spec w)))
    (hpf : ∀ k, W (Proc.devRef .tc ((pcfgs (F := F) p).pre.ref k)) = (a p).1 k) (N : ℕ) (t) (ho : dat.owed t = (KK (F := F)).Otc c n)
    (hB : dat.bound none t ⊆ Below (F := F) n c) :
    iprop(dat.arrays (fun w => dat.arrAt w N) ∗ dat.owesAt none t
        ∗ Pipeline.prefHeld (pcfgs (F := F) p).pre c (fun _ => fullShare) (a p).1
        ∗ Pipeline.unscopedRestP (pcfgs (F := F) p).pre (pin (pcfgs (F := F)) a p).spec c (fun b => W (Proc.devRef .tc b)))
      ⊢ (iprop(|={Set.univ}=> (held (c.tc : Thread nD τ) (Pipeline.ucRefs τ sig)
        (Pipeline.withArrays (pin (pcfgs (F := F)) a p).spec c W (fun w => dat.arrAt w N)) ∗ owing n c)) : sProp 𝕄) := by
  have h := held_leaves a p c W kit dat hq hA N
  rw [show (fun k => W (Proc.devRef .tc ((pcfgs (F := F) p).pre.ref k))) = (a p).1 from funext hpf] at h
  unfold Pipeline.Dat.owesAt Pipeline.owesWithin
  rw [ho]
  iintro ⟨Ha, ⟨%Wd, %hWd, HO⟩, Ht, Hr⟩
  imodintro
  isplitl [Ha Ht Hr]
  · iapply h
    isplitl [Ha]; · iexact Ha
    isplitl [Ht] <;> iassumption
  iexists Wd; isplitr
  · ipureintro; exact fun x hx => hB (hWd hx)
  · iexact HO

set_option backward.isDefEq.respectTransparency.types false in
/-- The buffers before the call, held: the arrays, the tables and the rest. -/
theorem held_enters (a : Adms F) (p : Fin 2) (c : Dev nD) (W : Valuation τ sig (Elt F))
    (kit : Pipeline.PLaunchFacts₀ (nD := nD) (τ := τ) (pcfgs (F := F)) p)
    (dat : Dat τ (Elt F) (HIx 2) ℕ UU ℕ (pin (pcfgs (F := F)) a p) c)
    (hq : ∀ w, dat.q w = Pipeline.shareOf (pin (pcfgs (F := F)) a p).spec w)
    (A : (w : Fin (pin (pcfgs (F := F)) a p).W) → Buf (Elt F) (((pin (pcfgs (F := F)) a p).spec w).arr.view.loc (c.tc : Thread nD τ)))
    (hA : ∀ w, A w = W (Proc.devRef .tc (Pipeline.arrRef (pin (pcfgs (F := F)) a p).spec w))) :
    (held (c.tc : Thread nD τ) (Pipeline.ucRefs τ sig) W : sProp 𝕄)
      ⊢ iprop(dat.arrays A
        ∗ Pipeline.prefHeld (pcfgs (F := F) p).pre c (fun _ => fullShare) (fun k => W (Proc.devRef .tc ((pcfgs (F := F) p).pre.ref k)))
        ∗ Pipeline.unscopedRestP (pcfgs (F := F) p).pre (pin (pcfgs (F := F)) a p).spec c (fun b => W (Proc.devRef .tc b))) := by
  have h1 := Pipeline.unscopedBufs_held (Ix := HIx 2) (Name := ℕ) (U := UU) (Lvl := ℕ) (nD := nD) c W
  have h2 := Pipeline.unscopedBufs_split₀ (Ix := HIx 2) (Name := ℕ) (U := UU) (Lvl := ℕ) (pin (pcfgs (F := F)) a) p kit.win.arr_unscoped c
    (fun b => W (Proc.devRef .tc b))
  have h4 := Pipeline.unscopedRest_split (Ix := HIx 2) (Name := ℕ) (U := UU) (Lvl := ℕ) (nD := nD) (τ := τ) kit.pre c (fun b => W (Proc.devRef .tc b))
  have h5 := dat.arrBufs_eq_arrays kit.sharedIn kit.arr_whole (fun w _ => hq w) (fun b => W (Proc.devRef .tc b)) A hA
  rw [← h1, h2, h5]
  exact sep_mono .rfl (Entails.of_eq h4)

theorem entry_of (a : Adms F) (p : Fin 2) (c : Dev nD) (W : Valuation τ sig (Elt F)) (n : ℕ)
    (kit : Pipeline.PLaunchFacts₀ (nD := nD) (τ := τ) (pcfgs (F := F)) p)
    (dat : Dat τ (Elt F) (HIx 2) ℕ UU ℕ (pin (pcfgs (F := F)) a p) c)
    (hq : ∀ w, dat.q w = Pipeline.shareOf (pin (pcfgs (F := F)) a p).spec w)
    (A : (w : Fin (pin (pcfgs (F := F)) a p).W) → Buf (Elt F) (((pin (pcfgs (F := F)) a p).spec w).arr.view.loc (c.tc : Thread nD τ)))
    (hA : ∀ w, A w = W (Proc.devRef .tc (Pipeline.arrRef (pin (pcfgs (F := F)) a p).spec w)))
    (hpf : ∀ k, W (Proc.devRef .tc ((pcfgs (F := F) p).pre.ref k)) = (a p).1 k) (t) (ho : dat.owed t = (KK (F := F)).Otc c n)
    (hB : Below (F := F) n c ⊆ dat.bound none t) (R : sProp 𝕄) :
    iprop((held (c.tc : Thread nD τ) (Pipeline.ucRefs τ sig) W ∗ owing n c) ∗ emp ∗ R)
      ⊢ (iprop(|={Set.univ}=> (dat.arrays A ∗ Pipeline.prefHeld (pcfgs (F := F) p).pre c (fun _ => fullShare) (a p).1
        ∗ dat.owesAt none t ∗ emp
        ∗ Pipeline.unscopedRestP (pcfgs (F := F) p).pre (pin (pcfgs (F := F)) a p).spec c (fun b => W (Proc.devRef .tc b)))) : sProp 𝕄) := by
  have h := held_enters a p c W kit dat hq A hA
  rw [show (fun k => W (Proc.devRef .tc ((pcfgs (F := F) p).pre.ref k))) = (a p).1 from funext hpf] at h
  unfold Pipeline.Dat.owesAt Pipeline.owesWithin
  rw [ho]
  iintro ⟨⟨Hh, %Wd, %hWd, HO⟩, -, -⟩
  ihave H := h $$ Hh
  icases H with ⟨Ha, Ht, Hr⟩
  imodintro
  isplitl [Ha]; · iexact Ha
  isplitl [Ht]; · iexact Ht
  isplitl [HO]
  · iexists Wd; isplitr
    · ipureintro; exact fun x hx => hB (hWd x hx)
    · iexact HO
  isplitr; · iempintro
  iexact Hr

set_option backward.isDefEq.respectTransparency.types false in
/-- The region, from the launch's facts, the body's obligation and the tables' contents. -/
def region (a : Adms F) (W : Dev nD → Valuation τ sig (Elt F)) (n : ℕ) (after : (c : Dev nD) → Afters a) (p : Fin 2)
    (kit : Pipeline.PLaunchFacts₀ (nD := nD) (τ := τ) (pcfgs (F := F)) p)
    (hbody : ∀ c, BodyObligationLoose (heldDat a (W c) n (after c) p c) (defs₀ (F := F)) 𝒱₀ none Set.univ)
    (hpf : ∀ c k, W c (Proc.devRef .tc ((pcfgs (F := F) p).pre.ref k)) = (a p).1 k) :
    Pipeline.RegionSeg (pcfgs (F := F)) a (fun q c => heldDat a (W c) n (after c) q c) none defs₀ 𝒱₀ (KK (F := F)).L (KK (F := F)).lev p where
  win := kit.win
  block_pos := kit.block_pos
  stage_whole := kit.stage_whole
  K := PEmpty
  osem k := k.elim
  ho := Pipeline.OwnSemFacts.none _
  hbody := hbody
  hwaits c := Pipeline.cellsWaits_intro _ _ none p c fun w s t => (KK (F := F)).mayWait_none _ (Otc_none c n)
  pre c := iprop(held (c.tc : Thread nD τ) (Pipeline.ucRefs τ sig) (W c) ∗ owing n c)
  post c := iprop(held (c.tc : Thread nD τ) (Pipeline.ucRefs τ sig) (leaves a (W c) n (after c) p c) ∗ owing n c)
  X _ := BI.emp
  Y c := Pipeline.prefHeld (pcfgs (F := F) p).pre c (fun _ => fullShare) (a p).1
  Z c := Pipeline.unscopedRestP (pcfgs (F := F) p).pre (pin (pcfgs (F := F)) a p).spec c (fun b => W c (Proc.devRef .tc b))
  hentry c := by
    rw [Pipeline.ownSems0_none]
    exact entry_of a p c (W c) n kit (heldDat a (W c) n (after c) p c) (fun _ => rfl) _ (fun _ => rfl) (hpf c) _ rfl (fun _ h => Or.inl h) _
  hin c := by
    rw [show (heldDat a (W c) n (after c) p c).Φ 0 = iprop(Pipeline.scopedRest (pin (pcfgs (F := F)) a p).spec c ∗ Pipeline.prefHeld (pcfgs (F := F) p).pre c (fun _ => fullShare) (a p).1) from rfl]
    iintro ⟨-, Ht, Hr⟩
    isplitl [Hr] <;> iassumption
  hout c := by
    rw [Pipeline.ownSems0_none, show (heldDat a (W c) n (after c) p c).Φ (Fin.last _) = iprop(Pipeline.scopedRest (pin (pcfgs (F := F)) a p).spec c ∗ Pipeline.prefHeld (pcfgs (F := F) p).pre c (fun _ => fullShare) (a p).1) from rfl]
    iintro ⟨Hr, Ht⟩
    isplitl [Ht]; · iexact Ht
    isplitr; · iempintro
    iexact Hr
  hexit c := exit_of a p c (W c) n kit (heldDat a (W c) n (after c) p c) (fun _ => rfl) (fun _ => rfl) (hpf c) _ _ rfl
    (fun x hx => by
      rcases hx with h | ⟨w, s, rfl⟩
      · exact h
      · exact Nat.zero_le _)

end Cert.Proof.Sc
end
-- ==== Proof.Sc.Blocks.lean ====
/-
  What one step of each TensorCore call computes: the grouped product's step makes a block of rows out of the block's
  rows, its expert's matrix and bias and the rows' weights; the last call's step makes a block of the result.
-/
module

public import proofs.«01_k».proof.Proof.Sc.Base
public import proofs.«01_k».proof.Proof.Gen.KernelIdeal.Skeleton
public import Idealize.ShloMosaic.Lib.Pipeline.FrameBody
public import Idealize.ShloMosaic.Lib.Pipeline.Value
public import Idealize.ShloMosaic.Lib.Tactic

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

theorem off2 : (![0, 0] : Fin 2 → ℕ) = fun _ => 0 := by funext i; fin_cases i <;> rfl
theorem off3 : (![0, 0, 0] : Fin 3 → ℕ) = fun _ => 0 := by funext i; fin_cases i <;> rfl

/-- One store over the whole of a buffer leaves what was stored. -/
theorem read_stored {sp : Space} {S : Shape} {e : EltTy} (v : View sig .tc sp S e) (g : v.ty.Contents (Elt F))
    {off : Fin S.rank → ℕ} (h : off = fun _ => 0) (inb : ∀ a, off a + S.size a ≤ S.size a) (w : S.Idx → Elt F e) :
    v.read (Elt F) (v.writes (Elt F) g [⟨Rect.unit off S.size inb, w⟩]) = w :=
  (View.read_writes_eq_canon v g [⟨Rect.unit off S.size inb, w⟩]
    fun y => ⟨_, List.mem_singleton_self _, View.mem_set_unit_zero h inb y⟩).trans (View.canon_unit_zero h inb w)

/-- A load of the whole of a buffer reads what it holds. -/
theorem read_all {sp : Space} {S : Shape} {e : EltTy} (v : View sig .tc sp S e) (g : v.ty.Contents (Elt F))
    {off : Fin S.rank → ℕ} (h : off = fun _ => 0) (inb : ∀ a, off a + S.size a ≤ S.size a) :
    v.readAt (Elt F) (Rect.unit off S.size inb).toLoadRect g = v.read (Elt F) g :=
  View.ld_unit_zero h inb (v.read (Elt F) g)

set_option maxHeartbeats 1000000 in
/-- A step of the grouped product: the staged blocks kept, the result's buffer at the step's value. -/
theorem sound_group (c : Dev nD) (E : Set ℕ) (i : grid1.Coords) (M1 : Memref sig .tc .smem S136 .i32) (h1 : M1.IsWhole)
    (M2 : Memref sig .tc .vmem S256x1024 .f32) (h2 : M2.IsWhole) (M3 : Memref sig .tc .vmem S1x1024x1024 .bf16) (h3 : M3.IsWhole)
    (M4 : Memref sig .tc .vmem S1x1x1024 .f32) (h4 : M4.IsWhole) (M5 : Memref sig .tc .vmem S256x1 .f32) (h5 : M5.IsWhole)
    (M6 : Memref sig .tc .vmem S256x1024 .f32) (h6 : M6.IsWhole)
    (x0 : Vec F S256x1024 .f32) (x1 : Vec F S1x1024x1024 .bf16) (x2 : Vec F S1x1x1024 .f32) (x3 : Vec F S256x1 .f32)
    (K : PUnit → sProp 𝕄) :
    iprop(owns (c : Thread nD τ) M2 fullShare x0 ∗ owns (c : Thread nD τ) M3 fullShare x1 ∗ owns (c : Thread nD τ) M4 fullShare x2
        ∗ owns (c : Thread nD τ) M5 fullShare x3 ∗ (∃ d, owns (c : Thread nD τ) M6 fullShare d)
        ∗ (iprop(owns (c : Thread nD τ) M2 fullShare x0 ∗ owns (c : Thread nD τ) M3 fullShare x1 ∗ owns (c : Thread nD τ) M4 fullShare x2
          ∗ owns (c : Thread nD τ) M5 fullShare x3 ∗ owns (c : Thread nD τ) M6 fullShare (k1_pay1 x0 x1 x2 x3)) -∗ K ⟨⟩))
      ⊢ wp frame (wpE (defs₀ (F := F)) 𝒱₀ c none) E (cc1__group_mm_body i M1 h1 M2 h2 M3 h3 M4 h4 M5 h5 M6 h6) K := by
  simp only [cc1__group_mm_body_eq_skeleton]; unfold cc1__group_mm_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  refine (read_stored (S := S256x1024) _ _ off2 _ _).trans ?_
  exact congr (congr (congr (congrArg k1_pay1 (read_all (S := S256x1024) _ f0 off2 _)) (read_all (S := S1x1024x1024) _ f1 off3 _))
    (read_all (S := S1x1x1024) _ f2 off3 _)) (read_all (S := S256x1) _ f3 off2 _)

set_option maxHeartbeats 1000000 in
/-- A step of the last call: the staged blocks kept, the result's buffer at the step's value. -/
theorem sound_final (c : Dev nD) (E : Set ℕ) (i : grid3.Coords)
    (M1 : Memref sig .tc .vmem S256x1024 .f32) (h1 : M1.IsWhole) (M2 : Memref sig .tc .vmem S256x1024 .f32) (h2 : M2.IsWhole)
    (M3 : Memref sig .tc .vmem S256x1024 .f32) (h3 : M3.IsWhole) (M4 : Memref sig .tc .vmem S1024x1024 .bf16) (h4 : M4.IsWhole)
    (M5 : Memref sig .tc .vmem S1x1024 .f32) (h5 : M5.IsWhole) (M6 : Memref sig .tc .vmem S1x1024 .f32) (h6 : M6.IsWhole)
    (M7 : Memref sig .tc .vmem S256x1024 .f32) (h7 : M7.IsWhole)
    (x0 x1 x2 : Vec F S256x1024 .f32) (x3 : Vec F S1024x1024 .bf16) (x4 x5 : Vec F S1x1024 .f32)
    (K : PUnit → sProp 𝕄) :
    iprop(owns (c : Thread nD τ) M1 fullShare x0 ∗ owns (c : Thread nD τ) M2 fullShare x1 ∗ owns (c : Thread nD τ) M3 fullShare x2
        ∗ owns (c : Thread nD τ) M4 fullShare x3 ∗ owns (c : Thread nD τ) M5 fullShare x4 ∗ owns (c : Thread nD τ) M6 fullShare x5
        ∗ (∃ d, owns (c : Thread nD τ) M7 fullShare d)
        ∗ (iprop(owns (c : Thread nD τ) M1 fullShare x0 ∗ owns (c : Thread nD τ) M2 fullShare x1 ∗ owns (c : Thread nD τ) M3 fullShare x2
          ∗ owns (c : Thread nD τ) M4 fullShare x3 ∗ owns (c : Thread nD τ) M5 fullShare x4 ∗ owns (c : Thread nD τ) M6 fullShare x5
          ∗ owns (c : Thread nD τ) M7 fullShare (k3_pay1 x0 x1 x3 x4 x2 x5)) -∗ K ⟨⟩))
      ⊢ wp frame (wpE (defs₀ (F := F)) 𝒱₀ c none) E (cc3__final_body i M1 h1 M2 h2 M3 h3 M4 h4 M5 h5 M6 h6 M7 h7) K := by
  simp only [cc3__final_body_eq_skeleton]; unfold cc3__final_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  refine (read_stored (S := S256x1024) _ _ off2 _ _).trans ?_
  exact congr (congr (congr (congr (congr (congrArg k3_pay1 (read_all (S := S256x1024) _ f0 off2 _)) (read_all (S := S256x1024) _ f1 off2 _))
    (read_all (S := S1024x1024) _ f3 off2 _)) (read_all (S := S1x1024) _ f4 off2 _)) (read_all (S := S256x1024) _ f2 off2 _))
    (read_all (S := S1x1024) _ f5 off2 _)

end Cert.Proof.Sc

end
-- ==== Proof.Sc.Steps.lean ====
/-
  The two TensorCore calls' steps as the calls' proof data have them: every staged block is the array's, and what a
  step leaves in its result's buffer is the step's value at those blocks.
-/
module

public import proofs.«01_k».proof.Proof.Sc.Region
public import proofs.«01_k».proof.Proof.Sc.Blocks

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation BodyObligationLoose pin)

variable {F : FTy → Type} [FloatOps F]

local notation "𝕄" => MT nD τ sig (HIx 2) (Elt F) ℕ UU ℕ

/-- The block a window has of its array at a point. -/
abbrev blockAt (a : Adms F) (W : Valuation τ sig (Elt F)) (p : Fin 2) (w : Fin (pin (pcfgs (F := F)) a p).W)
    (t : Fin (pin (pcfgs (F := F)) a p).N) :
    (((pin (pcfgs (F := F)) a p).win w).xblock ((pin (pcfgs (F := F)) a p).grid.coords t)).Idx → Elt F ((pin (pcfgs (F := F)) a p).win w).elt :=
  (((pin (pcfgs (F := F)) a p).win w).blk t).view.read (Elt F) (W (Proc.devRef .tc (Pipeline.arrRef (pin (pcfgs (F := F)) a p).spec w)))

/-- The grouped product's step at a point. -/
def group (a : Adms F) (W : Valuation τ sig (Elt F)) (t : Fin (pin (pcfgs (F := F)) a 0).N) : Vec F S256x1024 .f32 :=
  k1_pay1 (blockAt a W 0 0 t) (blockAt a W 0 1 t) (blockAt a W 0 2 t) (blockAt a W 0 3 t)

/-- The last call's step at a point. -/
def final (a : Adms F) (W : Valuation τ sig (Elt F)) (t : Fin (pin (pcfgs (F := F)) a 1).N) : Vec F S256x1024 .f32 :=
  k3_pay1 (blockAt a W 1 0 t) (blockAt a W 1 1 t) (blockAt a W 1 3 t) (blockAt a W 1 4 t) (blockAt a W 1 2 t) (blockAt a W 1 5 t)

/-- What the steps leave in the staging buffers. -/
def afters (a : Adms F) (W : Valuation τ sig (Elt F)) : Afters a
  | ⟨0, _⟩ => fun w t => match w with
    | ⟨0, _⟩ => blockAt a W 0 0 t
    | ⟨1, _⟩ => blockAt a W 0 1 t
    | ⟨2, _⟩ => blockAt a W 0 2 t
    | ⟨3, _⟩ => blockAt a W 0 3 t
    | ⟨4, _⟩ => group a W t
  | ⟨1, _⟩ => fun w t => match w with
    | ⟨0, _⟩ => blockAt a W 1 0 t
    | ⟨1, _⟩ => blockAt a W 1 1 t
    | ⟨2, _⟩ => blockAt a W 1 2 t
    | ⟨3, _⟩ => blockAt a W 1 3 t
    | ⟨4, _⟩ => blockAt a W 1 4 t
    | ⟨5, _⟩ => blockAt a W 1 5 t
    | ⟨6, _⟩ => final a W t

/-- A window staging whole blocks of an array that the step leaves in place holds its block at every point. -/
theorem before_block (a : Adms F) (W : Valuation τ sig (Elt F)) {p : Fin 2} {c : Dev nD}
    (dat : Dat τ (Elt F) (HIx 2) ℕ UU ℕ (pin (pcfgs (F := F)) a p) c) (w : Fin (pin (pcfgs (F := F)) a p).W)
    (hin : ((pin (pcfgs (F := F)) a p).win w).isOut = false) (hlive : ∀ i, (pin (pcfgs (F := F)) a p).idle w i = false)
    (hclip : ∀ t t' : Fin (pin (pcfgs (F := F)) a p).N, ((pin (pcfgs (F := F)) a p).win w).index t = ((pin (pcfgs (F := F)) a p).win w).index t' →
      ((pin (pcfgs (F := F)) a p).win w).clip ((pin (pcfgs (F := F)) a p).grid.coords t) = ((pin (pcfgs (F := F)) a p).win w).clip ((pin (pcfgs (F := F)) a p).grid.coords t'))
    (hA : dat.A w = W (Proc.devRef .tc (Pipeline.arrRef (pin (pcfgs (F := F)) a p).spec w)))
    (hkeep : ∀ t, ((pin (pcfgs (F := F)) a p).win w).cut ((pin (pcfgs (F := F)) a p).grid.coords t) (dat.after w t) = blockAt a W p w t)
    (X : ((pin (pcfgs (F := F)) a p).win w).block.Idx → Elt F ((pin (pcfgs (F := F)) a p).win w).elt)
    (t : Fin (pin (pcfgs (F := F)) a p).N)
    (hX : ∀ d, ((pin (pcfgs (F := F)) a p).win w).fill ((pin (pcfgs (F := F)) a p).grid.coords t) d (blockAt a W p w t) = X) (d) :
    dat.before w t d = X :=
  (dat.before_in_eq_fetched w hin hlive hclip (fun t => by rw [hkeep]; unfold Dat.blockOf; rw [hA]) t d).trans
    (by unfold Dat.fetched Dat.blockOf; rw [hA]; exact hX d)

/-- The grouped product at a point, as the call runs it. -/
abbrev groupAt (a : Adms F) (t : Fin (pin (pcfgs (F := F)) a 0).N) : Prog (TpuEff nD τ sig (Elt F) Λ₀ .tc) PUnit :=
  cc1__group_mm_body (grid1.coords t) (Memref.whole main_arg3) (Memref.isWhole_whole _) (spec1_0.stage ((pin (pcfgs (F := F)) a 0).slots t (0 : Fin 5))) (hstage1_0 (((pin (pcfgs (F := F)) a 0).slots t (0 : Fin 5)).cast nbuf1_0)) (spec1_1.stage ((pin (pcfgs (F := F)) a 0).slots t (1 : Fin 5))) (hstage1_1 (((pin (pcfgs (F := F)) a 0).slots t (1 : Fin 5)).cast nbuf1_1)) (spec1_2.stage ((pin (pcfgs (F := F)) a 0).slots t (2 : Fin 5))) (hstage1_2 (((pin (pcfgs (F := F)) a 0).slots t (2 : Fin 5)).cast nbuf1_2)) (spec1_3.stage ((pin (pcfgs (F := F)) a 0).slots t (3 : Fin 5))) (hstage1_3 (((pin (pcfgs (F := F)) a 0).slots t (3 : Fin 5)).cast nbuf1_3)) (spec1_4.stage ((pin (pcfgs (F := F)) a 0).slots t (4 : Fin 5))) (hstage1_4 (((pin (pcfgs (F := F)) a 0).slots t (4 : Fin 5)).cast nbuf1_4))

/-- What a step finds: its windows' buffers one by one; -/
def groupPre (a : Adms F) {c : Dev nD} (dat : Dat τ (Elt F) (HIx 2) ℕ UU ℕ (pin (pcfgs (F := F)) a 0) c) (t : Fin (pin (pcfgs (F := F)) a 0).N) : sProp 𝕄 :=
  iprop(dat.Φ t.castSucc ∗ dat.owesAt none t.castSucc
    ∗ (∃ d, owns (c : Thread nD τ) (((pin (pcfgs (F := F)) a 0).win (0 : Fin 5)).stage ((pin (pcfgs (F := F)) a 0).slots t (0 : Fin 5))) fullShare (dat.before (0 : Fin 5) t d))
    ∗ (∃ d, owns (c : Thread nD τ) (((pin (pcfgs (F := F)) a 0).win (1 : Fin 5)).stage ((pin (pcfgs (F := F)) a 0).slots t (1 : Fin 5))) fullShare (dat.before (1 : Fin 5) t d))
    ∗ (∃ d, owns (c : Thread nD τ) (((pin (pcfgs (F := F)) a 0).win (2 : Fin 5)).stage ((pin (pcfgs (F := F)) a 0).slots t (2 : Fin 5))) fullShare (dat.before (2 : Fin 5) t d))
    ∗ (∃ d, owns (c : Thread nD τ) (((pin (pcfgs (F := F)) a 0).win (3 : Fin 5)).stage ((pin (pcfgs (F := F)) a 0).slots t (3 : Fin 5))) fullShare (dat.before (3 : Fin 5) t d))
    ∗ (∃ d, owns (c : Thread nD τ) (((pin (pcfgs (F := F)) a 0).win (4 : Fin 5)).stage ((pin (pcfgs (F := F)) a 0).slots t (4 : Fin 5))) fullShare (dat.before (4 : Fin 5) t d)))

/-- and what it leaves. -/
def groupPost (a : Adms F) {c : Dev nD} (dat : Dat τ (Elt F) (HIx 2) ℕ UU ℕ (pin (pcfgs (F := F)) a 0) c) (t : Fin (pin (pcfgs (F := F)) a 0).N) : sProp 𝕄 :=
  iprop(dat.Φ t.succ ∗ dat.owesAt none t.succ
    ∗ owns (c : Thread nD τ) (((pin (pcfgs (F := F)) a 0).win (0 : Fin 5)).stage ((pin (pcfgs (F := F)) a 0).slots t (0 : Fin 5))) fullShare (dat.after (0 : Fin 5) t)
    ∗ owns (c : Thread nD τ) (((pin (pcfgs (F := F)) a 0).win (1 : Fin 5)).stage ((pin (pcfgs (F := F)) a 0).slots t (1 : Fin 5))) fullShare (dat.after (1 : Fin 5) t)
    ∗ owns (c : Thread nD τ) (((pin (pcfgs (F := F)) a 0).win (2 : Fin 5)).stage ((pin (pcfgs (F := F)) a 0).slots t (2 : Fin 5))) fullShare (dat.after (2 : Fin 5) t)
    ∗ owns (c : Thread nD τ) (((pin (pcfgs (F := F)) a 0).win (3 : Fin 5)).stage ((pin (pcfgs (F := F)) a 0).slots t (3 : Fin 5))) fullShare (dat.after (3 : Fin 5) t)
    ∗ owns (c : Thread nD τ) (((pin (pcfgs (F := F)) a 0).win (4 : Fin 5)).stage ((pin (pcfgs (F := F)) a 0).slots t (4 : Fin 5))) fullShare (dat.after (4 : Fin 5) t))

theorem group_row (a : Adms F) (t : Fin (pin (pcfgs (F := F)) a 0).N) :
    defs₀ (F := F) .tc (pin (pcfgs (F := F)) a 0).body ((pin (pcfgs (F := F)) a 0).bodyArgs t ((pin (pcfgs (F := F)) a 0).slots t)) = groupAt a t := rfl

set_option maxHeartbeats 1000000 in
/-- The grouped product: what a step finds becomes what it leaves. -/
theorem group_step (a : Adms F) (W : Valuation τ sig (Elt F)) (c : Dev nD)
    (dat : Dat τ (Elt F) (HIx 2) ℕ UU ℕ (pin (pcfgs (F := F)) a 0) c)
    (hA : ∀ w, dat.A w = W (Proc.devRef .tc (Pipeline.arrRef (pin (pcfgs (F := F)) a 0).spec w)))
    (hafter : ∀ w t, dat.after w t = afters a W 0 w t)
    (hΦ : ∀ t : Fin (pin (pcfgs (F := F)) a 0).N, dat.Φ t.succ = dat.Φ t.castSucc)
    (hO : ∀ t : Fin (pin (pcfgs (F := F)) a 0).N, dat.owesAt none t.succ = dat.owesAt none t.castSucc) (t : Fin (pin (pcfgs (F := F)) a 0).N) :
    groupPre a dat t ⊢ wp frame (wpE (defs₀ (F := F)) 𝒱₀ c none) Set.univ (groupAt a t) (fun _ => groupPost a dat t) := by
  have b0 : ∀ d, dat.before (0 : Fin 5) t d = blockAt a W 0 (0 : Fin 5) t :=
    before_block a W dat (0 : Fin 5) rfl (fun _ => rfl) (fun _ _ _ => rfl) (hA _) (fun t => by rw [hafter]; rfl) _ t (fun _ => rfl)
  have a0 : dat.after (0 : Fin 5) t = blockAt a W 0 (0 : Fin 5) t := by rw [hafter]; rfl
  have b1 : ∀ d, dat.before (1 : Fin 5) t d = blockAt a W 0 (1 : Fin 5) t :=
    before_block a W dat (1 : Fin 5) rfl (fun _ => rfl) (fun _ _ _ => rfl) (hA _) (fun t => by rw [hafter]; rfl) _ t (fun _ => rfl)
  have a1 : dat.after (1 : Fin 5) t = blockAt a W 0 (1 : Fin 5) t := by rw [hafter]; rfl
  have b2 : ∀ d, dat.before (2 : Fin 5) t d = blockAt a W 0 (2 : Fin 5) t :=
    before_block a W dat (2 : Fin 5) rfl (fun _ => rfl) (fun _ _ _ => rfl) (hA _) (fun t => by rw [hafter]; rfl) _ t (fun _ => rfl)
  have a2 : dat.after (2 : Fin 5) t = blockAt a W 0 (2 : Fin 5) t := by rw [hafter]; rfl
  have b3 : ∀ d, dat.before (3 : Fin 5) t d = blockAt a W 0 (3 : Fin 5) t :=
    before_block a W dat (3 : Fin 5) rfl (fun _ => rfl) (fun _ _ _ => rfl) (hA _) (fun t => by rw [hafter]; rfl) _ t (fun _ => rfl)
  have a3 : dat.after (3 : Fin 5) t = blockAt a W 0 (3 : Fin 5) t := by rw [hafter]; rfl
  have a4 : dat.after (4 : Fin 5) t = group a W t := by rw [hafter]; rfl
  unfold groupPre groupPost
  rw [hO, hΦ]
  simp only [b0, b1, b2, b3, a0, a1, a2, a3, a4]
  iintro ⟨HΦ, Ho, ⟨%d0, H0⟩, ⟨%d1, H1⟩, ⟨%d2, H2⟩, ⟨%d3, H3⟩, ⟨%d4, H4⟩⟩
  iapply (sound_group c Set.univ (grid1.coords t) _ _ _ _ _ _ _ _ _ _ _ _ (blockAt a W 0 (0 : Fin 5) t) (blockAt a W 0 (1 : Fin 5) t) (blockAt a W 0 (2 : Fin 5) t) (blockAt a W 0 (3 : Fin 5) t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The grouped product's obligation. -/
theorem group_body (a : Adms F) (W : Valuation τ sig (Elt F)) (c : Dev nD)
    (dat : Dat τ (Elt F) (HIx 2) ℕ UU ℕ (pin (pcfgs (F := F)) a 0) c)
    (hA : ∀ w, dat.A w = W (Proc.devRef .tc (Pipeline.arrRef (pin (pcfgs (F := F)) a 0).spec w)))
    (hafter : ∀ w t, dat.after w t = afters a W 0 w t)
    (hΦ : ∀ t : Fin (pin (pcfgs (F := F)) a 0).N, dat.Φ t.succ = dat.Φ t.castSucc)
    (hO : ∀ t : Fin (pin (pcfgs (F := F)) a 0).N, dat.owesAt none t.succ = dat.owesAt none t.castSucc) :
    BodyObligation dat (defs₀ (F := F)) 𝒱₀ none Set.univ := fun t => by
  rw [group_row]
  exact triple_restated (group_step a W c dat hA hafter hΦ hO t) rfl
    (sep_mono .rfl (sep_mono .rfl (Entails.of_eq (bigSep_W1 _))))
    fun _ => sep_mono .rfl (sep_mono .rfl (BIBase.Entails.trans (by exact .rfl) (Entails.of_eq (bigSep_W1 _).symm)))

/-- The last call at a point, as the call runs it. -/
abbrev finalAt (a : Adms F) (t : Fin (pin (pcfgs (F := F)) a 1).N) : Prog (TpuEff nD τ sig (Elt F) Λ₀ .tc) PUnit :=
  cc3__final_body (grid3.coords t) (win3_0.stage ((pin (pcfgs (F := F)) a 1).slots t (0 : Fin 7))) (hstage3_0 (((pin (pcfgs (F := F)) a 1).slots t (0 : Fin 7)).cast nbuf3_0)) (win3_1.stage ((pin (pcfgs (F := F)) a 1).slots t (1 : Fin 7))) (hstage3_1 (((pin (pcfgs (F := F)) a 1).slots t (1 : Fin 7)).cast nbuf3_1)) (win3_2.stage ((pin (pcfgs (F := F)) a 1).slots t (2 : Fin 7))) (hstage3_2 (((pin (pcfgs (F := F)) a 1).slots t (2 : Fin 7)).cast nbuf3_2)) (win3_3.stage ((pin (pcfgs (F := F)) a 1).slots t (3 : Fin 7))) (hstage3_3 (((pin (pcfgs (F := F)) a 1).slots t (3 : Fin 7)).cast nbuf3_3)) (win3_4.stage ((pin (pcfgs (F := F)) a 1).slots t (4 : Fin 7))) (hstage3_4 (((pin (pcfgs (F := F)) a 1).slots t (4 : Fin 7)).cast nbuf3_4)) (win3_5.stage ((pin (pcfgs (F := F)) a 1).slots t (5 : Fin 7))) (hstage3_5 (((pin (pcfgs (F := F)) a 1).slots t (5 : Fin 7)).cast nbuf3_5)) (win3_6.stage ((pin (pcfgs (F := F)) a 1).slots t (6 : Fin 7))) (hstage3_6 (((pin (pcfgs (F := F)) a 1).slots t (6 : Fin 7)).cast nbuf3_6))

/-- What a step finds: its windows' buffers one by one; -/
def finalPre (a : Adms F) {c : Dev nD} (dat : Dat τ (Elt F) (HIx 2) ℕ UU ℕ (pin (pcfgs (F := F)) a 1) c) (t : Fin (pin (pcfgs (F := F)) a 1).N) : sProp 𝕄 :=
  iprop(dat.Φ t.castSucc ∗ dat.owesAt none t.castSucc
    ∗ (∃ d, owns (c : Thread nD τ) (((pin (pcfgs (F := F)) a 1).win (0 : Fin 7)).stage ((pin (pcfgs (F := F)) a 1).slots t (0 : Fin 7))) fullShare (dat.before (0 : Fin 7) t d))
    ∗ (∃ d, owns (c : Thread nD τ) (((pin (pcfgs (F := F)) a 1).win (1 : Fin 7)).stage ((pin (pcfgs (F := F)) a 1).slots t (1 : Fin 7))) fullShare (dat.before (1 : Fin 7) t d))
    ∗ (∃ d, owns (c : Thread nD τ) (((pin (pcfgs (F := F)) a 1).win (2 : Fin 7)).stage ((pin (pcfgs (F := F)) a 1).slots t (2 : Fin 7))) fullShare (dat.before (2 : Fin 7) t d))
    ∗ (∃ d, owns (c : Thread nD τ) (((pin (pcfgs (F := F)) a 1).win (3 : Fin 7)).stage ((pin (pcfgs (F := F)) a 1).slots t (3 : Fin 7))) fullShare (dat.before (3 : Fin 7) t d))
    ∗ (∃ d, owns (c : Thread nD τ) (((pin (pcfgs (F := F)) a 1).win (4 : Fin 7)).stage ((pin (pcfgs (F := F)) a 1).slots t (4 : Fin 7))) fullShare (dat.before (4 : Fin 7) t d))
    ∗ (∃ d, owns (c : Thread nD τ) (((pin (pcfgs (F := F)) a 1).win (5 : Fin 7)).stage ((pin (pcfgs (F := F)) a 1).slots t (5 : Fin 7))) fullShare (dat.before (5 : Fin 7) t d))
    ∗ (∃ d, owns (c : Thread nD τ) (((pin (pcfgs (F := F)) a 1).win (6 : Fin 7)).stage ((pin (pcfgs (F := F)) a 1).slots t (6 : Fin 7))) fullShare (dat.before (6 : Fin 7) t d)))

/-- and what it leaves. -/
def finalPost (a : Adms F) {c : Dev nD} (dat : Dat τ (Elt F) (HIx 2) ℕ UU ℕ (pin (pcfgs (F := F)) a 1) c) (t : Fin (pin (pcfgs (F := F)) a 1).N) : sProp 𝕄 :=
  iprop(dat.Φ t.succ ∗ dat.owesAt none t.succ
    ∗ owns (c : Thread nD τ) (((pin (pcfgs (F := F)) a 1).win (0 : Fin 7)).stage ((pin (pcfgs (F := F)) a 1).slots t (0 : Fin 7))) fullShare (dat.after (0 : Fin 7) t)
    ∗ owns (c : Thread nD τ) (((pin (pcfgs (F := F)) a 1).win (1 : Fin 7)).stage ((pin (pcfgs (F := F)) a 1).slots t (1 : Fin 7))) fullShare (dat.after (1 : Fin 7) t)
    ∗ owns (c : Thread nD τ) (((pin (pcfgs (F := F)) a 1).win (2 : Fin 7)).stage ((pin (pcfgs (F := F)) a 1).slots t (2 : Fin 7))) fullShare (dat.after (2 : Fin 7) t)
    ∗ owns (c : Thread nD τ) (((pin (pcfgs (F := F)) a 1).win (3 : Fin 7)).stage ((pin (pcfgs (F := F)) a 1).slots t (3 : Fin 7))) fullShare (dat.after (3 : Fin 7) t)
    ∗ owns (c : Thread nD τ) (((pin (pcfgs (F := F)) a 1).win (4 : Fin 7)).stage ((pin (pcfgs (F := F)) a 1).slots t (4 : Fin 7))) fullShare (dat.after (4 : Fin 7) t)
    ∗ owns (c : Thread nD τ) (((pin (pcfgs (F := F)) a 1).win (5 : Fin 7)).stage ((pin (pcfgs (F := F)) a 1).slots t (5 : Fin 7))) fullShare (dat.after (5 : Fin 7) t)
    ∗ owns (c : Thread nD τ) (((pin (pcfgs (F := F)) a 1).win (6 : Fin 7)).stage ((pin (pcfgs (F := F)) a 1).slots t (6 : Fin 7))) fullShare (dat.after (6 : Fin 7) t))

theorem final_row (a : Adms F) (t : Fin (pin (pcfgs (F := F)) a 1).N) :
    defs₀ (F := F) .tc (pin (pcfgs (F := F)) a 1).body ((pin (pcfgs (F := F)) a 1).bodyArgs t ((pin (pcfgs (F := F)) a 1).slots t)) = finalAt a t := rfl

set_option maxHeartbeats 1000000 in
/-- The last call: what a step finds becomes what it leaves. -/
theorem final_step (a : Adms F) (W : Valuation τ sig (Elt F)) (c : Dev nD)
    (dat : Dat τ (Elt F) (HIx 2) ℕ UU ℕ (pin (pcfgs (F := F)) a 1) c)
    (hA : ∀ w, dat.A w = W (Proc.devRef .tc (Pipeline.arrRef (pin (pcfgs (F := F)) a 1).spec w)))
    (hafter : ∀ w t, dat.after w t = afters a W 1 w t)
    (hΦ : ∀ t : Fin (pin (pcfgs (F := F)) a 1).N, dat.Φ t.succ = dat.Φ t.castSucc)
    (hO : ∀ t : Fin (pin (pcfgs (F := F)) a 1).N, dat.owesAt none t.succ = dat.owesAt none t.castSucc) (t : Fin (pin (pcfgs (F := F)) a 1).N) :
    finalPre a dat t ⊢ wp frame (wpE (defs₀ (F := F)) 𝒱₀ c none) Set.univ (finalAt a t) (fun _ => finalPost a dat t) := by
  have b0 : ∀ d, dat.before (0 : Fin 7) t d = blockAt a W 1 (0 : Fin 7) t :=
    before_block a W dat (0 : Fin 7) rfl (fun _ => rfl) (fun _ _ _ => rfl) (hA _) (fun t => by rw [hafter]; rfl) _ t (fun _ => rfl)
  have a0 : dat.after (0 : Fin 7) t = blockAt a W 1 (0 : Fin 7) t := by rw [hafter]; rfl
  have b1 : ∀ d, dat.before (1 : Fin 7) t d = blockAt a W 1 (1 : Fin 7) t :=
    before_block a W dat (1 : Fin 7) rfl (fun _ => rfl) (fun _ _ _ => rfl) (hA _) (fun t => by rw [hafter]; rfl) _ t (fun _ => rfl)
  have a1 : dat.after (1 : Fin 7) t = blockAt a W 1 (1 : Fin 7) t := by rw [hafter]; rfl
  have b2 : ∀ d, dat.before (2 : Fin 7) t d = blockAt a W 1 (2 : Fin 7) t :=
    before_block a W dat (2 : Fin 7) rfl (fun _ => rfl) (fun _ _ _ => rfl) (hA _) (fun t => by rw [hafter]; rfl) _ t (fun _ => rfl)
  have a2 : dat.after (2 : Fin 7) t = blockAt a W 1 (2 : Fin 7) t := by rw [hafter]; rfl
  have b3 : ∀ d, dat.before (3 : Fin 7) t d = blockAt a W 1 (3 : Fin 7) t :=
    before_block a W dat (3 : Fin 7) rfl (fun _ => rfl) (fun _ _ _ => rfl) (hA _) (fun t => by rw [hafter]; rfl) _ t (fun _ => rfl)
  have a3 : dat.after (3 : Fin 7) t = blockAt a W 1 (3 : Fin 7) t := by rw [hafter]; rfl
  have b4 : ∀ d, dat.before (4 : Fin 7) t d = blockAt a W 1 (4 : Fin 7) t :=
    before_block a W dat (4 : Fin 7) rfl (fun _ => rfl) (fun _ _ _ => rfl) (hA _) (fun t => by rw [hafter]; rfl) _ t (fun _ => rfl)
  have a4 : dat.after (4 : Fin 7) t = blockAt a W 1 (4 : Fin 7) t := by rw [hafter]; rfl
  have b5 : ∀ d, dat.before (5 : Fin 7) t d = blockAt a W 1 (5 : Fin 7) t :=
    before_block a W dat (5 : Fin 7) rfl (fun _ => rfl) (fun _ _ _ => rfl) (hA _) (fun t => by rw [hafter]; rfl) _ t (fun _ => rfl)
  have a5 : dat.after (5 : Fin 7) t = blockAt a W 1 (5 : Fin 7) t := by rw [hafter]; rfl
  have a6 : dat.after (6 : Fin 7) t = final a W t := by rw [hafter]; rfl
  unfold finalPre finalPost
  rw [hO, hΦ]
  simp only [b0, b1, b2, b3, b4, b5, a0, a1, a2, a3, a4, a5, a6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_final c Set.univ (grid3.coords t) _ _ _ _ _ _ _ _ _ _ _ _ _ _ (blockAt a W 1 (0 : Fin 7) t) (blockAt a W 1 (1 : Fin 7) t) (blockAt a W 1 (2 : Fin 7) t) (blockAt a W 1 (3 : Fin 7) t) (blockAt a W 1 (4 : Fin 7) t) (blockAt a W 1 (5 : Fin 7) t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The last call's obligation. -/
theorem final_body (a : Adms F) (W : Valuation τ sig (Elt F)) (c : Dev nD)
    (dat : Dat τ (Elt F) (HIx 2) ℕ UU ℕ (pin (pcfgs (F := F)) a 1) c)
    (hA : ∀ w, dat.A w = W (Proc.devRef .tc (Pipeline.arrRef (pin (pcfgs (F := F)) a 1).spec w)))
    (hafter : ∀ w t, dat.after w t = afters a W 1 w t)
    (hΦ : ∀ t : Fin (pin (pcfgs (F := F)) a 1).N, dat.Φ t.succ = dat.Φ t.castSucc)
    (hO : ∀ t : Fin (pin (pcfgs (F := F)) a 1).N, dat.owesAt none t.succ = dat.owesAt none t.castSucc) :
    BodyObligation dat (defs₀ (F := F)) 𝒱₀ none Set.univ := fun t => by
  rw [final_row]
  exact triple_restated (final_step a W c dat hA hafter hΦ hO t) rfl
    (sep_mono .rfl (sep_mono .rfl (Entails.of_eq (bigSep_W3 _))))
    fun _ => sep_mono .rfl (sep_mono .rfl (BIBase.Entails.trans (by exact .rfl) (Entails.of_eq (bigSep_W3 _).symm)))

end Cert.Proof.Sc

end
-- ==== Proof.Sc.Launch.lean ====
/-
  The launch of the kernel program: @main on the TensorCore with its two calls there, the two SparseCore calls on their
  thirty-two tiles, and what the memory holds at the end — every buffer as the host operations, the two gathers, the
  grouped product and the last call leave it.
-/
module

public import proofs.«01_k».proof.Proof.Sc.Bodies
public import proofs.«01_k».proof.Proof.Sc.Held
public import proofs.«01_k».proof.Proof.Sc.Ops
public import proofs.«01_k».proof.Proof.Sc.Steps

@[expose] public section

noncomputable section

namespace Cert.Proof.Sc

open Cert.KernelIdeal Cert.KernelIdeal.Gen
open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Idealize.ShloMosaic.StableHlo (held seqK after)
open Idealize.ShloMosaic.Pipeline (BodyObligationLoose pin)

variable {F : FTy → Type} [FloatOps F]

local notation "𝕄" => MT nD τ sig (HIx 2) (Elt F) ℕ UU ℕ

/-! ## The contents -/

abbrev rb (r : Ref sig .tc) : DevRef τ sig := Proc.devRef .tc r

/-- The first call's output: the parts of rows that its list names. -/
def rows0 (W : Valuation τ sig (Elt F)) : (Rows 139264).Idx → F .f32 :=
  gathered (nt := 65536) (no := 139264) (show (Rows 65536).Idx → F .f32 from W (rb main_v11)) (show (Lst 139264).Idx → BitVec 32 from W (rb main_v12))

/-- The second call's. -/
def rows1 (W : Valuation τ sig (Elt F)) : (Rows 131072).Idx → F .f32 :=
  gathered (nt := 139264) (no := 131072) (show (Rows 139264).Idx → F .f32 from W (rb main_v26)) (show (Lst 131072).Idx → BitVec 32 from W (rb main_v27))

variable (a : Adms F)

/-- The buffers when the first gather starts, from those at the launch; -/
def val0 (W : Valuation τ sig (Elt F)) : Valuation τ sig (Elt F) := after ops0 W
/-- when the grouped product starts, -/
def valA (W : Valuation τ sig (Elt F)) : Valuation τ sig (Elt F) := after ops1 (Function.update (val0 W) (rb main_v13) (rows0 (val0 W)))
/-- and when it has ended; -/
def valB (d : Dev nD) (W : Valuation τ sig (Elt F)) : Valuation τ sig (Elt F) := leaves a (valA W) 1 (afters a (valA W)) 0 d
/-- when the second gather starts; -/
def val1 (d : Dev nD) (W : Valuation τ sig (Elt F)) : Valuation τ sig (Elt F) := after ops2 (valB a d W)
/-- when the last call starts, -/
def valC (d : Dev nD) (W : Valuation τ sig (Elt F)) : Valuation τ sig (Elt F) := after ops3 (Function.update (val1 a d W) (rb main_v28) (rows1 (val1 a d W)))
/-- and when it has ended; -/
def valD (d : Dev nD) (W : Valuation τ sig (Elt F)) : Valuation τ sig (Elt F) := leaves a (valC a d W) 2 (afters a (valC a d W)) 1 d
/-- at the end. -/
def val2 (d : Dev nD) (W : Valuation τ sig (Elt F)) : Valuation τ sig (Elt F) := after ops4 (valD a d W)

/-- Both lists name rows of their tables. -/
def ListsOK (d : Dev nD) (W : Valuation τ sig (Elt F)) : Prop :=
  (∀ j, ((show (Lst 139264).Idx → BitVec 32 from val0 W (rb main_v12)) j).toNat < 65536)
  ∧ ∀ j, ((show (Lst 131072).Idx → BitVec 32 from val1 a d W (rb main_v27)) j).toNat < 139264

/-- The tables the TensorCore calls are steered by are the ones they are run at. -/
def TablesOK (W : Dev nD → Valuation τ sig (Elt F)) : Prop :=
  ∀ (p : Fin 2) (c : Dev nD) (k), W c (Proc.devRef .tc ((pcfgs (F := F) p).pre.ref k)) = (a p).1 k

section Run
variable (m : (ℓ : Loc nD τ sig) → Buf (Elt F) ℓ) (ρ : Dev nD → PrngReg)

/-- Device `d`'s buffers at the launch. -/
abbrev atLaunch (d : Dev nD) : Valuation τ sig (Elt F) := fun b => m (d, b)

/-! ## What the handshakes carry -/

def go0 (d : Dev nD) (w : Fin 32) : sProp 𝕄 :=
  goP (t0Loc d) (i0Loc d) (o0Loc d) (K0 d) (val0 (atLaunch m d) (rb main_v11)) (val0 (atLaunch m d) (rb main_v12)) w
def td0 (d : Dev nD) (w : Fin 32) : sProp 𝕄 :=
  tdP (t0Loc d) (i0Loc d) (o0Loc d) (K0 d) (val0 (atLaunch m d) (rb main_v11)) (val0 (atLaunch m d) (rb main_v12)) (rows0 (val0 (atLaunch m d))) w
def go1 (d : Dev nD) (w : Fin 32) : sProp 𝕄 :=
  goP (t1Loc d) (i1Loc d) (o1Loc d) (K1 d) (val1 a d (atLaunch m d) (rb main_v26)) (val1 a d (atLaunch m d) (rb main_v27)) w
def td1 (d : Dev nD) (w : Fin 32) : sProp 𝕄 :=
  tdP (t1Loc d) (i1Loc d) (o1Loc d) (K1 d) (val1 a d (atLaunch m d) (rb main_v26)) (val1 a d (atLaunch m d) (rb main_v27)) (rows1 (val1 a d (atLaunch m d))) w

/-- What call `q` hands tile `w`, -/
def goQ (q : Fin 2) (d : Dev nD) (w : Fin 32) : sProp 𝕄 := match q with | 0 => go0 m d w | 1 => go1 a m d w
/-- and what it brings back. -/
def tdQ (q : Fin 2) (d : Dev nD) (w : Fin 32) : sProp 𝕄 := match q with | 0 => td0 m d w | 1 => td1 a m d w

instance goQ_storable (q : Fin 2) (d : Dev nD) (w : Fin 32) : BI.Storable (upEmb : UEmb _ (MT nD τ sig (HIx 2) (Elt F) ℕ UU ℕ)) (goQ a m q d w : sProp 𝕄) :=
  match q with
  | 0 => by unfold goQ go0; infer_instance
  | 1 => by unfold goQ go1; infer_instance
instance tdQ_storable (q : Fin 2) (d : Dev nD) (w : Fin 32) : BI.Storable (upEmb : UEmb _ (MT nD τ sig (HIx 2) (Elt F) ℕ UU ℕ)) (tdQ a m q d w : sProp 𝕄) :=
  match q with
  | 0 => by unfold tdQ td0; infer_instance
  | 1 => by unfold tdQ td1; infer_instance

def P : (KK (F := F)).Pay (nD := nD) (Val := Elt F) (Name := ℕ) (U := UU) where
  st := fun q d c => bigSep Finset.univ fun i : Fin ((KK (F := F)).nSub q) => goQ a m q d (wk c.val i.val)
  dn := fun q d c => bigSep Finset.univ fun i : Fin ((KK (F := F)).nSub q) => tdQ a m q d (wk c.val i.val)
  go := fun q d c i => goQ a m q d (wk c.val i.val)
  td := fun q d c i => tdQ a m q d (wk c.val i.val)
  x := fun _ _ => iprop(emp)

instance P_storable : (P (F := F) a m).IsStorable where
  st q d c := (inferInstance : BI.Storable (upEmb : UEmb _ (MT nD τ sig (HIx 2) (Elt F) ℕ UU ℕ)) (bigSep Finset.univ fun i : Fin ((KK (F := F)).nSub q) => goQ a m q d (wk c.val i.val)))
  dn q d c := (inferInstance : BI.Storable (upEmb : UEmb _ (MT nD τ sig (HIx 2) (Elt F) ℕ UU ℕ)) (bigSep Finset.univ fun i : Fin ((KK (F := F)).nSub q) => tdQ a m q d (wk c.val i.val)))
  go q d c i := goQ_storable a m q d _
  td q d c i := tdQ_storable a m q d _

/-! ## The tasks' obligations -/

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = some q⌝ ∗ owes thr O W') : sProp 𝕄) := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid2.bound 0)) (s : Fin (grid2.bound 1)) : grid2.Coords :=
  fun | 0 => c | 1 => s | ⟨_ + 2, h⟩ => absurd h (Nat.not_lt.2 (Nat.le_add_left _ _))

theorem defs₀_call0 (c s) :
    defs₀ (F := F) (.scVector c s) 0 () = SparseCore.onTile hcore0 hsub0 (fun c s => (tile0 (coords0 c s)).run (by decide)) ⟨⟩ c s :=
  congrArg (fun f => SparseCore.onTile hcore0 hsub0 f PUnit.unit c s) (funext fun c => funext fun s => kernel0_eq (coords0 c s))
theorem defs₀_call1 (c s) :
    defs₀ (F := F) (.scVector c s) 2 () = SparseCore.onTile hcore2 hsub2 (fun c s => (tile1 (coords1 c s)).run (by decide)) ⟨⟩ c s :=
  congrArg (fun f => SparseCore.onTile hcore2 hsub2 f PUnit.unit c s) (funext fun c => funext fun s => kernel1_eq (coords1 c s))

set_option maxRecDepth 65536 in
theorem tileObl0 (hOK : ∀ d, ListsOK a d (atLaunch m d)) : (KK (F := F)).TileObl DD 𝒱 (P a m) v₀ 0 := by
  intro d c i O W hO _ _
  simp only [show (P a m).ox = fun _ _ => 0 from rfl, add_zero]
  have hci : ((KK (F := F)).core 0 c).val < grid0.bound 0 ∧ ((KK (F := F)).sub 0 i).val < grid0.bound 1 := ⟨c.isLt, i.isLt⟩
  change _ ⊢ wp _ _ _ (Pipeline.liftProg (defs₀ (F := F) (.scVector ((KK (F := F)).core 0 c) ((KK (F := F)).sub 0 i)) 0 ())) _
  refine BI.Entails.trans ?_ (Pipeline.wp_liftProg DD (Pipeline.defs_kernel pcfgs defs₀) 𝒱₀ _ Set.univ none _ _)
  rw [defs₀_call0]; simp only [SparseCore.onTile, hci, and_self, ↓reduceDIte]
  exact (tile_body0 d (coords0 ⟨_, hci.1⟩ ⟨_, hci.2⟩) _ _ (hOK d).1 O W hO).trans (wp_mono frame _ _ fun _ => obl_post)

set_option maxRecDepth 65536 in
theorem tileObl1 (hOK : ∀ d, ListsOK a d (atLaunch m d)) : (KK (F := F)).TileObl DD 𝒱 (P a m) v₀ 1 := by
  intro d c i O W hO _ _
  simp only [show (P a m).ox = fun _ _ => 0 from rfl, add_zero]
  have hci : ((KK (F := F)).core 1 c).val < grid2.bound 0 ∧ ((KK (F := F)).sub 1 i).val < grid2.bound 1 := ⟨c.isLt, i.isLt⟩
  change _ ⊢ wp _ _ _ (Pipeline.liftProg (defs₀ (F := F) (.scVector ((KK (F := F)).core 1 c) ((KK (F := F)).sub 1 i)) 2 ())) _
  refine BI.Entails.trans ?_ (Pipeline.wp_liftProg DD (Pipeline.defs_kernel pcfgs defs₀) 𝒱₀ _ Set.univ none _ _)
  rw [defs₀_call1]; simp only [SparseCore.onTile, hci, and_self, ↓reduceDIte]
  exact (tile_body1 d (coords1 ⟨_, hci.1⟩ ⟨_, hci.2⟩) _ _ (hOK d).2 O W hO).trans (wp_mono frame _ _ fun _ => obl_post)

/-- The tiles' pieces go out and come back as they are. -/
theorem vecSplit (q : Fin 2) : (KK (F := F)).VecSplit' (P a m) q := by
  intro d c
  show (bigSep Finset.univ fun i : Fin ((KK (F := F)).nSub q) => goQ a m q d (wk c.val i.val)) ⊢
    (iprop(|={Set.univ}=> ((bigSep Finset.univ fun i : Fin ((KK (F := F)).nSub q) => goQ a m q d (wk c.val i.val))
      ∗ ((bigSep Finset.univ fun i : Fin ((KK (F := F)).nSub q) => tdQ a m q d (wk c.val i.val))
        -∗ (bigSep Finset.univ fun i : Fin ((KK (F := F)).nSub q) => tdQ a m q d (wk c.val i.val))))) : sProp 𝕄)
  iintro H; imodintro
  isplitl [H]; · iexact H
  iintro H; iexact H

/-! ## The launch's own state -/

def u₀ : UU := (initOf (KK (F := F)).hsCells (KK (F := F)).hsToks,
  (initOf (Pipeline.cells (pin (pcfgs (F := F)) a) (cellOf_inj (F := F) a)) (Pipeline.launchToks (pin (pcfgs (F := F)) a) (cellOf_inj (F := F) a)), 1))

/-- What the TensorCore's two calls start from on a device. -/
def G (d : Dev nD) : sProp 𝕄 :=
  iprop((bigSep Finset.univ fun p : Fin 2 => Pipeline.cellsGhost (pin (pcfgs (F := F)) a) EP p d)
    ∗ bigSep Finset.univ fun p : Fin 2 => Pipeline.toksInit (pin (pcfgs (F := F)) a) EP p d)

theorem hu₀ : (ownU (u₀ (F := F) a) : sProp 𝕄) ⊢ |={Set.univ}=> iprop(BI.own (EH (initOf (KK (F := F)).hsCells (KK (F := F)).hsToks))
    ∗ (bigSep Finset.univ fun d : Dev nD => G a d)
    ∗ bigSep Finset.univ fun thr : Thread nD τ => bigSep Finset.univ fun q : Fin 2 => (P (F := F) a m).x q thr) := by
  have hf := Pipeline.fund_ghost (Val := Elt F) (Ix := HIx 2) (Name := ℕ) (U := UU) (Lvl := ℕ) (pin (pcfgs (F := F)) a) EP (cellOf_inj (F := F) a)
  unfold u₀
  iintro Hu
  ihave H := (ownU_pair (initOf (KK (F := F)).hsCells (KK (F := F)).hsToks)
    (initOf (Pipeline.cells (pin (pcfgs (F := F)) a) (cellOf_inj (F := F) a)) (Pipeline.launchToks (pin (pcfgs (F := F)) a) (cellOf_inj (F := F) a)), (1 : Counters))) $$ Hu
  icases H with ⟨HH, HR⟩
  ihave H := (own_pair_emb embR (initOf (Pipeline.cells (pin (pcfgs (F := F)) a) (cellOf_inj (F := F) a)) (Pipeline.launchToks (pin (pcfgs (F := F)) a) (cellOf_inj (F := F) a))) (1 : Counters)) $$ HR
  icases H with ⟨HP, -⟩
  ihave HP := hf $$ HP
  imod HP with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun q : Fin 2 => (P (F := F) a m).x q thr) = iprop(emp) from
    (bigSep_congr fun _ _ => bigSep_emp_const _).trans (bigSep_emp_const _)]
  iempintro

/-! ## @main -/

/-- One call on held buffers: the operands go out to the tiles, the output comes back at `g`. -/
theorem wp_call (κ : GSem nD τ sig → ℕ) (d : Dev nD) (q : Fin 2) (W : Valuation τ sig (Elt F)) {b₁ b₂ b₃ : DevRef τ sig} (g : b₃.ty.Contents (Elt F))
    (hab : b₁ ≠ b₂) (hac : b₁ ≠ b₃) (hbc : b₂ ≠ b₃) (ha : b₁ ∈ Pipeline.ucRefs τ sig) (hb : b₂ ∈ Pipeline.ucRefs τ sig) (hc : b₃ ∈ Pipeline.ucRefs τ sig)
    (hsplit : iprop(((d, b₁) ↦{fullShare} W b₁) ∗ ((d, b₂) ↦{fullShare} W b₂) ∗ ∃ f, ((d, b₃) ↦{fullShare} f))
      ⊢ (iprop((bigSep Finset.univ fun c : Fin ((KK (F := F)).nCore q) => (P a m).st q d c)
        ∗ ((bigSep Finset.univ fun c : Fin ((KK (F := F)).nCore q) => (P a m).dn q d c) -∗ ((d, b₁) ↦{fullShare} W b₁) ∗ ((d, b₂) ↦{fullShare} W b₂) ∗ ((d, b₃) ↦{fullShare} g))) : sProp 𝕄))
    {β : Type} (k : PUnit → Prog (TpuEff nD τ sig (Elt F) (SparseCore.Sig (ΛP (F := F)) 2) .tc) β) {Φ : β → sProp 𝕄} :
    iprop((KK (F := F)).ctx EH (P a m) κ ∗ (KK (F := F)).tcSt EH d q.val ∗ boundary (d.tc : Thread nD τ) ∗ held (d.tc : Thread nD τ) (Pipeline.ucRefs τ sig) W
        ∗ (((KK (F := F)).tcSt EH d (q.val + 1) ∗ boundary (d.tc : Thread nD τ) ∗ held (d.tc : Thread nD τ) (Pipeline.ucRefs τ sig) (Function.update W b₃ g))
          -∗ wp frame (wpE ((KK (F := F)).defs DD) 𝒱 (SparseCore.T d) none) Set.univ (k ⟨⟩) Φ))
      ⊢ wp frame (wpE ((KK (F := F)).defs DD) 𝒱 (SparseCore.T d) none) Set.univ ((KK (F := F)).run d q >>= k) Φ := by
  rw [wp_bind, held_three_update (d.tc : Thread nD τ) (Pipeline.ucRefs τ sig) W hab hac hbc ha hb hc g,
    held_three (d.tc : Thread nD τ) (Pipeline.ucRefs τ sig) W hab hac hbc ha hb hc]
  iintro ⟨#Hctx, Hst, Hb, ⟨Ha, Hbb, Hc, Hr⟩, Hk⟩
  ihave Hs := hsplit $$ [Ha Hbb Hc]
  · isplitl [Ha]; · iexact Ha
    isplitl [Hbb]; · iexact Hbb
    iexists _; iexact Hc
  icases Hs with ⟨Hgo, Hj⟩
  iapply ((KK (F := F)).wp_run DD 𝒱 (EH := EH) (P := P a m) κ d q) $$ [Hst Hb Hr Hk Hgo Hj]
  isplitr; · iexact Hctx
  isplitl [Hst]; · iexact Hst
  isplitl [Hgo]; · iexact Hgo
  iintro ⟨Hst, Hdn⟩
  ihave Hj := Hj $$ Hdn
  icases Hj with ⟨Ha, Hbb, Hc⟩
  iapply Hk
  isplitl [Hst]; · iexact Hst
  isplitl [Hb]; · iexact Hb
  isplitl [Ha]; · iexact Ha
  isplitl [Hbb]; · iexact Hbb
  isplitl [Hc] <;> iassumption

set_option backward.isDefEq.respectTransparency.types false in
/-- One TensorCore call on held buffers: they come back with the call's arrays as its steps leave them. -/
theorem wp_region [∀ e, Nonempty (Elt F e)] (κ : GSem nD τ sig → ℕ) (d : Dev nD) (n : ℕ) (W : Dev nD → Valuation τ sig (Elt F)) (p : Fin 2)
    (kit : Pipeline.PLaunchFacts₀ (nD := nD) (τ := τ) (pcfgs (F := F)) p)
    (hbody : ∀ c, BodyObligationLoose (heldDat a (W c) n (afters a (W c)) p c) (defs₀ (F := F)) 𝒱₀ none Set.univ)
    (hpf : ∀ c k, W c (Proc.devRef .tc ((pcfgs (F := F) p).pre.ref k)) = (a p).1 k)
    {β : Type} (k : PUnit → Prog (TpuEff nD τ sig (Elt F) (SparseCore.Sig (ΛP (F := F)) 2) .tc) β) {Φ : β → sProp 𝕄} :
    iprop((KK (F := F)).ctx EH (P a m) κ ∗ (KK (F := F)).tcSt EH d n ∗ boundary (d.tc : Thread nD τ) ∗ held (d.tc : Thread nD τ) (Pipeline.ucRefs τ sig) (W d)
        ∗ Pipeline.cellsGhost (pin (pcfgs (F := F)) a) EP p d ∗ Pipeline.toksInit (pin (pcfgs (F := F)) a) EP p d
        ∗ (((KK (F := F)).tcSt EH d n ∗ boundary (d.tc : Thread nD τ)
            ∗ held (d.tc : Thread nD τ) (Pipeline.ucRefs τ sig) (leaves a (W d) n (afters a (W d)) p d))
          -∗ wp frame (wpE ((KK (F := F)).defs DD) 𝒱 (SparseCore.T d) none) Set.univ (k ⟨⟩) Φ))
      ⊢ wp frame (wpE ((KK (F := F)).defs DD) 𝒱 (SparseCore.T d) none) Set.univ
        (Prog.lift (.customCall (SparseCore.inner (Pipeline.entry p)) ()) >>= k) Φ := by
  rw [wp_bind]
  have h1 := (KK (F := F)).wp_liftProg (D := DD) (𝒱 := 𝒱) (SparseCore.T d) Set.univ none
    (.op (.customCall (Pipeline.entry p) ()) .ret) (fun x => wp frame (wpE ((KK (F := F)).defs DD) 𝒱 (SparseCore.T d) none) Set.univ (k x) Φ)
  have h2 := Pipeline.RegionSeg.wp (pcfgs (F := F)) a (fun q c => heldDat a (W c) n (afters a (W c)) q c) none (cellOf_inj (F := F) a) EP (defs₀ (F := F)) 𝒱₀
    (KK (F := F)).L (KK (F := F)).lev (region a W n (fun c => afters a (W c)) p kit hbody hpf) d none (fun _ h => nomatch h) Prog.ret
    (fun x => wp frame (wpE ((KK (F := F)).defs DD) 𝒱 (SparseCore.T d) none) Set.univ (k x) Φ)
  refine BIBase.Entails.trans ?_ h1
  refine BIBase.Entails.trans ?_ h2
  unfold SparseCore.Cfg.ctx SparseCore.Cfg.tcSt region
  iintro ⟨⟨#Hlv, -⟩, ⟨HO, Hst⟩, Hb, Hheld, Hc, Ht, Hk⟩
  isplitl [Hk Hst]
  · iintro ⟨Hb, Hheld, HO⟩
    rw [wp_ret]; imodintro
    iapply Hk
    isplitl [HO Hst]
    · isplitl [HO]; · iexact HO
      iexact Hst
    isplitl [Hb] <;> iassumption
  isplitl [Hb]; · iexact Hb
  isplitl [Hheld HO]
  · isplitl [Hheld]; · iexact Hheld
    iexact HO
  isplitr; · iexact Hlv
  isplitl [Hc] <;> iassumption

/-- What is held for each of two calls is held for the first and for the second. -/
theorem bigSep_both (Φ : Fin 2 → sProp 𝕄) : bigSep Finset.univ Φ = iprop(Φ 0 ∗ Φ 1) := BI.bigSep_fin_two Φ

theorem mem_uc (r : Ref sig .tc) (h : (rb r).isScoped = false) : rb r ∈ Pipeline.ucRefs τ sig :=
  Finset.mem_filter.mpr ⟨StableHlo.devRef_mem_tcRefs _, fun h' => Bool.false_ne_true (h.symm.trans h')⟩

/-- What @main ends with: every unscoped buffer as it then is. -/
abbrev FIN (d : Dev nD) : sProp 𝕄 := held (d.tc : Thread nD τ) (Pipeline.ucRefs τ sig) (val2 a d (atLaunch m d))

set_option backward.isDefEq.respectTransparency.types false in
theorem hmain [∀ e, Nonempty (Elt F e)] (hT : TablesOK a fun d => valA (atLaunch m d)) (κ : GSem nD τ sig → ℕ) (d : Dev nD) :
    iprop((KK (F := F)).ctx EH (P a m) κ ∗ (KK (F := F)).tcSt EH d 0 ∗ (KK (F := F)).tcRes m ρ d ∗ G a d)
      ⊢ wp frame (wpE ((KK (F := F)).defs DD) 𝒱 (SparseCore.T d) none) Set.univ (main d)
          fun _ => (iprop((KK (F := F)).tcSt EH d 2 ∗ FIN a m d ∗ (KK (F := F)).tcEnd d) : sProp 𝕄) := by
  unfold SparseCore.Cfg.tcRes SparseCore.Cfg.tcEnd
  rw [main_eq, ← StableHlo.seq_bind_seqK, ← StableHlo.seq_bind_seqK, ← StableHlo.seq_bind_seqK, ← StableHlo.seq_bind_seqK, ← StableHlo.seq_bind_seqK]
  unfold G
  rw [bigSep_both, bigSep_both]
  rw [show (unscopedBufs d (fun b => m ((SparseCore.T d).loc b)) : sProp 𝕄) = held (d.tc : Thread nD τ) (Pipeline.ucRefs τ sig) (atLaunch m d) from
    Pipeline.unscopedBufs_held d (atLaunch m d)]
  iintro ⟨#Hctx, Hst, ⟨Hb, Hheld, Hts, -⟩, ⟨Hc0, Hc1⟩, ⟨Ht0, Ht1⟩⟩
  iapply (StableHlo.wp_seq 𝒱 none Set.univ d (Pipeline.ucRefs τ sig) _ ops0 ops0_bufs ops0_fresh (atLaunch m d)) $$ [Hb Hheld]
  · isplitl [Hb] <;> iassumption
  iintro ⟨Hb, Hheld⟩
  iapply (wp_call a m κ d 0 (val0 (atLaunch m d)) (b₁ := rb main_v11) (b₂ := rb main_v12) (b₃ := rb main_v13) (rows0 (val0 (atLaunch m d))) (by decide) (by decide) (by decide)
    (mem_uc _ rfl) (mem_uc _ rfl) (mem_uc _ rfl)
    (deal (t0Loc d) (i0Loc d) (o0Loc d) (K0 d) (val0 (atLaunch m d) (rb main_v11)) (val0 (atLaunch m d) (rb main_v12)) (rows0 (val0 (atLaunch m d)))
      (fun w _ w' _ h => blk_disjoint (no := 139264) (B := 4352) w w' h) (blk_cover (no := 139264) (B := 4352) rfl)) _) $$ [Hst Hb Hheld Hts Hc0 Hc1 Ht0 Ht1]
  isplitr; · iexact Hctx
  isplitl [Hst]; · iexact Hst
  isplitl [Hb]; · iexact Hb
  isplitl [Hheld]; · iexact Hheld
  iintro ⟨Hst, Hb, Hheld⟩
  iapply (StableHlo.wp_seq 𝒱 none Set.univ d (Pipeline.ucRefs τ sig) _ ops1 ops1_bufs ops1_fresh _) $$ [Hb Hheld]
  · isplitl [Hb] <;> iassumption
  iintro ⟨Hb, Hheld⟩
  iapply (wp_region a m κ d 1 (fun d => valA (atLaunch m d)) 0 launch1.to₀ (fun c => (group_body a (valA (atLaunch m c)) c _ (fun _ => rfl) (fun _ _ => rfl) (fun _ => rfl) (fun _ => rfl)).loose) (hT 0) _) $$ [Hst Hb Hheld Hts Hc0 Hc1 Ht0 Ht1]
  isplitr; · iexact Hctx
  isplitl [Hst]; · iexact Hst
  isplitl [Hb]; · iexact Hb
  isplitl [Hheld]; · iexact Hheld
  isplitl [Hc0]; · iexact Hc0
  isplitl [Ht0]; · iexact Ht0
  iintro ⟨Hst, Hb, Hheld⟩
  iapply (StableHlo.wp_seq 𝒱 none Set.univ d (Pipeline.ucRefs τ sig) _ ops2 ops2_bufs ops2_fresh _) $$ [Hb Hheld]
  · isplitl [Hb] <;> iassumption
  iintro ⟨Hb, Hheld⟩
  iapply (wp_call a m κ d 1 (val1 a d (atLaunch m d)) (b₁ := rb main_v26) (b₂ := rb main_v27) (b₃ := rb main_v28) (rows1 (val1 a d (atLaunch m d))) (by decide) (by decide) (by decide)
    (mem_uc _ rfl) (mem_uc _ rfl) (mem_uc _ rfl)
    (deal (t1Loc d) (i1Loc d) (o1Loc d) (K1 d) (val1 a d (atLaunch m d) (rb main_v26)) (val1 a d (atLaunch m d) (rb main_v27)) (rows1 (val1 a d (atLaunch m d)))
      (fun w _ w' _ h => blk_disjoint (no := 131072) (B := 4096) w w' h) (blk_cover (no := 131072) (B := 4096) rfl)) _) $$ [Hst Hb Hheld Hts Hc1 Ht1]
  isplitr; · iexact Hctx
  isplitl [Hst]; · iexact Hst
  isplitl [Hb]; · iexact Hb
  isplitl [Hheld]; · iexact Hheld
  iintro ⟨Hst, Hb, Hheld⟩
  iapply (StableHlo.wp_seq 𝒱 none Set.univ d (Pipeline.ucRefs τ sig) _ ops3 ops3_bufs ops3_fresh _) $$ [Hb Hheld]
  · isplitl [Hb] <;> iassumption
  iintro ⟨Hb, Hheld⟩
  iapply (wp_region a m κ d 2 (fun d => valC a d (atLaunch m d)) 1 launch₀3 (fun c => (final_body a (valC a c (atLaunch m c)) c _ (fun _ => rfl) (fun _ _ => rfl) (fun _ => rfl) (fun _ => rfl)).loose) (fun _ k => k.elim0) _) $$ [Hst Hb Hheld Hts Hc1 Ht1]
  isplitr; · iexact Hctx
  isplitl [Hst]; · iexact Hst
  isplitl [Hb]; · iexact Hb
  isplitl [Hheld]; · iexact Hheld
  isplitl [Hc1]; · iexact Hc1
  isplitl [Ht1]; · iexact Ht1
  iintro ⟨Hst, Hb, Hheld⟩
  iapply (StableHlo.wp_seq 𝒱 none Set.univ d (Pipeline.ucRefs τ sig) _ ops4 ops4_bufs ops4_fresh _) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The run -/

/-- Every thread ends, the semaphores are at zero, and each device's unscoped buffers are as `val2` says. -/
theorem run_main [∀ e, Nonempty (Elt F e)] (hT : TablesOK a fun d => valA (atLaunch m d)) (hOK : ∀ d, ListsOK a d (atLaunch m d)) :
    θ_run (defs (F := F)) (threads (F := F)) ⟨m, fun _ => 0, ρ⟩
      (fun r => (∀ d : Dev nD, ∀ b ∈ Pipeline.ucRefs τ sig, r.2.mem (d, b) = val2 a d (atLaunch m d) b) ∧ r.2.sem = fun _ => 0) :=
  SparseCore.Cfg.θ_run_sc_quiescent (K := KK) (D := DD) (𝒱 := 𝒱) (EH := EH) (P := P a m) (A := ∅)
    scFacts v₀ (fun q hq => match q with | 0 => nomatch hq | 1 => nomatch hq)
    (fun q _ => match q with | 0 => tileObl0 a m hOK | 1 => tileObl1 a m hOK)
    (fun q _ => SparseCore.Cfg.VecSplit.of_plain (vecSplit a m q))
    m ρ main (G a) (FIN a m) (u₀ (F := F) a) (sep_elim_left.trans (hu₀ a m)) (hmain a m ρ hT)
    (fun d s' => ∀ b ∈ Pipeline.ucRefs τ sig, s'.mem.mem (d, b) = val2 a d (atLaunch m d) b)
    (fun d s' => held_read_all (d.tc : Thread nD τ) (Pipeline.ucRefs τ sig) (val2 a d (atLaunch m d)) s')
    (fun r => (∀ d : Dev nD, ∀ b ∈ Pipeline.ucRefs τ sig, r.2.mem (d, b) = val2 a d (atLaunch m d) b) ∧ r.2.sem = fun _ => 0)
    (fun _ h hz => ⟨h, hz⟩)

end Run

end Cert.Proof.Sc
end
-- ==== Proof.Sc.Arrays.lean ====
/-
  What the two TensorCore calls leave in their results' arrays, and what blocks they read: block `t` of the rows, of the
  weights and of the result is rows `256 t … 256 t + 255`, the expert's block the one that the table names at `t`.
-/
module

public import proofs.«01_k».proof.Proof.Sc.Launch
public import proofs.«01_k».proof.Proof.Gen.KernelIdeal.Points
public import Idealize.ShloMosaic.Lib.Pointwise.Index
public import Idealize.ShloMosaic.Lib.Pipeline.ValueKit.Geometry

@[expose] public section

noncomputable section

namespace Cert.Proof.Sc

open Cert.KernelIdeal Cert.KernelIdeal.Gen
open Idealize.ShloMosaic
open Idealize.ShloMosaic.Pipeline (Dat pin Window Grid)

variable {F : FTy → Type} [FloatOps F]
variable (a : Adms F) (W : Valuation τ sig (Elt F))

theorem coord1 (t : Fin grid1.N) : (grid1.coords t 0).val = t.val := by
  have h : t.val < 136 := lt_of_lt_of_eq t.isLt N_1
  rw [Pipeline.Grid.coords_val t 0 (S := 1) (B := 136) rfl rfl]; omega

theorem coord3 (t : Fin grid3.N) : (grid3.coords t 0).val = t.val := by
  have h : t.val < 64 := lt_of_lt_of_eq t.isLt N_3
  rw [Pipeline.Grid.coords_val t 0 (S := 1) (B := 64) rfl rfl]; omega

/-- A coordinate as a word and back. -/
theorem ofNat_coord {n : ℕ} (h : n < 136) : (BitVec.ofNat 32 n).toNat = n := by
  rw [BitVec.toNat_ofNat]; omega

/-- A point's number of the grouped product, and of the last call. -/
theorem lt1 (t : Fin (pin (pcfgs (F := F)) a 0).N) : t.val < 136 := lt_of_lt_of_eq t.isLt N_1
theorem lt3 (t : Fin (pin (pcfgs (F := F)) a 1).N) : t.val < 64 := lt_of_lt_of_eq t.isLt N_3

/-- The row of a block's row. -/
abbrev row {n : ℕ} (t : ℕ) (r : Fin 256) (h : 256 * t + 256 ≤ n) : Fin n := ⟨256 * t + r.val, by omega⟩

/-- A block of the gathered rows. -/
theorem rows_block (t : Fin (pin (pcfgs (F := F)) a 0).N) (r : Fin 256) (k : Fin 1024) :
    blockAt a W 0 (0 : Fin 5) t (ix2 r k) = (show S34816x1024.Idx → F .f32 from W (rb main_v14)) (ix2 (row t.val r (by have := lt1 a t; omega)) k) := by
  show (show S34816x1024.Idx → F .f32 from W (rb main_v14)) ((((pin (pcfgs (F := F)) a 0).win (0 : Fin 5)).rect t).emb (ix2 r k)) = _
  refine congrArg _ (funext fun x => Fin.ext ?_)
  have ht := lt1 a t
  refine (Pipeline.Window.rect_emb_val ((pin (pcfgs (F := F)) a 0).win (0 : Fin 5)) t (ix2 r k) x).trans ?_
  match x with
  | 0 =>
    show (BitVec.ofNat 32 (grid1.coords t 0).val).toNat * 256 + r.val = 256 * t.val + r.val
    rw [coord1, ofNat_coord (by omega)]; omega
  | 1 =>
    show 0 * 1024 + k.val = k.val
    omega

/-- The expert that the table names at a point. -/
abbrev named (t : Fin (pin (pcfgs (F := F)) a 0).N) : BitVec 32 := (show S136.Idx → BitVec 32 from (a 0).1 (0 : Fin 1)) (ix1 ⟨t.val, lt1 a t⟩)

/-- The word that a window reads of the table at a point. -/
theorem named_at (t : Fin (pin (pcfgs (F := F)) a 0).N) :
    (show pre1.Contents (Elt F) from (a 0).1).at 0 (Rect.unit (s := S136) (k1_off1 (grid1.coords t)) S1.size (k1_off1_inb (grid1.coords t))) numel1_S1 = named a t := by
  have ht := lt1 a t
  show (show S136.Idx → BitVec 32 from (a 0).1 (0 : Fin 1)) ((Rect.unit (s := S136) (k1_off1 (grid1.coords t)) S1.size (k1_off1_inb (grid1.coords t))).emb _) = _
  refine congrArg _ (funext fun x => Fin.ext ?_)
  match x with
  | 0 =>
    show (BitVec.ofNat 32 (grid1.coords t 0).val).toNat + 1 * 0 = t.val
    rw [coord1, ofNat_coord ht]; omega

/-- The table names experts. -/
theorem named_lt (t : Fin (pin (pcfgs (F := F)) a 0).N) : (named a t).toNat < 8 := by
  obtain ⟨h, -⟩ := (show ok1 (F := F) (a 0).1 from (a 0).2).1 (grid1.coords t)
  have h0 := h 0
  have e : cc1_transform_1 k1_off1_inb numel1_S1 (a 0).1 (grid1.coords t) 0 = (named a t).toNat := congrArg BitVec.toNat (named_at a t)
  rw [e] at h0
  have : ((named a t).toNat + 1) * 1 ≤ 8 := h0
  omega

/-- The named expert's matrix. -/
theorem expert_block (t : Fin (pin (pcfgs (F := F)) a 0).N) (z : Fin 1) (l k : Fin 1024) :
    blockAt a W 0 (1 : Fin 5) t (ix3 z l k) = (show S8x1024x1024.Idx → F .bf16 from W (rb main_v1)) (ix3 ⟨(named a t).toNat, named_lt a t⟩ l k) := by
  show (show S8x1024x1024.Idx → F .bf16 from W (rb main_v1)) ((((pin (pcfgs (F := F)) a 0).win (1 : Fin 5)).rect t).emb (ix3 z l k)) = _
  refine congrArg _ (funext fun x => Fin.ext ?_)
  have ht := lt1 a t
  refine (Pipeline.Window.rect_emb_val ((pin (pcfgs (F := F)) a 0).win (1 : Fin 5)) t (ix3 z l k) x).trans ?_
  match x with
  | 0 =>
    show (BitVec.toNat ((show pre1.Contents (Elt F) from (a 0).1).at 0 (Rect.unit (s := S136) (k1_off1 (grid1.coords t)) S1.size (k1_off1_inb (grid1.coords t))) numel1_S1)) * 1 + z.val = (named a t).toNat
    rw [named_at]; omega
  | 1 =>
    show 0 * 1024 + l.val = l.val
    omega
  | 2 =>
    show 0 * 1024 + k.val = k.val
    omega

/-- The named expert's bias. -/
theorem bias_block (t : Fin (pin (pcfgs (F := F)) a 0).N) (z y : Fin 1) (l : Fin 1024) :
    blockAt a W 0 (2 : Fin 5) t (ix3 z y l) = (show S8x1x1024.Idx → F .f32 from W (rb main_v15)) (ix3 ⟨(named a t).toNat, named_lt a t⟩ 0 l) := by
  show (show S8x1x1024.Idx → F .f32 from W (rb main_v15)) ((((pin (pcfgs (F := F)) a 0).win (2 : Fin 5)).rect t).emb (ix3 z y l)) = _
  refine congrArg _ (funext fun x => Fin.ext ?_)
  have ht := lt1 a t
  refine (Pipeline.Window.rect_emb_val ((pin (pcfgs (F := F)) a 0).win (2 : Fin 5)) t (ix3 z y l) x).trans ?_
  match x with
  | 0 =>
    show (BitVec.toNat ((show pre1.Contents (Elt F) from (a 0).1).at 0 (Rect.unit (s := S136) (k1_off1 (grid1.coords t)) S1.size (k1_off1_inb (grid1.coords t))) numel1_S1)) * 1 + z.val = (named a t).toNat
    rw [named_at]; omega
  | 1 =>
    show 0 * 1 + y.val = 0
    omega
  | 2 =>
    show 0 * 1024 + l.val = l.val
    omega

/-- A block of the weights. -/
theorem weight_block (t : Fin (pin (pcfgs (F := F)) a 0).N) (r : Fin 256) (z : Fin 1) :
    blockAt a W 0 (3 : Fin 5) t (ix2 r z) = (show S34816x1.Idx → F .f32 from W (rb main_v16)) (ix2 (row t.val r (by have := lt1 a t; omega)) 0) := by
  show (show S34816x1.Idx → F .f32 from W (rb main_v16)) ((((pin (pcfgs (F := F)) a 0).win (3 : Fin 5)).rect t).emb (ix2 r z)) = _
  refine congrArg _ (funext fun x => Fin.ext ?_)
  have ht := lt1 a t
  refine (Pipeline.Window.rect_emb_val ((pin (pcfgs (F := F)) a 0).win (3 : Fin 5)) t (ix2 r z) x).trans ?_
  match x with
  | 0 =>
    show (BitVec.ofNat 32 (grid1.coords t 0).val).toNat * 256 + r.val = 256 * t.val + r.val
    rw [coord1, ofNat_coord (by omega)]; omega
  | 1 =>
    show 0 * 1 + z.val = 0
    omega

/-- A block of the first slots' rows. -/
theorem first_block (t : Fin (pin (pcfgs (F := F)) a 1).N) (r : Fin 256) (k : Fin 1024) :
    blockAt a W 1 (0 : Fin 7) t (ix2 r k) = (show S32768x1024.Idx → F .f32 from W (rb main_v29)) (ix2 (row t.val r (by have := lt3 a t; omega)) k) := by
  show (show S32768x1024.Idx → F .f32 from W (rb main_v29)) ((((pin (pcfgs (F := F)) a 1).win (0 : Fin 7)).rect t).emb (ix2 r k)) = _
  refine congrArg _ (funext fun x => Fin.ext ?_)
  have ht := lt3 a t
  refine (Pipeline.Window.rect_emb_val ((pin (pcfgs (F := F)) a 1).win (0 : Fin 7)) t (ix2 r k) x).trans ?_
  match x with
  | 0 =>
    show (BitVec.ofNat 32 (grid3.coords t 0).val).toNat * 256 + r.val = 256 * t.val + r.val
    rw [coord3, ofNat_coord (by omega)]; omega
  | 1 =>
    show 0 * 1024 + k.val = k.val
    omega

/-- A block of the second slots' rows, which stand below the first slots'. -/
theorem second_block (t : Fin (pin (pcfgs (F := F)) a 1).N) (r : Fin 256) (k : Fin 1024) :
    blockAt a W 1 (1 : Fin 7) t (ix2 r k) = (show S32768x1024.Idx → F .f32 from W (rb main_v29)) (ix2 (row (t.val + 64) r (by have := lt3 a t; omega)) k) := by
  show (show S32768x1024.Idx → F .f32 from W (rb main_v29)) ((((pin (pcfgs (F := F)) a 1).win (1 : Fin 7)).rect t).emb (ix2 r k)) = _
  refine congrArg _ (funext fun x => Fin.ext ?_)
  have ht := lt3 a t
  refine (Pipeline.Window.rect_emb_val ((pin (pcfgs (F := F)) a 1).win (1 : Fin 7)) t (ix2 r k) x).trans ?_
  match x with
  | 0 =>
    show (BitVec.ofNat 32 (grid3.coords t 0).val + 64#32).toNat * 256 + r.val = 256 * (t.val + 64) + r.val
    rw [coord3, BitVec.toNat_add, ofNat_coord (by omega)]
    show (t.val + 64) % 2 ^ 32 * 256 + _ = _
    omega
  | 1 =>
    show 0 * 1024 + k.val = k.val
    omega

/-- A block of the tokens. -/
theorem token_block (t : Fin (pin (pcfgs (F := F)) a 1).N) (r : Fin 256) (k : Fin 1024) :
    blockAt a W 1 (2 : Fin 7) t (ix2 r k) = (show S16384x1024.Idx → F .f32 from W (rb main_v0)) (ix2 (row t.val r (by have := lt3 a t; omega)) k) := by
  show (show S16384x1024.Idx → F .f32 from W (rb main_v0)) ((((pin (pcfgs (F := F)) a 1).win (2 : Fin 7)).rect t).emb (ix2 r k)) = _
  refine congrArg _ (funext fun x => Fin.ext ?_)
  have ht := lt3 a t
  refine (Pipeline.Window.rect_emb_val ((pin (pcfgs (F := F)) a 1).win (2 : Fin 7)) t (ix2 r k) x).trans ?_
  match x with
  | 0 =>
    show (BitVec.ofNat 32 (grid3.coords t 0).val).toNat * 256 + r.val = 256 * t.val + r.val
    rw [coord3, ofNat_coord (by omega)]; omega
  | 1 =>
    show 0 * 1024 + k.val = k.val
    omega

/-- The output matrix, whole. -/
theorem out_block (t : Fin (pin (pcfgs (F := F)) a 1).N) (l k : Fin 1024) :
    blockAt a W 1 (3 : Fin 7) t (ix2 l k) = (show S1024x1024.Idx → F .bf16 from W (rb main_v2)) (ix2 l k) := by
  show (show S1024x1024.Idx → F .bf16 from W (rb main_v2)) ((((pin (pcfgs (F := F)) a 1).win (3 : Fin 7)).rect t).emb (ix2 l k)) = _
  refine congrArg _ (funext fun x => Fin.ext ?_)
  have ht := lt3 a t
  refine (Pipeline.Window.rect_emb_val ((pin (pcfgs (F := F)) a 1).win (3 : Fin 7)) t (ix2 l k) x).trans ?_
  match x with
  | 0 =>
    show 0 * 1024 + l.val = l.val
    omega
  | 1 =>
    show 0 * 1024 + k.val = k.val
    omega

/-- The output bias, whole. -/
theorem out_bias_block (t : Fin (pin (pcfgs (F := F)) a 1).N) (z : Fin 1) (k : Fin 1024) :
    blockAt a W 1 (4 : Fin 7) t (ix2 z k) = (show S1x1024.Idx → F .f32 from W (rb main_v30)) (ix2 0 k) := by
  show (show S1x1024.Idx → F .f32 from W (rb main_v30)) ((((pin (pcfgs (F := F)) a 1).win (4 : Fin 7)).rect t).emb (ix2 z k)) = _
  refine congrArg _ (funext fun x => Fin.ext ?_)
  have ht := lt3 a t
  refine (Pipeline.Window.rect_emb_val ((pin (pcfgs (F := F)) a 1).win (4 : Fin 7)) t (ix2 z k) x).trans ?_
  match x with
  | 0 =>
    show 0 * 1 + z.val = 0
    omega
  | 1 =>
    show 0 * 1024 + k.val = k.val
    omega

/-- The norm's weights, whole. -/
theorem norm_block (t : Fin (pin (pcfgs (F := F)) a 1).N) (z : Fin 1) (k : Fin 1024) :
    blockAt a W 1 (5 : Fin 7) t (ix2 z k) = (show S1x1024.Idx → F .f32 from W (rb main_v31)) (ix2 0 k) := by
  show (show S1x1024.Idx → F .f32 from W (rb main_v31)) ((((pin (pcfgs (F := F)) a 1).win (5 : Fin 7)).rect t).emb (ix2 z k)) = _
  refine congrArg _ (funext fun x => Fin.ext ?_)
  have ht := lt3 a t
  refine (Pipeline.Window.rect_emb_val ((pin (pcfgs (F := F)) a 1).win (5 : Fin 7)) t (ix2 z k) x).trans ?_
  match x with
  | 0 =>
    show 0 * 1 + z.val = 0
    omega
  | 1 =>
    show 0 * 1024 + k.val = k.val
    omega

/-- All the grouped product's rows. -/
def groups : S34816x1024.Idx → F .f32 := fun i =>
  group a W ⟨(i 0).val / 256, lt_of_lt_of_eq (by have := (i 0).isLt; show _ < 136; change (i 0).val < 34816 at this; omega) N_1.symm⟩
    (ix2 ⟨(i 0).val % 256, Nat.mod_lt _ (by decide)⟩ ⟨(i 1).val, (i 1).isLt⟩)

theorem groups_at (t : Fin (pin (pcfgs (F := F)) a 0).N) (y : S256x1024.Idx) (i : S34816x1024.Idx)
    (h0 : (i 0).val = 256 * t.val + (y 0).val) (h1 : (i 1).val = (y 1).val) : groups a W i = group a W t y := by
  have hy : (y 0).val < 256 := (y 0).isLt
  have e : (⟨(i 0).val / 256, lt_of_lt_of_eq (by have := (i 0).isLt; show _ < 136; change (i 0).val < 34816 at this; omega) N_1.symm⟩ : Fin (pin (pcfgs (F := F)) a 0).N) = t :=
    Fin.ext (by show (i 0).val / 256 = t.val; omega)
  unfold groups
  rw [e]
  refine congrArg _ (funext fun x => Fin.ext ?_)
  match x with
  | 0 => show (i 0).val % 256 = (y 0).val; omega
  | 1 => exact h1

theorem groups_emb (t : Fin (pin (pcfgs (F := F)) a 0).N) (y : S256x1024.Idx) (x : Fin 2) :
    ((((pin (pcfgs (F := F)) a 0).win (4 : Fin 5)).rect t).emb y x).val = if x = 0 then 256 * t.val + (y 0).val else (y 1).val := by
  have ht := lt1 a t
  refine (Pipeline.Window.rect_emb_val ((pin (pcfgs (F := F)) a 0).win (4 : Fin 5)) t y x).trans ?_
  match x with
  | 0 =>
    show (BitVec.ofNat 32 (grid1.coords t 0).val).toNat * 256 + (y 0).val = 256 * t.val + (y 0).val
    rw [coord1, ofNat_coord (by omega)]; omega
  | 1 =>
    show 0 * 1024 + (y 1).val = (y 1).val
    omega

set_option backward.isDefEq.respectTransparency.types false in
/-- What the call leaves in its result's array. -/
theorem groups_leaves (n : ℕ) (c : Dev nD) : leaves a W n (afters a W) 0 c (rb main_v17) = groups a W := by
  refine (Dat.withArrays_arrAt (heldDat a W n (afters a W) 0 c) (launch1 (F := F)).to₀.sharedIn W (fun _ => rfl) (4 : Fin 5)).trans ?_
  refine Dat.arrAt_eq_of_emb (heldDat a W n (afters a W) 0 c) (4 : Fin 5) (groups a W) (fun t _ y => ?_) fun i => ?_
  · show group a W t y = groups a W ((((pin (pcfgs (F := F)) a 0).win (4 : Fin 5)).rect t).emb y)
    exact (groups_at a W t y _ (groups_emb a t y 0) (groups_emb a t y 1)).symm
  · have hi : (i 0).val < 34816 := (i 0).isLt
    refine ⟨⟨(i 0).val / 256, lt_of_lt_of_eq (by show _ < 136; omega) N_1.symm⟩, (Pipeline.Window.flush_reads ((pin (pcfgs (F := F)) a 0).win (4 : Fin 5)) rfl (0 : Fin 1) (show 1 < grid1.bound 0 by decide)
      (show grid1.fixedAfter reads1_4 0 = true by decide) (Pipeline.Window.sep_of_coord (G := grid1) cc1_transform_4 0 0 (fun _ => rfl) (by decide)) (P := 1) (m := 0)
      (show grid1.stride 0 = 1 by decide) rfl _).mpr (Nat.mod_one _), ?_⟩
    refine Finset.mem_map.mpr ⟨ix2 ⟨(i 0).val % 256, Nat.mod_lt _ (by decide)⟩ ⟨(i 1).val, (i 1).isLt⟩, Finset.mem_univ _, ?_⟩
    refine funext fun x => Fin.ext ?_
    match x with
    | 0 => refine (groups_emb a _ _ 0).trans ?_; show 256 * ((i 0).val / 256) + (i 0).val % 256 = (i 0).val; omega
    | 1 => exact (groups_emb a _ _ 1).trans rfl

/-- All the last call's rows. -/
def finals : S16384x1024.Idx → F .f32 := fun i =>
  final a W ⟨(i 0).val / 256, lt_of_lt_of_eq (by have := (i 0).isLt; show _ < 64; change (i 0).val < 16384 at this; omega) N_3.symm⟩
    (ix2 ⟨(i 0).val % 256, Nat.mod_lt _ (by decide)⟩ ⟨(i 1).val, (i 1).isLt⟩)

theorem finals_at (t : Fin (pin (pcfgs (F := F)) a 1).N) (y : S256x1024.Idx) (i : S16384x1024.Idx)
    (h0 : (i 0).val = 256 * t.val + (y 0).val) (h1 : (i 1).val = (y 1).val) : finals a W i = final a W t y := by
  have hy : (y 0).val < 256 := (y 0).isLt
  have e : (⟨(i 0).val / 256, lt_of_lt_of_eq (by have := (i 0).isLt; show _ < 64; change (i 0).val < 16384 at this; omega) N_3.symm⟩ : Fin (pin (pcfgs (F := F)) a 1).N) = t :=
    Fin.ext (by show (i 0).val / 256 = t.val; omega)
  unfold finals
  rw [e]
  refine congrArg _ (funext fun x => Fin.ext ?_)
  match x with
  | 0 => show (i 0).val % 256 = (y 0).val; omega
  | 1 => exact h1

theorem finals_emb (t : Fin (pin (pcfgs (F := F)) a 1).N) (y : S256x1024.Idx) (x : Fin 2) :
    ((((pin (pcfgs (F := F)) a 1).win (6 : Fin 7)).rect t).emb y x).val = if x = 0 then 256 * t.val + (y 0).val else (y 1).val := by
  have ht := lt3 a t
  refine (Pipeline.Window.rect_emb_val ((pin (pcfgs (F := F)) a 1).win (6 : Fin 7)) t y x).trans ?_
  match x with
  | 0 =>
    show (BitVec.ofNat 32 (grid3.coords t 0).val).toNat * 256 + (y 0).val = 256 * t.val + (y 0).val
    rw [coord3, ofNat_coord (by omega)]; omega
  | 1 =>
    show 0 * 1024 + (y 1).val = (y 1).val
    omega

set_option backward.isDefEq.respectTransparency.types false in
/-- What the call leaves in its result's array. -/
theorem finals_leaves (n : ℕ) (c : Dev nD) : leaves a W n (afters a W) 1 c (rb main_v32) = finals a W := by
  refine (Dat.withArrays_arrAt (heldDat a W n (afters a W) 1 c) (launch₀3 (F := F)).sharedIn W (fun _ => rfl) (6 : Fin 7)).trans ?_
  refine Dat.arrAt_eq_of_emb (heldDat a W n (afters a W) 1 c) (6 : Fin 7) (finals a W) (fun t _ y => ?_) fun i => ?_
  · show final a W t y = finals a W ((((pin (pcfgs (F := F)) a 1).win (6 : Fin 7)).rect t).emb y)
    exact (finals_at a W t y _ (finals_emb a t y 0) (finals_emb a t y 1)).symm
  · have hi : (i 0).val < 16384 := (i 0).isLt
    refine ⟨⟨(i 0).val / 256, lt_of_lt_of_eq (by show _ < 64; omega) N_3.symm⟩, flush3_6 _, ?_⟩
    refine Finset.mem_map.mpr ⟨ix2 ⟨(i 0).val % 256, Nat.mod_lt _ (by decide)⟩ ⟨(i 1).val, (i 1).isLt⟩, Finset.mem_univ _, ?_⟩
    refine funext fun x => Fin.ext ?_
    match x with
    | 0 => refine (finals_emb a _ _ 0).trans ?_; show 256 * ((i 0).val / 256) + (i 0).val % 256 = (i 0).val; omega
    | 1 => exact (finals_emb a _ _ 1).trans rfl

end Cert.Proof.Sc
end
-- ==== Proof.Sc.Rows.lean ====
/-
  The rows that a list of indices names, three ways: as numpy's `x[tok]` reads them, as a host gather does, and as the
  kernel has them, which cuts each row of 1024 into four parts of 2 × 128, lists each row's four parts and gathers those.
-/
module

public import proofs.«01_k».proof.Proof.Sc.Value
public import Idealize.ShloMosaic.Lib.ReduceAll

@[expose] public section

noncomputable section

namespace Cert.Proof.Sc

open Idealize.ShloMosaic

abbrev Vec1 (n : ℕ) : Shape := ⟨1, ![n]⟩
abbrev Mat (n k : ℕ) : Shape := ⟨2, ![n, k]⟩

/-- Rows `tok 0, tok 1, …` of `x`. -/
def takeRows {α : Type} {N R : ℕ} [NeZero N] (x : (Mat N 1024).Idx → α) (tok : (Vec1 R).Idx → BitVec 32) : (Mat R 1024).Idx → α :=
  fun y => x (fun | 0 => Fin.ofNat N (tok (fun | 0 => y 0)).toNat | 1 => y 1)

/-! ## The kernel's parts -/

/-- The list of parts: four for each row index, `4 * tok + 0 … 4 * tok + 3`. -/
def partList {R n : ℕ} (tok : (Vec1 R).Idx → BitVec 32) (h1 : (Mat R 1).BroadcastsInDim (Mat R 4) ![0, 1]) (h2 : (Vec1 R).BroadcastsInDim (Mat R 1) ![0])
    (h3 : (⟨0, ![]⟩ : Shape).BroadcastsInDim (Mat R 1) ![]) (h4 : (Mat 1 4).BroadcastsInDim (Mat R 4) ![0, 1]) (h5 : (Vec1 4).BroadcastsInDim (Mat 1 4) ![1])
    (h6 : (Mat R 4).ShapeCasts (Vec1 n)) : (Vec1 n).Idx → BitVec 32 :=
  shapeCast (s := Mat R 4) (Vec1 n)
    (addi (broadcastInDim (s := Mat R 1) (Mat R 4) ![0, 1] h1
        (muli (broadcastInDim (s := Vec1 R) (Mat R 1) ![0] h2 tok) (broadcastInDim (s := ⟨0, ![]⟩) (Mat R 1) ![] h3 (constantI ⟨0, ![]⟩ 32 4#32))))
      (broadcastInDim (s := Mat 1 4) (Mat R 4) ![0, 1] h4 (broadcastInDim (s := Vec1 4) (Mat 1 4) ![1] h5 (iotaInDim (Vec1 4) 32 0)))) h6

theorem partList_apply {R n : ℕ} (hR : R ≠ 1) (tok : (Vec1 R).Idx → BitVec 32) (h1 h2 h3 h4 h5 h6) (j : (Vec1 n).Idx) (r : (Vec1 R).Idx) (l : ℕ)
    (hl : l < 4) (hj : (j 0).val = 4 * (r 0).val + l) :
    partList tok h1 h2 h3 h4 h5 h6 j = tok r * 4#32 + BitVec.ofNat 32 l := by
  have e : Shape.reshapeEquiv h6 j = (fun | 0 => r 0 | 1 => ⟨l, hl⟩ : (Mat R 4).Idx) := by
    refine Shape.reshapeEquiv_eq_of_rowMajor _ ?_
    rw [Shape.rowMajor_val_one, Shape.rowMajor_val_two, hj]
    show (r 0).val * 4 + l = _
    omega
  unfold partList shapeCast
  rw [e]
  show IntOp.addi (IntOp.muli (tok _) _) _ = _
  have e2 : ∀ t : (Vec1 R).Idx, (t 0).val = (r 0).val → tok t = tok r := fun t ht => congrArg tok (funext fun a => by
    obtain rfl : a = 0 := Subsingleton.elim _ _
    exact Fin.ext ht)
  rw [e2 _ (by simp [hR]; rfl)]
  rfl

/-- The list of parts names rows of the table of parts. -/
theorem partList_lt {N R n : ℕ} (hR : R ≠ 1) (hn : n = 4 * R) (hN : 4 * N < 2 ^ 32) (tok : (Vec1 R).Idx → BitVec 32) (ht : ∀ r, (tok r).toNat < N) (h1 h2 h3 h4 h5 h6)
    (j : (Vec1 n).Idx) : (partList tok h1 h2 h3 h4 h5 h6 j).toNat < 4 * N := by
  have hjl : (j 0).val < n := (j 0).isLt
  obtain ⟨r, hr⟩ : ∃ r : (Vec1 R).Idx, (j 0).val = 4 * (r 0).val + (j 0).val % 4 :=
    ⟨fun | 0 => ⟨(j 0).val / 4, by show _ < R; omega⟩, by show (j 0).val = 4 * ((j 0).val / 4) + (j 0).val % 4; omega⟩
  have := ht r
  rw [partList_apply hR tok h1 h2 h3 h4 h5 h6 j r ((j 0).val % 4) (Nat.mod_lt _ (by decide)) hr]
  simp only [BitVec.toNat_add, BitVec.toNat_mul, BitVec.toNat_ofNat]
  omega

/-- The gathered parts, put together again, are the rows. -/
theorem gathered_parts {α : Type} {N R nt n : ℕ} [NeZero N] [NeZero nt] (hR : R ≠ 1) (hn : n = 4 * R) (hnt : nt = 4 * N) (hN : 4 * N < 2 ^ 32)
    (x : (Mat N 1024).Idx → α) (tok : (Vec1 R).Idx → BitVec 32) (ht : ∀ r, (tok r).toNat < N) (h1 h2 h3 h4 h5 h6) (hx) (ho) :
    shapeCast (s := Rows n) (Mat R 1024) (gathered (shapeCast (s := Mat N 1024) (Rows nt) x hx) (partList tok h1 h2 h3 h4 h5 h6)) ho = takeRows x tok := by
  funext y
  have hy0 : (y 0).val < R := (y 0).isLt
  have hy1 : (y 1).val < 1024 := (y 1).isLt
  have e : Shape.reshapeEquiv ho y = (fun | 0 => ⟨4 * (y 0).val + (y 1).val / 256, by show _ < n; omega⟩ | 1 => ⟨(y 1).val % 256 / 128, by show _ < 2; omega⟩ | 2 => ⟨(y 1).val % 128, by show _ < 128; omega⟩ : (Rows n).Idx) := by
    refine Shape.reshapeEquiv_eq_of_rowMajor _ ?_
    rw [Shape.rowMajor_val_two, Shape.rowMajor_val_three]
    show ((4 * (y 0).val + (y 1).val / 256) * 2 + (y 1).val % 256 / 128) * 128 + (y 1).val % 128 = (y 0).val * 1024 + (y 1).val
    omega
  unfold shapeCast
  rw [e]
  unfold gathered takeRows
  have hw := partList_apply (n := n) hR tok h1 h2 h3 h4 h5 h6 (fun | 0 => ⟨4 * (y 0).val + (y 1).val / 256, by show _ < n; omega⟩) (fun | 0 => y 0) ((y 1).val / 256)
    (by omega) rfl
  have hr := ht (fun | 0 => y 0)
  show x (Shape.reshapeEquiv hx _) = x _
  refine congrArg x (Shape.reshapeEquiv_eq_of_rowMajor _ ?_)
  rw [Shape.rowMajor_val_two, Shape.rowMajor_val_three]
  show ((tok (fun | 0 => y 0)).toNat % N) * 1024 + (y 1).val
    = (((partList tok h1 h2 h3 h4 h5 h6 (fun | 0 => ⟨4 * (y 0).val + (y 1).val / 256, _⟩)).toNat % nt) * 2 + (y 1).val % 256 / 128) * 128 + (y 1).val % 128
  rw [hw]
  simp only [BitVec.toNat_add, BitVec.toNat_mul, BitVec.toNat_ofNat]
  have e1 : ((tok fun | 0 => y 0).toNat * (4 % 2 ^ 32) % 2 ^ 32 + (y 1).val / 256 % 2 ^ 32) % 2 ^ 32 = 4 * (tok fun | 0 => y 0).toNat + (y 1).val / 256 := by omega
  rw [e1, Nat.mod_eq_of_lt hr, Nat.mod_eq_of_lt (show _ < nt by omega)]
  omega

/-! ## The reference's gather -/

/-- The dimension numbers of `x[tok]` for rows of 1024. -/
abbrev rowDims (N R : ℕ) (wf : GatherDims.WF (Mat N 1024) (Mat R 1) (Mat R 1024) [1] [0] [] [0] [] 1 ![1, 1024]) : GatherDims (Mat N 1024) (Mat R 1) (Mat R 1024) where
  offsetDims := [1]
  collapsedSliceDims := [0]
  operandBatchingDims := []
  startIndicesBatchingDims := []
  startIndexMap := [0]
  indexVectorDim := 1
  sliceSizes := ![1, 1024]
  wf := wf

theorem toInt_of_lt {w : BitVec 32} {N : ℕ} (hN : N ≤ 2 ^ 31) (h : w.toNat < N) : w.toInt = w.toNat := by
  rw [BitVec.toInt_eq_toNat_cond]
  omega

/-- The host's gather of rows in range. -/
theorem gather_rows {α : Type} {N R : ℕ} [NeZero N] (hN : N ≤ 2 ^ 31) (wf) (x : (Mat N 1024).Idx → α) (idx : (Mat R 1).Idx → BitVec 32) (tok : (Vec1 R).Idx → BitVec 32)
    (he : ∀ i : (Mat R 1).Idx, idx i = tok (fun | 0 => i 0)) (ht : ∀ r, (tok r).toNat < N) :
    Host.gather (rowDims N R wf) x idx = takeRows x tok := by
  funext y
  unfold Host.gather takeRows
  congr 1
  funext a
  refine Fin.ext ?_
  show (rowDims N R wf).start y idx a + (rowDims N R wf).batchCoord y a + (rowDims N R wf).offCoord y a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ (rowDims N R wf).startIndexMap from List.mem_singleton.mpr rfl), he]
    have key : ∀ t, min (tok t).toInt.toNat (N - 1) + 0 + 0 = (tok t).toNat % N := fun t => by
      have hr := ht t
      rw [toInt_of_lt hN hr, Nat.mod_eq_of_lt hr, Int.toNat_natCast]
      omega
    have e : (fun | 0 => (rowDims N R wf).siIdx y ⟨List.idxOf (0 : Fin 2) (rowDims N R wf).startIndexMap,
        List.idxOf_lt_length_iff.2 (List.mem_singleton.mpr rfl)⟩ 0 : (Vec1 R).Idx) = fun | 0 => y 0 := by
      funext b
      obtain rfl : b = 0 := Subsingleton.elim _ _
      exact Fin.ext rfl
    exact (congrArg (fun t => min (tok t).toInt.toNat (N - 1) + 0 + 0) e).trans (key _)
  | 1 =>
    unfold GatherDims.start
    rw [dif_neg (show (1 : Fin 2) ∉ (rowDims N R wf).startIndexMap from by simp)]
    show 0 + 0 + (rowDims N R wf).offCoord y 1 = (y 1).val
    unfold GatherDims.offCoord
    rw [dif_pos ((GatherDims.mem_sKept _ _).mpr ⟨by simp, by simp⟩)]
    simp only [Nat.zero_add]
    rfl

/-- An index in range is taken as it is: it is not negative, so the table's length is not added to it. -/
theorem select_nonneg {R : ℕ} (hR : R ≠ 1) (c : BitVec 32) (tok : (Vec1 R).Idx → BitVec 32) (ht : ∀ r, (tok r).toNat < 2 ^ 31) (h0 hc h2) (i : (Mat R 1).Idx) :
    broadcastInDim (s := Vec1 R) (Mat R 1) ![0] h2 (select (cmpi .slt tok (broadcastInDim (s := ⟨0, ![]⟩) (Vec1 R) ![] h0 (constantI ⟨0, ![]⟩ 32 0#32)))
      (addi tok (broadcastInDim (s := ⟨0, ![]⟩) (Vec1 R) ![] hc (constantI ⟨0, ![]⟩ 32 c))) tok) i = tok (fun | 0 => i 0) := by
  have e : ∀ t : (Vec1 R).Idx, (t 0).val = (i 0).val →
      select (cmpi .slt tok (broadcastInDim (s := ⟨0, ![]⟩) (Vec1 R) ![] h0 (constantI ⟨0, ![]⟩ 32 0#32)))
        (addi tok (broadcastInDim (s := ⟨0, ![]⟩) (Vec1 R) ![] hc (constantI ⟨0, ![]⟩ 32 c))) tok t = tok (fun | 0 => i 0) := by
    intro t hti
    have hs : cmpi .slt tok (broadcastInDim (s := ⟨0, ![]⟩) (Vec1 R) ![] h0 (constantI ⟨0, ![]⟩ 32 0#32)) t = 0#1 := by
      show IntOp.cmpi .slt (tok t) 0#32 = 0#1
      have := ht t
      have hn : ¬ (tok t).toInt < 0 := by rw [toInt_of_lt le_rfl this]; omega
      simp [IntOp.cmpi, BitVec.slt_eq_decide, hn]
    show (if _ = 1#1 then _ else _) = _
    rw [hs]
    exact congrArg tok (funext fun a => by
      obtain rfl : a = 0 := Subsingleton.elim _ _
      exact Fin.ext hti)
  exact e _ (by simp [hR])

/-! ## The ranges, from the precondition's words -/

theorem andi_one {a b : BitVec 1} (h : IntOp.andi a b = 1#1) : a = 1#1 ∧ b = 1#1 := by
  revert a b; decide

/-- A word found nonnegative and below `N` is below `N`. -/
theorem in_range {w : BitVec 32} {N : ℕ} (hN : N < 2 ^ 31) (h : IntOp.andi (IntOp.cmpi .sge w 0#32) (IntOp.cmpi .slt w (BitVec.ofNat 32 N)) = 1#1) : w.toNat < N := by
  obtain ⟨h1, h2⟩ := andi_one h
  simp only [IntOp.cmpi] at h1 h2
  have ho : ∀ b : Bool, BitVec.ofBool b = 1#1 → b = true := by decide
  have h1 := ho _ h1
  have h2 := ho _ h2
  simp only [BitVec.sle_eq_decide, BitVec.slt_eq_decide, decide_eq_true_eq, BitVec.toInt_eq_toNat_cond, BitVec.toNat_ofNat] at h1 h2
  omega

end Cert.Proof.Sc
end
-- ==== Proof.Sc.Read.lean ====
/-
  What the run leaves, in terms of the arguments: what each call finds in its operands' arrays, and the result as the last
  call's rows.
-/
module

public import proofs.«01_k».proof.Proof.Sc.Arrays
public import proofs.«01_k».proof.Proof.Sc.Rows

@[expose] public section

noncomputable section

namespace Cert.Proof.Sc

open Cert.KernelIdeal Cert.KernelIdeal.Gen
open Idealize.ShloMosaic
open Idealize.ShloMosaic.StableHlo
open Idealize.ShloMosaic.Pipeline (pin)

variable {F : FTy → Type} [FloatOps F]
variable (a : Adms F) (d : Dev nD) (W : Valuation τ sig (Elt F))

/-! ## Unwritten buffers -/

/-- The grouped product's arrays, and the last call's. -/
abbrev arrays1 : List (Ref sig .tc) := [main_v14, main_v1, main_v15, main_v16, main_v17]
abbrev arrays3 : List (Ref sig .tc) := [main_v29, main_v0, main_v2, main_v30, main_v31, main_v32]

/-- The buffers before the host's operations between the first gather and the grouped product, and those before the last call's. -/
abbrev midA : Valuation τ sig (Elt F) := Function.update (val0 W) (rb main_v13) (rows0 (val0 W))
abbrev midC : Valuation τ sig (Elt F) := Function.update (val1 a d W) (rb main_v28) (rows1 (val1 a d W))

theorem val0_keep {r : Ref sig .tc} (h : r ∉ wr0) : val0 W (rb r) = W (rb r) :=
  after_of_writes_sub _ _ (forall_writes_sub_of_map ops0_writes) h

theorem midA_keep {r : Ref sig .tc} (h : r ≠ main_v13) : midA W (rb r) = val0 W (rb r) :=
  Function.update_of_ne (devRef_ne_of_ne h) _ _

theorem valA_keep {r : Ref sig .tc} (h : r ∉ wr1) (h' : r ≠ main_v13) : valA W (rb r) = val0 W (rb r) :=
  (after_of_writes_sub _ _ (forall_writes_sub_of_map ops1_writes) h).trans (midA_keep W h')

theorem valB_keep {r : Ref sig .tc} (h : r ∉ arrays1) : valB a d W (rb r) = valA W (rb r) := by
  unfold valB leaves
  refine Pipeline.withArrays_of_ne (pin (pcfgs (F := F)) a 0).spec _ _ _ r fun w e => h ?_
  subst e
  match (show Fin 5 from w) with
  | 0 => exact (show main_v14 ∈ arrays1 by decide)
  | 1 => exact (show main_v1 ∈ arrays1 by decide)
  | 2 => exact (show main_v15 ∈ arrays1 by decide)
  | 3 => exact (show main_v16 ∈ arrays1 by decide)
  | 4 => exact (show main_v17 ∈ arrays1 by decide)

theorem val1_keep {r : Ref sig .tc} (h : r ∉ wr2) : val1 a d W (rb r) = valB a d W (rb r) :=
  after_of_writes_sub _ _ (forall_writes_sub_of_map ops2_writes) h

theorem midC_keep {r : Ref sig .tc} (h : r ≠ main_v28) : midC a d W (rb r) = val1 a d W (rb r) :=
  Function.update_of_ne (devRef_ne_of_ne h) _ _

theorem valC_keep {r : Ref sig .tc} (h : r ∉ wr3) (h' : r ≠ main_v28) : valC a d W (rb r) = val1 a d W (rb r) :=
  (after_of_writes_sub _ _ (forall_writes_sub_of_map ops3_writes) h).trans (midC_keep a d W h')

theorem valD_keep {r : Ref sig .tc} (h : r ∉ arrays3) : valD a d W (rb r) = valC a d W (rb r) := by
  unfold valD leaves
  refine Pipeline.withArrays_of_ne (pin (pcfgs (F := F)) a 1).spec _ _ _ r fun w e => h ?_
  subst e
  match (show Fin 7 from w) with
  | 0 => exact (show main_v29 ∈ arrays3 by decide)
  | 1 => exact (show main_v29 ∈ arrays3 by decide)
  | 2 => exact (show main_v0 ∈ arrays3 by decide)
  | 3 => exact (show main_v2 ∈ arrays3 by decide)
  | 4 => exact (show main_v30 ∈ arrays3 by decide)
  | 5 => exact (show main_v31 ∈ arrays3 by decide)
  | 6 => exact (show main_v32 ∈ arrays3 by decide)

theorem val2_keep {r : Ref sig .tc} (h : r ∉ wr4) : val2 a d W (rb r) = valD a d W (rb r) :=
  after_of_writes_sub _ _ (forall_writes_sub_of_map ops4_writes) h

/-- A buffer that nothing writes before the last call is as it was. -/
theorem valC_arg {r : Ref sig .tc} (h : r ∉ wr0 ++ main_v13 :: wr1 ++ arrays1 ++ wr2 ++ main_v28 :: wr3) : valC a d W (rb r) = W (rb r) := by
  simp only [List.mem_append, List.mem_cons, not_or] at h
  rw [valC_keep a d W (by simp only [List.mem_cons, not_or]; tauto) (by tauto), val1_keep a d W (by simp only [List.mem_cons, not_or]; tauto),
    valB_keep a d W (by simp only [List.mem_cons, not_or]; tauto), valA_keep W (by simp only [List.mem_cons, not_or]; tauto) (by tauto),
    val0_keep W (by simp only [List.mem_cons, not_or]; tauto)]

/-- An argument is as it was. -/
theorem val2_arg {r : Ref sig .tc} (h : r ∉ wr0 ++ main_v13 :: wr1 ++ arrays1 ++ wr2 ++ main_v28 :: wr3) (h3 : r ∉ arrays3) (h4 : r ∉ wr4) :
    val2 a d W (rb r) = W (rb r) := by
  rw [val2_keep a d W h4, valD_keep a d W h3, valC_arg a d W h]

/-! ## The arguments -/

abbrev arg0 : S4x4096x1024.Idx → F .f32 := W (rb main_arg0)
abbrev arg1 : (Vec1 34816).Idx → BitVec 32 := W (rb main_arg1)
abbrev arg2 : (Vec1 34816).Idx → F .f32 := W (rb main_arg2)
abbrev arg3 : (Vec1 136).Idx → BitVec 32 := W (rb main_arg3)
abbrev arg4 : (Vec1 32768).Idx → BitVec 32 := W (rb main_arg4)
abbrev arg5 : S8x1024x1024.Idx → F .f32 := W (rb main_arg5)
abbrev arg6 : (Mat 8 1024).Idx → F .f32 := W (rb main_arg6)
abbrev arg7 : (Mat 1024 1024).Idx → F .f32 := W (rb main_arg7)
abbrev arg8 : (Vec1 1024).Idx → F .f32 := W (rb main_arg8)
abbrev arg9 : (Vec1 1024).Idx → F .f32 := W (rb main_arg9)

/-- The tokens, one a row. -/
abbrev tokens : (Mat 16384 1024).Idx → F .f32 := shapeCast (s := S4x4096x1024) (Mat 16384 1024) (arg0 W) shapeCasts_S4x4096x1024_S16384x1024

/-- The index arguments name rows and experts. -/
def ArgsOK : Prop := (∀ r, (arg1 W r).toNat < 16384) ∧ (∀ r, (arg3 W r).toNat < 8) ∧ ∀ r, (arg4 W r).toNat < 34816

/-! ## What the grouped product finds -/

theorem val0_v0 : val0 W (rb main_v0) = tokens W := by
  unfold val0 ops0; after_results <;> rfl

theorem val0_v1 : val0 W (rb main_v1) = (truncf .bf16 (arg5 W) bitsLt_bf16_f32 : Vec F S8x1024x1024 .bf16) := by
  unfold val0 ops0; after_results <;> rfl

theorem val0_v2 : val0 W (rb main_v2) = (truncf .bf16 (arg7 W) bitsLt_bf16_f32 : Vec F S1024x1024 .bf16) := by
  unfold val0 ops0; after_results <;> rfl

theorem val0_v11 : val0 W (rb main_v11) = shapeCast (s := Mat 16384 1024) (Rows 65536) (tokens W) shapeCasts_S16384x1024_S65536x2x128 := by
  unfold val0 ops0; after_results <;> rfl

theorem val0_v12 : val0 W (rb main_v12) = partList (R := 34816) (n := 139264) (arg1 W) bcast_S34816x1_S34816x4_0_1 bcast_S34816_S34816x1_0 bcast_S_S34816x1
    bcast_S1x4_S34816x4_0_1 bcast_S4_S1x4_1 shapeCasts_S34816x4_S139264 := by
  unfold val0 ops0; after_results <;> rfl

theorem valA_v14' : valA W (rb main_v14) = shapeCast (s := Rows 139264) (Mat 34816 1024) (rows0 (val0 W)) shapeCasts_S139264x2x128_S34816x1024 := by
  rw [show rows0 (val0 W) = midA W (rb main_v13) from (Function.update_self (rb main_v13) (rows0 (val0 W)) (val0 W)).symm]
  show after ops1 (midA W) _ = _
  generalize midA W = U
  unfold ops1; after_results <;> rfl

theorem valA_v14 (h : ArgsOK W) : valA W (rb main_v14) = takeRows (tokens W) (arg1 W) := by
  rw [valA_v14']
  unfold rows0
  rw [val0_v11, val0_v12]
  exact gathered_parts (N := 16384) (R := 34816) (by decide) rfl rfl (by decide) _ _ h.1 _ _ _ _ _ _ _ _

theorem valA_v15 : valA W (rb main_v15) = shapeCast (s := Mat 8 1024) S8x1x1024 (arg6 W) shapeCasts_S8x1024_S8x1x1024 := by
  rw [show arg6 W = midA W (rb main_arg6) from ((midA_keep W (by decide)).trans (val0_keep W (by decide))).symm]
  show after ops1 (midA W) _ = _
  generalize midA W = U
  unfold ops1; after_results <;> rfl

theorem valA_v16 : valA W (rb main_v16) = shapeCast (s := Vec1 34816) (Mat 34816 1) (arg2 W) shapeCasts_S34816_S34816x1 := by
  rw [show arg2 W = midA W (rb main_arg2) from ((midA_keep W (by decide)).trans (val0_keep W (by decide))).symm]
  show after ops1 (midA W) _ = _
  generalize midA W = U
  unfold ops1; after_results <;> rfl

theorem valA_v1 : valA W (rb main_v1) = (truncf .bf16 (arg5 W) bitsLt_bf16_f32 : Vec F S8x1024x1024 .bf16) :=
  (valA_keep W (by decide) (by decide)).trans (val0_v1 W)

theorem valA_arg3 : valA W (rb main_arg3) = arg3 W :=
  (valA_keep W (by decide) (by decide)).trans (val0_keep W (by decide))

/-! ## What the last call finds -/

theorem valB_v17 : valB a d W (rb main_v17) = groups a (valA W) := groups_leaves a (valA W) 1 d

theorem val1_v26 : val1 a d W (rb main_v26) = shapeCast (s := Mat 34816 1024) (Rows 139264) (groups a (valA W)) shapeCasts_S34816x1024_S139264x2x128 := by
  rw [← valB_v17 a d W]
  show after ops2 (valB a d W) _ = _
  generalize valB a d W = U
  unfold ops2; after_results <;> rfl

theorem val1_v27 : val1 a d W (rb main_v27) = partList (R := 32768) (n := 131072) (arg4 W) bcast_S32768x1_S32768x4_0_1 bcast_S32768_S32768x1_0 bcast_S_S32768x1
    bcast_S1x4_S32768x4_0_1 bcast_S4_S1x4_1 shapeCasts_S32768x4_S131072 := by
  rw [show arg4 W = valB a d W (rb main_arg4) from ((valB_keep a d W (by decide)).trans ((valA_keep W (by decide) (by decide)).trans (val0_keep W (by decide)))).symm]
  show after ops2 (valB a d W) _ = _
  generalize valB a d W = U
  unfold ops2; after_results <;> rfl

theorem valC_v29' : valC a d W (rb main_v29) = shapeCast (s := Rows 131072) (Mat 32768 1024) (rows1 (val1 a d W)) shapeCasts_S131072x2x128_S32768x1024 := by
  rw [show rows1 (val1 a d W) = midC a d W (rb main_v28) from (Function.update_self (rb main_v28) (rows1 (val1 a d W)) (val1 a d W)).symm]
  show after ops3 (midC a d W) _ = _
  generalize midC a d W = U
  unfold ops3; after_results <;> rfl

theorem valC_v29 (h : ArgsOK W) : valC a d W (rb main_v29) = takeRows (groups a (valA W)) (arg4 W) := by
  rw [valC_v29']
  unfold rows1
  rw [val1_v26, val1_v27]
  exact gathered_parts (N := 34816) (R := 32768) (by decide) rfl rfl (by decide) _ _ h.2.2 _ _ _ _ _ _ _ _

theorem midC_arg {r : Ref sig .tc} (h : r ∉ wr0 ++ main_v13 :: wr1 ++ arrays1 ++ wr2 ++ main_v28 :: wr3) : midC a d W (rb r) = W (rb r) :=
  ((after_of_writes_sub _ _ (forall_writes_sub_of_map ops3_writes) (fun h' => h (by
    simp only [List.mem_append, List.mem_cons] at h' ⊢; tauto))).symm : midC a d W (rb r) = valC a d W (rb r)).trans (valC_arg a d W h)

theorem valC_v30 : valC a d W (rb main_v30) = shapeCast (s := Vec1 1024) (Mat 1 1024) (arg8 W) shapeCasts_S1024_S1x1024 := by
  rw [show arg8 W = midC a d W (rb main_arg8) from (midC_arg a d W (by decide)).symm]
  show after ops3 (midC a d W) _ = _
  generalize midC a d W = U
  unfold ops3; after_results <;> rfl

theorem valC_v31 : valC a d W (rb main_v31) = shapeCast (s := Vec1 1024) (Mat 1 1024) (arg9 W) shapeCasts_S1024_S1x1024 := by
  rw [show arg9 W = midC a d W (rb main_arg9) from (midC_arg a d W (by decide)).symm]
  show after ops3 (midC a d W) _ = _
  generalize midC a d W = U
  unfold ops3; after_results <;> rfl

theorem valC_val0 {r : Ref sig .tc} (h0 : r ∉ wr3) (h1 : r ≠ main_v28) (h2 : r ∉ wr2) (h3 : r ∉ arrays1) (h4 : r ∉ wr1) (h5 : r ≠ main_v13) :
    valC a d W (rb r) = val0 W (rb r) := by
  rw [valC_keep a d W h0 h1, val1_keep a d W h2, valB_keep a d W h3, valA_keep W h4 h5]

theorem valC_v0 : valC a d W (rb main_v0) = tokens W :=
  (valC_val0 a d W (by decide) (by decide) (by decide) (by decide) (by decide) (by decide)).trans (val0_v0 W)

theorem valC_v2 : valC a d W (rb main_v2) = (truncf .bf16 (arg7 W) bitsLt_bf16_f32 : Vec F S1024x1024 .bf16) :=
  (valC_val0 a d W (by decide) (by decide) (by decide) (by decide) (by decide) (by decide)).trans (val0_v2 W)

/-! ## The result, and the conditions of the run -/

/-- The result is the last call's rows. -/
theorem val2_v33 : val2 a d W (rb main_v33) = shapeCast (s := Mat 16384 1024) S4x4096x1024 (finals a (valC a d W)) shapeCasts_S16384x1024_S4x4096x1024 := by
  rw [← finals_leaves a (valC a d W) 2 d]
  show after ops4 (valD a d W) _ = _
  unfold valD
  generalize leaves a (valC a d W) 2 (afters a (valC a d W)) 1 d = U
  unfold ops4; after_results <;> rfl

theorem listsOK (h : ArgsOK W) : ListsOK a d W := by
  refine ⟨fun j => ?_, fun j => ?_⟩
  · rw [val0_v12]
    exact partList_lt (N := 16384) (by decide) rfl (by decide) _ h.1 _ _ _ _ _ _ j
  · rw [val1_v27]
    exact partList_lt (N := 34816) (by decide) rfl (by decide) _ h.2.2 _ _ _ _ _ _ j

end Cert.Proof.Sc
end
-- ==== Proof.Sc.Range.lean ====
/-
  The precondition as ranges: every index names a row of its table, and every tile an expert.
-/
module

public import proofs.«01_k».proof.Proof.Sc.Read
public import proofs.«01_k».proof.Pre_indices_in_rows
public import Idealize.ShloMosaic.Lib.ReduceAll

@[expose] public section

noncomputable section

namespace Cert.Proof.Sc

open Cert.Pre_indices_in_rows
open Idealize.ShloMosaic

/-- If the precondition holds of the arrays, the three lists are in range. -/
theorem ranges {F : FTy → Type} [FloatOps F] [Cert.Pre_indices_in_rows.Facts]
    (a0 : FVec F S4x4096x1024 .f32) (a1 : (Vec1 34816).Idx → BitVec 32) (a2 : FVec F S34816 .f32) (a3 : (Vec1 136).Idx → BitVec 32) (a4 : (Vec1 32768).Idx → BitVec 32)
    (a5 : FVec F S8x1024x1024 .f32) (a6 : FVec F S8x1024 .f32) (a7 : FVec F S1024x1024 .f32) (a8 a9 : FVec F S1024 .f32)
    (h : Cert.Pre_indices_in_rows.fn (F := F) a0 a1 a2 a3 a4 a5 a6 a7 a8 a9 = fun _ => 1#1) :
    (∀ r, (a1 r).toNat < 16384) ∧ (∀ r, (a3 r).toNat < 8) ∧ ∀ r, (a4 r).toNat < 34816 := by
  haveI : Subsingleton S_.Idx := ⟨fun a b => funext fun d => d.elim0⟩
  have e := congrFun h (fun d => d.elim0)
  obtain ⟨e13, e4⟩ := andi_one e
  obtain ⟨e1, e3⟩ := andi_one e13
  refine ⟨fun r => in_range (N := 16384) (by decide) ?_, fun r => in_range (N := 8) (by decide) ?_, fun r => in_range (N := 34816) (by decide) ?_⟩
  · exact Host.reduce_andi_all _ _ _ _ _ e1 r
  · exact Host.reduce_andi_all _ _ _ _ _ e3 r
  · exact Host.reduce_andi_all _ _ _ _ _ e4 r

end Cert.Proof.Sc
end
-- ==== Proof.Sc.Tables.lean ====
/-
  The table that the grouped product is steered by: it is an argument, and in range every expert's block is inside its array.
-/
module

public import proofs.«01_k».proof.Proof.Sc.Read

@[expose] public section

noncomputable section

namespace Cert.Proof.Sc

open Cert.KernelIdeal Cert.KernelIdeal.Gen
open Idealize.ShloMosaic

variable {F : FTy → Type} [FloatOps F]

/-- The table as the buffers have it. -/
def table (W : Valuation τ sig (Elt F)) : pre1.Contents (Elt F) := fun k => W (Proc.devRef .tc (pre1.ref k))

/-- Every block that it names is inside the experts' arrays. -/
theorem table_ok (W : Valuation τ sig (Elt F)) (h : ArgsOK W) : ok1 (F := F) (table W) := by
  have hw : ∀ i : grid1.Coords, ((table W).at 0 (Rect.unit (s := S136) (k1_off1 i) S1.size (k1_off1_inb i)) numel1_S1 : BitVec 32).toNat < 8 := fun i => h.2.1 _
  refine ⟨fun i => ⟨fun x => ?_, .inr (Affine.block_words_rows (by decide) rfl)⟩, fun i => ⟨fun x => ?_, .inl rfl⟩⟩
  · match x with
    | 0 =>
      show (((table W).at 0 (Rect.unit (s := S136) (k1_off1 i) S1.size (k1_off1_inb i)) numel1_S1 : BitVec 32).toNat + 1) * 1 ≤ 8
      have := hw i; omega
    | 1 => show (0 + 1) * 1024 ≤ 1024; omega
    | 2 => show (0 + 1) * 1024 ≤ 1024; omega
  · match x with
    | 0 =>
      show (((table W).at 0 (Rect.unit (s := S136) (k1_off1 i) S1.size (k1_off1_inb i)) numel1_S1 : BitVec 32).toNat + 1) * 1 ≤ 8
      have := hw i; omega
    | 1 => show (0 + 1) * 1 ≤ 1; omega
    | 2 => show (0 + 1) * 1024 ≤ 1024; omega

/-- The tables that the calls run at. -/
def tables (W : Valuation τ sig (Elt F)) (h : ArgsOK W) : Adms F
  | ⟨0, _⟩ => ⟨table W, table_ok W h⟩
  | ⟨1, _⟩ => ⟨Pipeline.Prefetch.Contents.none, trivial⟩

/-- The calls find them. -/
theorem tablesOK (W : Dev nD → Valuation τ sig (Elt F)) (h : ∀ d, ArgsOK (W d)) (a : Adms F) (ha : a = tables (W 0) (h 0)) : TablesOK a fun d => valA (W d) := by
  subst ha
  intro p c k
  obtain rfl : c = 0 := Subsingleton.elim _ _
  match p with
  | ⟨0, _⟩ =>
    match (show Fin 1 from k) with
    | 0 => exact valA_arg3 (W 0)
  | ⟨1, _⟩ => exact (show Fin 0 from k).elim0

end Cert.Proof.Sc
end
-- ==== Proof.Sc.Words.lean ====
/-
  The program and its ideal program have the same text: a run of the one is a run of the other.
-/
module

public import proofs.«01_k».proof.Defs
public import proofs.«01_k».proof.Proof.Gen.Kernel
public import proofs.«01_k».proof.Proof.Gen.KernelIdeal

@[expose] public section

noncomputable section

namespace Cert.Proof.Sc

open Idealize.ShloMosaic Idealize.SL.Sem

variable {F : FTy → Type} [FloatOps F]

set_option maxHeartbeats 4000000 in
/-- A kernel's body is the same on every processor. -/
theorem body_eq (p : Proc Cert.KernelIdeal.τ) (l : Fin 4) (a : Cert.KernelIdeal.Λ₀.Args l) : Cert.Kernel.defs₀ (F := F) p l a = Cert.KernelIdeal.defs₀ (F := F) p l a := by
  match p, l, a with
  | .tc, 0, _ | .tc, 1, _ | .tc, 2, _ | .tc, 3, _ => rfl
  | .scScalar _, 0, _ | .scScalar _, 1, _ | .scScalar _, 2, _ | .scScalar _, 3, _ => rfl
  | .scVector _ _, 0, _ | .scVector _ _, 1, _ | .scVector _ _, 2, _ | .scVector _ _, 3, _ => rfl

/-- The kernels' bodies are the same. -/
theorem bodies_eq : (Cert.Kernel.defs₀ (F := F) : Defs Cert.KernelIdeal.nD Cert.KernelIdeal.τ Cert.KernelIdeal.sig (Elt F) Cert.KernelIdeal.Λ₀) = Cert.KernelIdeal.defs₀ (F := F) :=
  funext fun p => funext fun l => funext fun a => body_eq p l a

/-- The pipelined calls are the same. -/
theorem calls_eq : (Cert.Kernel.pcfgs (F := F) : Fin 2 → Pipeline.PCfg Cert.KernelIdeal.sig Cert.KernelIdeal.Λ₀ (Elt F)) = Cert.KernelIdeal.pcfgs (F := F) := rfl

/-- The SparseCore calls' launches beside any pipelined calls. -/
def launches (pc : Fin 2 → Pipeline.PCfg Cert.KernelIdeal.sig Cert.KernelIdeal.Λ₀ (Elt F)) :
    SparseCore.Cfg Cert.KernelIdeal.τ Cert.KernelIdeal.sig (Pipeline.Sig Cert.KernelIdeal.Λ₀ (Fin 2) fun p => (pc p).Adm) 2 where
  kind := Cert.KernelIdeal.scKind
  nCore := Cert.KernelIdeal.scNCore
  nSub := Cert.KernelIdeal.scNSub
  hkind := Cert.KernelIdeal.Facts₀.hscKind
  hCore := Cert.KernelIdeal.Facts₀.hscCore
  hSub := Cert.KernelIdeal.Facts₀.hscSub
  body := fun | 0 => Pipeline.kernel 0 | 1 => Pipeline.kernel 2 | ⟨_ + 2, h⟩ => absurd h (Nat.not_lt.2 (Nat.le_add_left _ _))
  args := fun | 0 => ⟨⟩ | 1 => ⟨⟩ | ⟨_ + 2, h⟩ => absurd h (Nat.not_lt.2 (Nat.le_add_left _ _))
  start := Cert.KernelIdeal.sc_start
  done := Cert.KernelIdeal.sc_done
  go := Cert.KernelIdeal.sc_go
  taskDone := Cert.KernelIdeal.sc_taskDone

/-- The ideal program's are these. -/
theorem launches_ideal : Cert.KernelIdeal.sc (F := F) = launches (Cert.KernelIdeal.pcfgs (F := F)) := rfl

/-- So are the program's. -/
theorem launches_words : Cert.Kernel.sc (F := F) = launches (Cert.Kernel.pcfgs (F := F)) := rfl

/-- The launches are the same. -/
theorem launches_eq : HEq (Cert.Kernel.sc (F := F)) (Cert.KernelIdeal.sc (F := F)) :=
  (heq_of_eq launches_words).trans ((congr_arg_heq launches (calls_eq (F := F))).trans (heq_of_eq launches_ideal.symm))

/-- The labels are the same. -/
theorem labels_eq : Cert.Kernel.Λ₀ = Cert.KernelIdeal.Λ₀ := rfl

set_option maxHeartbeats 4000000 in
/-- A run of the ideal program's text is one of the program's. -/
theorem same_run (s) (Q) (h : θ_run (Cert.KernelIdeal.defs (F := F)) (Cert.KernelIdeal.threads (F := F)) s Q) :
    θ_run (Cert.Kernel.defs (F := F)) (Cert.Kernel.threads (F := F)) s Q := by
  have e : HEq (Cert.Kernel.pcfgs (F := F)) (Cert.KernelIdeal.pcfgs (F := F)) := heq_of_eq calls_eq
  have e' : HEq (Cert.Kernel.defs₀ (F := F)) (Cert.KernelIdeal.defs₀ (F := F)) := heq_of_eq bodies_eq
  have e2 := launches_eq (F := F)
  have e1 := labels_eq
  revert h e e' e2
  delta Cert.KernelIdeal.threads Cert.KernelIdeal.defs Cert.KernelIdeal.main Cert.Kernel.threads Cert.Kernel.defs Cert.Kernel.main
  generalize Cert.Kernel.defs₀ (F := F) = b
  generalize Cert.KernelIdeal.defs₀ (F := F) = b'
  generalize Cert.Kernel.sc (F := F) = K
  generalize Cert.KernelIdeal.sc (F := F) = K'
  revert b b' K K'
  generalize Cert.Kernel.pcfgs (F := F) = pc
  generalize Cert.KernelIdeal.pcfgs (F := F) = pc'
  revert pc pc'
  generalize Cert.Kernel.Λ₀ = L at e1 ⊢
  generalize Cert.KernelIdeal.Λ₀ = L' at e1 ⊢
  subst e1
  intro pc pc' b b' K K' h e e' e2
  cases e
  cases e'
  cases e2
  exact h

end Cert.Proof.Sc
end
-- ==== Proof.Sc.Spec.lean ====
/-
  The layer over the extended reals, an element at a time: a routed row's hidden vector from its token and its tile's
  expert, and a token's result from its two rows.
-/
module

public import proofs.«01_k».proof.Proof.Sc.Rows
public import Idealize.ShloMosaic.Lib.Pointwise

@[expose] public section

noncomputable section

namespace Cert.Proof.Sc

open Idealize.ShloMosaic

abbrev Cube (n k l : ℕ) : Shape := ⟨3, ![n, k, l]⟩

/-- A row times a matrix, plus a bias. -/
def affine (x : Fin 1024 → Ideal .f32) (M : Fin 1024 → Fin 1024 → Ideal .f32) (b : Fin 1024 → Ideal .f32) (l : Fin 1024) : Ideal .f32 :=
  ∑ k, x k * M l k + b l

/-- The gated linear unit `h · σ(h)`, scaled by the routing weight. -/
def gated (h s : Ideal .f32) : Ideal .f32 := h * Ideal.logistic h * s

/-- A row scaled to root mean square one, times the weights. -/
def normed (y w : Fin 1024 → Ideal .f32) (l : Fin 1024) : Ideal .f32 :=
  w l * Ideal.div (y l) (Ideal.sqrt (Ideal.div (∑ j, y j * y j) (Ideal.ofBits .f32 0x44800000#32) + Ideal.ofBits .f32 0x358637BD#32))

/-- The row that an index names. -/
abbrev index (N : ℕ) [NeZero N] (w : BitVec 32) : Fin N := Fin.ofNat N w.toNat

/-- The tile that a routed row stands in. -/
abbrev tile (n : Fin 34816) : Fin 136 := ⟨n.val / 256, by omega⟩

/-- A batch's token as a row of all. -/
abbrev flat (b : Fin 4) (s : Fin 4096) : Fin 16384 := ⟨b.val * 4096 + s.val, by omega⟩

/-- The routed rows' hidden vectors, each scaled by its weight. -/
def hiddenRows (x : (Cube 4 4096 1024).Idx → Ideal .f32) (tok : (Vec1 34816).Idx → BitVec 32) (sw : (Vec1 34816).Idx → Ideal .f32)
    (te : (Vec1 136).Idx → BitVec 32) (ew : (Cube 8 1024 1024).Idx → Ideal .f32) (eb : (Mat 8 1024).Idx → Ideal .f32) : (Mat 34816 1024).Idx → Ideal .f32 :=
  fun i => gated
    (affine (fun k => x (ix3 ⟨(index 16384 (tok (ix1 (i 0)))).val / 4096, by omega⟩ ⟨(index 16384 (tok (ix1 (i 0)))).val % 4096, Nat.mod_lt _ (by decide)⟩ k))
      (fun l k => ew (ix3 (index 8 (te (ix1 (tile (i 0))))) l k)) (fun l => eb (ix2 (index 8 (te (ix1 (tile (i 0))))) l)) (i 1))
    (sw (ix1 (i 0)))

/-- The layer's result from the hidden vectors. -/
def layer (x : (Cube 4 4096 1024).Idx → Ideal .f32) (h : (Mat 34816 1024).Idx → Ideal .f32) (pos : (Vec1 32768).Idx → BitVec 32)
    (ow : (Mat 1024 1024).Idx → Ideal .f32) (ob nw : (Vec1 1024).Idx → Ideal .f32) : (Cube 4 4096 1024).Idx → Ideal .f32 :=
  fun i => normed
    (fun j => x (ix3 (i 0) (i 1) j) + affine
      (fun k => h (ix2 (index 34816 (pos (ix1 ⟨(flat (i 0) (i 1)).val, by omega⟩))) k) + h (ix2 (index 34816 (pos (ix1 ⟨(flat (i 0) (i 1)).val + 16384, by omega⟩))) k))
      (fun l k => ow (ix2 l k)) (fun l => ob (ix1 l)) j)
    (fun l => nw (ix1 l)) (i 2)

theorem takeRows_at {α : Type} {N R : ℕ} [NeZero N] (x : (Mat N 1024).Idx → α) (tok : (Vec1 R).Idx → BitVec 32) (r : Fin R) (k : Fin 1024) :
    takeRows x tok (ix2 r k) = x (ix2 (index N (tok (ix1 r))) k) := by
  unfold takeRows
  have e : (fun | 0 => r : (Vec1 R).Idx) = ix1 r := funext fun a => by obtain rfl : a = 0 := Subsingleton.elim _ _; rfl
  refine congrArg x (funext fun a => ?_)
  match a with
  | 0 => exact congrArg (fun t => index N (tok t)) e
  | 1 => rfl

/-- The flat tokens at a row. -/
theorem flat_at {α : Type} (x : (Cube 4 4096 1024).Idx → α) (h : (Cube 4 4096 1024).ShapeCasts (Mat 16384 1024)) (n : Fin 16384) (k : Fin 1024) :
    shapeCast (s := Cube 4 4096 1024) (Mat 16384 1024) x h (ix2 n k) = x (ix3 ⟨n.val / 4096, by omega⟩ ⟨n.val % 4096, Nat.mod_lt _ (by decide)⟩ k) := by
  refine congrArg x (Shape.reshapeEquiv_eq_of_rowMajor _ ?_)
  rw [Shape.rowMajor_val_three, Shape.rowMajor_val_two]
  show (n.val / 4096 * 4096 + n.val % 4096) * 1024 + k.val = n.val * 1024 + k.val
  omega

end Cert.Proof.Sc
end
-- ==== Proof.Sc.Meaning.lean ====
/-
  The run's result over the extended reals: the layer's mathematics of `Spec`.
-/
module

public import proofs.«01_k».proof.Proof.Sc.Read
public import proofs.«01_k».proof.Proof.Sc.Spec

@[expose] public section

noncomputable section

namespace Cert.Proof.Sc

open Cert.KernelIdeal Cert.KernelIdeal.Gen
open Idealize.ShloMosaic
open Idealize.ShloMosaic.Pipeline (pin)

set_option maxRecDepth 16384 in
/-- The grouped product's step, at an element. -/
theorem group_elem (v0 : Vec Ideal S256x1024 .f32) (v3 : Vec Ideal S1x1024x1024 .bf16) (v6 : Vec Ideal S1x1x1024 .f32) (v12 : Vec Ideal S256x1 .f32) (r : Fin 256) (l : Fin 1024) :
    k1_pay1 v0 v3 v6 v12 (ix2 r l) = gated (affine (fun k => v0 (ix2 r k)) (fun l k => v3 (ix3 0 l k)) (fun l => v6 (ix3 0 0 l)) l) (v12 (ix2 r 0)) := by
  unfold gated affine
  pointwise [k1_pay1]

set_option maxRecDepth 16384 in
/-- The last call's step, at an element. -/
theorem final_elem (v0 v2 : Vec Ideal S256x1024 .f32) (v6 : Vec Ideal S1024x1024 .bf16) (v9 : Vec Ideal S1x1024 .f32) (v13 : Vec Ideal S256x1024 .f32) (v24 : Vec Ideal S1x1024 .f32)
    (r : Fin 256) (l : Fin 1024) :
    k3_pay1 v0 v2 v6 v9 v13 v24 (ix2 r l)
      = normed (fun j => v13 (ix2 r j) + affine (fun k => v0 (ix2 r k) + v2 (ix2 r k)) (fun l k => v6 (ix2 l k)) (fun l => v9 (ix2 0 l)) j) (fun l => v24 (ix2 0 l)) l := by
  unfold normed affine
  pointwise [k3_pay1]

/-- The same from the operands' rows. -/
theorem final_rows (v0 v2 : Vec Ideal S256x1024 .f32) (v6 : Vec Ideal S1024x1024 .bf16) (v9 : Vec Ideal S1x1024 .f32) (v13 : Vec Ideal S256x1024 .f32) (v24 : Vec Ideal S1x1024 .f32)
    (r : Fin 256) (l : Fin 1024) (g g' x b w : Fin 1024 → Ideal .f32) (M : Fin 1024 → Fin 1024 → Ideal .f32) (h0 : ∀ k, v0 (ix2 r k) = g k) (h2 : ∀ k, v2 (ix2 r k) = g' k)
    (h6 : ∀ l k, v6 (ix2 l k) = M l k) (h9 : ∀ l, v9 (ix2 0 l) = b l) (h13 : ∀ k, v13 (ix2 r k) = x k) (h24 : ∀ l, v24 (ix2 0 l) = w l) :
    k3_pay1 v0 v2 v6 v9 v13 v24 (ix2 r l) = normed (fun j => x j + affine (fun k => g k + g' k) M b j) w l := by
  rw [final_elem]
  simp only [h0, h2, h6, h9, h13, h24]

variable (a : Adms Ideal) (d : Dev nD) (W : Valuation τ sig (Elt Ideal))

/-- The table that the grouped product runs at is the argument. -/
def SameTable : Prop := (show S136.Idx → BitVec 32 from (a 0).1 (0 : Fin 1)) = arg3 W

/-- The expert of a point. -/
theorem named_expert (h : ArgsOK W) (ha : SameTable a W) (t : Fin (pin (pcfgs (F := Ideal)) a 0).N) :
    (⟨(named a t).toNat, named_lt a t⟩ : Fin 8) = index 8 (arg3 W (ix1 ⟨t.val, lt1 a t⟩)) := by
  have e : named a t = arg3 W (ix1 ⟨t.val, lt1 a t⟩) := congrFun ha _
  refine Fin.ext ?_
  show (named a t).toNat = (arg3 W (ix1 ⟨t.val, lt1 a t⟩)).toNat % 8
  rw [e, Nat.mod_eq_of_lt (h.2.1 _)]

theorem bias_shape (x : (Mat 8 1024).Idx → Ideal .f32) (e : Fin 8) (l : Fin 1024) (h) : shapeCast (s := Mat 8 1024) S8x1x1024 x h (ix3 e 0 l) = x (ix2 e l) := by
  pointwise

theorem column_shape (x : (Vec1 34816).Idx → Ideal .f32) (n : Fin 34816) (h) : shapeCast (s := Vec1 34816) (Mat 34816 1) x h (ix2 n 0) = x (ix1 n) := by
  pointwise

theorem line_shape (x : (Vec1 1024).Idx → Ideal .f32) (l : Fin 1024) (h) : shapeCast (s := Vec1 1024) (Mat 1 1024) x h (ix2 0 l) = x (ix1 l) := by
  pointwise

/-- What the grouped product leaves is the hidden vectors. -/
theorem groups_hidden (h : ArgsOK W) (ha : SameTable a W) :
    groups a (valA W) = hiddenRows (arg0 W) (arg1 W) (arg2 W) (arg3 W) (arg5 W) (arg6 W) := by
  funext i
  obtain ⟨n, l, rfl⟩ : ∃ (n : Fin 34816) (l : Fin 1024), i = ix2 n l := ⟨i 0, i 1, eq_ix2 i⟩
  obtain ⟨t, ht⟩ : ∃ t : Fin (pin (pcfgs (F := Ideal)) a 0).N, t.val = n.val / 256 := ⟨⟨n.val / 256, lt_of_lt_of_eq (by omega) N_1.symm⟩, rfl⟩
  have hr : n.val % 256 < 256 := Nat.mod_lt _ (by decide)
  rw [groups_at a (valA W) t (ix2 ⟨n.val % 256, hr⟩ l) (ix2 n l) (by show n.val = 256 * t.val + n.val % 256; omega) rfl]
  have hn : row t.val (⟨n.val % 256, hr⟩ : Fin 256) (by have := lt1 a t; omega) = n := Fin.ext (by show 256 * t.val + n.val % 256 = n.val; omega)
  have ht' : (⟨t.val, lt1 a t⟩ : Fin 136) = tile n := Fin.ext ht
  have e0 : (fun k => blockAt a (valA W) 0 (0 : Fin 5) t (ix2 ⟨n.val % 256, hr⟩ k)) = fun k => tokens W (ix2 (index 16384 (arg1 W (ix1 n))) k) := funext fun k => by
    rw [rows_block, hn, valA_v14 W h]; exact takeRows_at _ _ _ _
  have e1 : (fun l k => blockAt a (valA W) 0 (1 : Fin 5) t (ix3 0 l k)) = fun l k => arg5 W (ix3 (index 8 (arg3 W (ix1 (tile n)))) l k) := funext fun l => funext fun k => by
    rw [expert_block, named_expert a W h ha, ht', valA_v1]; rfl
  have e2 : (fun l => blockAt a (valA W) 0 (2 : Fin 5) t (ix3 0 0 l)) = fun l => arg6 W (ix2 (index 8 (arg3 W (ix1 (tile n)))) l) := funext fun l => by
    rw [bias_block, named_expert a W h ha, ht', valA_v15]; exact bias_shape _ _ _ _
  have e3 : blockAt a (valA W) 0 (3 : Fin 5) t (ix2 ⟨n.val % 256, hr⟩ 0) = arg2 W (ix1 n) := by
    rw [weight_block, hn, valA_v16]; exact column_shape _ _ _
  refine (group_elem _ _ _ _ _ _).trans ?_
  show gated (affine (fun k => blockAt a (valA W) 0 (0 : Fin 5) t (ix2 ⟨n.val % 256, hr⟩ k)) (fun l k => blockAt a (valA W) 0 (1 : Fin 5) t (ix3 0 l k))
    (fun l => blockAt a (valA W) 0 (2 : Fin 5) t (ix3 0 0 l)) l) (blockAt a (valA W) 0 (3 : Fin 5) t (ix2 ⟨n.val % 256, hr⟩ 0)) = _
  rw [e0, e1, e2, e3]
  unfold hiddenRows
  refine congrArg (fun f => gated (affine f _ _ _) _) (funext fun k => ?_)
  exact flat_at _ _ _ _

/-- What the last call leaves, at a token. -/
theorem finals_layer (h : ArgsOK W) (ha : SameTable a W) (b : Fin 4) (s : Fin 4096) (l : Fin 1024) :
    finals a (valC a d W) (ix2 (flat b s) l)
      = layer (arg0 W) (hiddenRows (arg0 W) (arg1 W) (arg2 W) (arg3 W) (arg5 W) (arg6 W)) (arg4 W) (arg7 W) (arg8 W) (arg9 W) (ix3 b s l) := by
  obtain ⟨n, hnn⟩ : ∃ n, n = flat b s := ⟨_, rfl⟩
  have hb : n.val / 4096 = b.val := by rw [hnn]; show (b.val * 4096 + s.val) / 4096 = b.val; omega
  have hs : n.val % 4096 = s.val := by rw [hnn]; show (b.val * 4096 + s.val) % 4096 = s.val; omega
  rw [← hnn]
  obtain ⟨t, ht⟩ : ∃ t : Fin (pin (pcfgs (F := Ideal)) a 1).N, t.val = n.val / 256 := ⟨⟨n.val / 256, lt_of_lt_of_eq (by omega) N_3.symm⟩, rfl⟩
  have hr : n.val % 256 < 256 := Nat.mod_lt _ (by decide)
  rw [finals_at a (valC a d W) t (ix2 ⟨n.val % 256, hr⟩ l) (ix2 n l) (by show n.val = 256 * t.val + n.val % 256; omega) rfl]
  have hn : row t.val (⟨n.val % 256, hr⟩ : Fin 256) (by have := lt3 a t; omega) = n := Fin.ext (by show 256 * t.val + n.val % 256 = n.val; omega)
  have hn1 : row t.val (⟨n.val % 256, hr⟩ : Fin 256) (by have := lt3 a t; omega) = (⟨n.val, by omega⟩ : Fin 32768) :=
    Fin.ext (by show 256 * t.val + n.val % 256 = n.val; omega)
  have hn2 : row (t.val + 64) (⟨n.val % 256, hr⟩ : Fin 256) (by have := lt3 a t; omega) = (⟨n.val + 16384, by omega⟩ : Fin 32768) :=
    Fin.ext (by show 256 * (t.val + 64) + n.val % 256 = n.val + 16384; omega)
  have hG := groups_hidden a W h ha
  refine final_rows _ _ _ _ _ _ _ _ (fun k => hiddenRows (arg0 W) (arg1 W) (arg2 W) (arg3 W) (arg5 W) (arg6 W) (ix2 (index 34816 (arg4 W (ix1 ⟨(flat b s).val, by omega⟩))) k))
    (fun k => hiddenRows (arg0 W) (arg1 W) (arg2 W) (arg3 W) (arg5 W) (arg6 W) (ix2 (index 34816 (arg4 W (ix1 ⟨(flat b s).val + 16384, by omega⟩))) k))
    (fun k => arg0 W (ix3 b s k)) (fun l => arg8 W (ix1 l)) (fun l => arg9 W (ix1 l)) (fun l k => arg7 W (ix2 l k)) (fun k => ?_) (fun k => ?_) (fun l k => ?_) (fun l => ?_) (fun k => ?_) (fun l => ?_)
  · refine (first_block a (valC a d W) t ⟨n.val % 256, hr⟩ k).trans ?_
    rw [hn1, valC_v29 a d W h, hG]
    subst hnn
    exact takeRows_at _ _ _ _
  · refine (second_block a (valC a d W) t ⟨n.val % 256, hr⟩ k).trans ?_
    rw [hn2, valC_v29 a d W h, hG]
    subst hnn
    exact takeRows_at _ _ _ _
  · refine (out_block a (valC a d W) t l k).trans ?_
    rw [valC_v2]; rfl
  · refine (out_bias_block a (valC a d W) t 0 l).trans ?_
    rw [valC_v30]; exact line_shape _ _ _
  · refine (token_block a (valC a d W) t ⟨n.val % 256, hr⟩ k).trans ?_
    rw [hn, valC_v0]
    refine (flat_at _ _ _ _).trans (congrArg (arg0 W) (funext fun x => Fin.ext ?_))
    match x with
    | 0 => exact hb
    | 1 => exact hs
    | 2 => rfl
  · refine (norm_block a (valC a d W) t 0 l).trans ?_
    rw [valC_v31]; exact line_shape _ _ _

/-- The result's array at the end. -/
theorem val2_layer (h : ArgsOK W) (ha : SameTable a W) :
    val2 a d W (rb main_v33) = layer (arg0 W) (hiddenRows (arg0 W) (arg1 W) (arg2 W) (arg3 W) (arg5 W) (arg6 W)) (arg4 W) (arg7 W) (arg8 W) (arg9 W) := by
  rw [val2_v33]
  funext i
  obtain ⟨b, s, l, rfl⟩ : ∃ (b : Fin 4) (s : Fin 4096) (l : Fin 1024), i = ix3 b s l := ⟨i 0, i 1, i 2, eq_ix3 i⟩
  rw [← finals_layer a d W h ha]
  refine congrArg (finals a (valC a d W)) (Shape.reshapeEquiv_eq_of_rowMajor _ ?_)
  rw [Shape.rowMajor_val_three, Shape.rowMajor_val_two]
  rfl

end Cert.Proof.Sc
end
-- ==== Proof.Sc.Experts.lean ====
/-
  The matrices that a list of indices names, as a host gather reads them.
-/
module

public import proofs.«01_k».proof.Proof.Sc.Spec

@[expose] public section

noncomputable section

namespace Cert.Proof.Sc

open Idealize.ShloMosaic

/-- The dimension numbers of `x[te]` for matrices of 1024 × 1024. -/
abbrev matDims (N R : ℕ) (wf : GatherDims.WF (Cube N 1024 1024) (Mat R 1) (Cube R 1024 1024) [1, 2] [0] [] [0] [] 1 ![1, 1024, 1024]) :
    GatherDims (Cube N 1024 1024) (Mat R 1) (Cube R 1024 1024) where
  offsetDims := [1, 2]
  collapsedSliceDims := [0]
  operandBatchingDims := []
  startIndicesBatchingDims := []
  startIndexMap := [0]
  indexVectorDim := 1
  sliceSizes := ![1, 1024, 1024]
  wf := wf

/-- The host's gather of matrices in range. -/
theorem gather_mats {α : Type} {N R : ℕ} [NeZero N] (hN : N ≤ 2 ^ 31) (wf) (x : (Cube N 1024 1024).Idx → α) (idx : (Mat R 1).Idx → BitVec 32) (tok : (Vec1 R).Idx → BitVec 32)
    (he : ∀ i : (Mat R 1).Idx, idx i = tok (fun | 0 => i 0)) (ht : ∀ r, (tok r).toNat < N) (t : Fin R) (l k : Fin 1024) :
    Host.gather (matDims N R wf) x idx (ix3 t l k) = x (ix3 (index N (tok (ix1 t))) l k) := by
  unfold Host.gather
  congr 1
  funext a
  refine Fin.ext ?_
  show (matDims N R wf).start (ix3 t l k) idx a + (matDims N R wf).batchCoord (ix3 t l k) a + (matDims N R wf).offCoord (ix3 t l k) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 3) ∈ (matDims N R wf).startIndexMap from List.mem_singleton.mpr rfl), he]
    have key : ∀ u, min (tok u).toInt.toNat (N - 1) + 0 + 0 = (tok u).toNat % N := fun u => by
      have hr := ht u
      rw [toInt_of_lt hN hr, Nat.mod_eq_of_lt hr, Int.toNat_natCast]
      omega
    have e : (fun | 0 => (matDims N R wf).siIdx (ix3 t l k) ⟨List.idxOf (0 : Fin 3) (matDims N R wf).startIndexMap,
        List.idxOf_lt_length_iff.2 (List.mem_singleton.mpr rfl)⟩ 0 : (Vec1 R).Idx) = ix1 t := by
      funext b
      obtain rfl : b = 0 := Subsingleton.elim _ _
      exact Fin.ext rfl
    exact (congrArg (fun u => min (tok u).toInt.toNat (N - 1) + 0 + 0) e).trans (key _)
  | 1 =>
    unfold GatherDims.start
    rw [dif_neg (show (1 : Fin 3) ∉ (matDims N R wf).startIndexMap from by simp)]
    show 0 + 0 + (matDims N R wf).offCoord (ix3 t l k) 1 = l.val
    unfold GatherDims.offCoord
    rw [dif_pos ((GatherDims.mem_sKept _ _).mpr ⟨by simp, by simp⟩)]
    simp only [Nat.zero_add]
    rfl
  | 2 =>
    unfold GatherDims.start
    rw [dif_neg (show (2 : Fin 3) ∉ (matDims N R wf).startIndexMap from by simp)]
    show 0 + 0 + (matDims N R wf).offCoord (ix3 t l k) 2 = k.val
    unfold GatherDims.offCoord
    rw [dif_pos ((GatherDims.mem_sKept _ _).mpr ⟨by simp, by simp⟩)]
    simp only [Nat.zero_add]
    rfl

end Cert.Proof.Sc
end
-- ==== Proof.Sc.Reference.lean ====
/-
  The reference's result over the extended reals: the layer's mathematics of `Spec`.
-/
module

public import proofs.«01_k».proof.Proof.Sc.Experts
public import proofs.«01_k».proof.Proof.Gen.ReferenceIdeal.Run

@[expose] public section

noncomputable section

namespace Cert.Proof.Ref

open Cert.Proof.Sc
open Cert.ReferenceIdeal Cert.ReferenceIdeal.Gen Cert.ReferenceIdeal.Value
open Idealize.ShloMosaic

/-- The experts' products with their biases, tile by tile. -/
def products (X : FVec Ideal S34816x1024 .f32) (E : FVec Ideal S136x1024x1024 .f32) (B : FVec Ideal S136x1024 .f32) : FVec Ideal S136x256x1024 .f32 :=
  addf (Host.dotGeneral dot_S136x256x1024_S136x1024x1024_S136x256x1024_2_2_1_1_0_0 none
      (shapeCast S136x256x1024 X shapeCasts_S34816x1024_S136x256x1024) E)
    (broadcastInDim S136x256x1024 ![0, 1, 2] bcast_S136x1x1024_S136x256x1024_0_1_2 (broadcastInDim S136x1x1024 ![0, 2] bcast_S136x1024_S136x1x1024_0_2 B))

/-- The hidden rows. -/
def rows (X : FVec Ideal S34816x1024 .f32) (E : FVec Ideal S136x1024x1024 .f32) (B : FVec Ideal S136x1024 .f32) (sw : FVec Ideal S34816 .f32) : FVec Ideal S34816x1024 .f32 :=
  mulf (shapeCast S34816x1024 (mulf (products X E B) (Host.divf (broadcastInDim S136x256x1024 ![] bcast_S_S136x256x1024 (constant S_ .f32 0x3F800000#32))
      (addf (broadcastInDim S136x256x1024 ![] bcast_S_S136x256x1024 (constant S_ .f32 0x3F800000#32)) (Host.exp (Host.negf (products X E B)))))) shapeCasts_S136x256x1024_S34816x1024)
    (broadcastInDim S34816x1024 ![0, 1] bcast_S34816x1_S34816x1024_0_1 (broadcastInDim S34816x1 ![0] bcast_S34816_S34816x1_0 sw))

/-- The tokens plus the output projection. -/
def sums (x : FVec Ideal S4x4096x1024 .f32) (G0 G1 : FVec Ideal S16384x1024 .f32) (ow : FVec Ideal S1024x1024 .f32) (ob : FVec Ideal S1024 .f32) : FVec Ideal S4x4096x1024 .f32 :=
  addf x (shapeCast S4x4096x1024 (addf (Host.dotGeneral dot_S16384x1024_S1024x1024_S16384x1024_1_0_0_1_n_n none (addf G0 G1)
      (transpose S1024x1024 [1, 0] ow transposes_S1024x1024_S1024x1024_1_0))
    (broadcastInDim S16384x1024 ![0, 1] bcast_S1x1024_S16384x1024_0_1 (broadcastInDim S1x1024 ![1] bcast_S1024_S1x1024_1 ob))) shapeCasts_S16384x1024_S4x4096x1024)

/-- The normalised rows. -/
def norms (Y : FVec Ideal S4x4096x1024 .f32) (nw : FVec Ideal S1024 .f32) : FVec Ideal S4x4096x1024 .f32 :=
  mulf (broadcastInDim S4x4096x1024 ![0, 1, 2] bcast_S1x1x1024_S4x4096x1024_0_1_2 (broadcastInDim S1x1x1024 ![2] bcast_S1024_S1x1x1024_2 nw))
    (Host.divf Y (broadcastInDim S4x4096x1024 ![0, 1, 2] bcast_S4x4096x1_S4x4096x1024_0_1_2 (Host.sqrt (addf (Host.divf
      (broadcastInDim S4x4096x1 ![0, 1] bcast_S4x4096_S4x4096x1_0_1 (Host.reduceAdd (mulf Y Y) (constant S_ .f32 0x00000000#32) reducesTo_S4x4096x1024_S4x4096_d2 h_S_))
      (broadcastInDim S4x4096x1 ![] bcast_S_S4x4096x1 (constant S_ .f32 0x44800000#32))) (broadcastInDim S4x4096x1 ![] bcast_S_S4x4096x1 (constant S_ .f32 0x358637BD#32))))))

set_option maxRecDepth 16384 in
theorem products_at (X : FVec Ideal S34816x1024 .f32) (E : FVec Ideal S136x1024x1024 .f32) (B : FVec Ideal S136x1024 .f32) (t : Fin 136) (r : Fin 256) (l : Fin 1024) :
    products X E B (ix3 t r l) = affine (fun k => X (ix2 ⟨t.val * 256 + r.val, by omega⟩ k)) (fun l k => E (ix3 t l k)) (fun l => B (ix2 t l)) l := by
  unfold affine
  pointwise [products]

set_option maxRecDepth 16384 in
theorem rows_at (X : FVec Ideal S34816x1024 .f32) (E : FVec Ideal S136x1024x1024 .f32) (B : FVec Ideal S136x1024 .f32) (sw : FVec Ideal S34816 .f32) (n : Fin 34816) (l : Fin 1024) :
    rows X E B sw (ix2 n l) = gated (affine (fun k => X (ix2 n k)) (fun l k => E (ix3 (tile n) l k)) (fun l => B (ix2 (tile n) l)) l) (sw (ix1 n)) := by
  have e : products X E B (ix3 (tile n) ⟨n.val % 256, Nat.mod_lt _ (by decide)⟩ l)
      = affine (fun k => X (ix2 n k)) (fun l k => E (ix3 (tile n) l k)) (fun l => B (ix2 (tile n) l)) l := by
    rw [products_at]
    have hn : (⟨n.val / 256 * 256 + n.val % 256, by omega⟩ : Fin 34816) = n := Fin.ext (by show n.val / 256 * 256 + n.val % 256 = n.val; omega)
    exact congrArg (fun n' => affine (fun k => X (ix2 n' k)) _ _ _) hn
  rw [← e]
  unfold rows gated Ideal.logistic
  generalize products X E B = P
  pointwise

set_option maxRecDepth 16384 in
theorem sums_at (x : FVec Ideal S4x4096x1024 .f32) (G0 G1 : FVec Ideal S16384x1024 .f32) (ow : FVec Ideal S1024x1024 .f32) (ob : FVec Ideal S1024 .f32) (b : Fin 4) (s : Fin 4096) (l : Fin 1024) :
    sums x G0 G1 ow ob (ix3 b s l)
      = x (ix3 b s l) + affine (fun k => G0 (ix2 (flat b s) k) + G1 (ix2 (flat b s) k)) (fun l k => ow (ix2 l k)) (fun l => ob (ix1 l)) l := by
  unfold affine
  pointwise [sums]

set_option maxRecDepth 16384 in
theorem norms_at (Y : FVec Ideal S4x4096x1024 .f32) (nw : FVec Ideal S1024 .f32) (b : Fin 4) (s : Fin 4096) (l : Fin 1024) :
    norms Y nw (ix3 b s l) = normed (fun j => Y (ix3 b s j)) (fun l => nw (ix1 l)) l := by
  unfold normed
  pointwise [norms]

theorem affine_congr {x x' b b' : Fin 1024 → Ideal .f32} {M M' : Fin 1024 → Fin 1024 → Ideal .f32} (hx : ∀ k, x k = x' k) (hM : ∀ l k, M l k = M' l k) (hb : ∀ l, b l = b' l)
    (l : Fin 1024) : affine x M b l = affine x' M' b' l := by
  obtain rfl := funext hx
  obtain rfl := funext hb
  obtain rfl : M = M' := funext fun l => funext (hM l)
  rfl

/-- The list as the host reads it: a negative entry counts from the table's end. -/
def wrapped {R : ℕ} (c : BitVec 32) (tok : (Vec1 R).Idx → BitVec 32) (h0 hc : (⟨0, ![]⟩ : Shape).BroadcastsInDim (Vec1 R) ![]) (h2 : (Vec1 R).BroadcastsInDim (Mat R 1) ![0]) :
    (Mat R 1).Idx → BitVec 32 :=
  broadcastInDim (s := Vec1 R) (Mat R 1) ![0] h2 (select (cmpi .slt tok (broadcastInDim (s := ⟨0, ![]⟩) (Vec1 R) ![] h0 (constantI ⟨0, ![]⟩ 32 0#32)))
    (addi tok (broadcastInDim (s := ⟨0, ![]⟩) (Vec1 R) ![] hc (constantI ⟨0, ![]⟩ 32 c))) tok)

/-- The rows that a list in range names. -/
theorem rows_named {N R : ℕ} [NeZero N] (hR : R ≠ 1) (hN : N ≤ 2 ^ 31) (wf) (c : BitVec 32) (x : (Mat N 1024).Idx → Ideal .f32) (tok : (Vec1 R).Idx → BitVec 32) (ht : ∀ r, (tok r).toNat < N)
    (h0 hc h2) (r : Fin R) (k : Fin 1024) : Host.gather (rowDims N R wf) x (wrapped c tok h0 hc h2) (ix2 r k) = x (ix2 (index N (tok (ix1 r))) k) := by
  unfold wrapped
  rw [gather_rows hN wf x _ tok (fun i => select_nonneg hR c tok (fun r => (ht r).trans_le hN) h0 hc h2 i) ht]
  exact takeRows_at x tok r k

/-- The matrices that a list in range names. -/
theorem mats_named {N R : ℕ} [NeZero N] (hR : R ≠ 1) (hN : N ≤ 2 ^ 31) (wf) (c : BitVec 32) (x : (Cube N 1024 1024).Idx → Ideal .f32) (tok : (Vec1 R).Idx → BitVec 32) (ht : ∀ r, (tok r).toNat < N)
    (h0 hc h2) (t : Fin R) (l k : Fin 1024) : Host.gather (matDims N R wf) x (wrapped c tok h0 hc h2) (ix3 t l k) = x (ix3 (index N (tok (ix1 t))) l k) :=
  gather_mats hN wf x _ tok (fun i => select_nonneg hR c tok (fun r => (ht r).trans_le hN) h0 hc h2 i) ht t l k

section Whole
variable (x0 : FVec Ideal S4x4096x1024 .f32) (x1 : (Vec1 34816).Idx → BitVec 32) (x2 : FVec Ideal S34816 .f32) (x3 : (Vec1 136).Idx → BitVec 32) (x4 : (Vec1 32768).Idx → BitVec 32)
  (x5 : FVec Ideal S8x1024x1024 .f32) (x6 : FVec Ideal S8x1024 .f32) (x7 : FVec Ideal S1024x1024 .f32) (x8 x9 : FVec Ideal S1024 .f32)

/-- The reference's hidden rows. -/
def hid : FVec Ideal S34816x1024 .f32 :=
  rows (Host.gather gather_S16384x1024_S34816x1_S34816x1024_1_0_n_n_0_1_11024 (shapeCast S16384x1024 x0 shapeCasts_S4x4096x1024_S16384x1024)
      (wrapped 16384#32 x1 bcast_S_S34816 bcast_S_S34816 bcast_S34816_S34816x1_0))
    (Host.gather gather_S8x1024x1024_S136x1_S136x1024x1024_12_0_n_n_0_1_110241024 x5 (wrapped 8#32 x3 bcast_S_S136 bcast_S_S136 bcast_S136_S136x1_0))
    (Host.gather gather_S8x1024_S136x1_S136x1024_1_0_n_n_0_1_11024 x6 (wrapped 8#32 x3 bcast_S_S136 bcast_S_S136 bcast_S136_S136x1_0)) x2

/-- The reference's result. -/
def res : FVec Ideal S4x4096x1024 .f32 :=
  norms (sums x0
    (Host.gather gather_S34816x1024_S16384x1_S16384x1024_1_0_n_n_0_1_11024 (hid x0 x1 x2 x3 x5 x6)
      (wrapped 34816#32 (extractStridedSlice S16384 ![0] x4 slices_S32768_S16384_0) bcast_S_S16384 bcast_S_S16384 bcast_S16384_S16384x1_0))
    (Host.gather gather_S34816x1024_S16384x1_S16384x1024_1_0_n_n_0_1_11024 (hid x0 x1 x2 x3 x5 x6)
      (wrapped 34816#32 (extractStridedSlice S16384 ![16384] x4 slices_S32768_S16384_16384) bcast_S_S16384 bcast_S_S16384 bcast_S16384_S16384x1_0))
    x7 x8) x9

theorem hid_hidden (h1 : ∀ r, (x1 r).toNat < 16384) (h3 : ∀ r, (x3 r).toNat < 8) : hid x0 x1 x2 x3 x5 x6 = hiddenRows x0 x1 x2 x3 x5 x6 := by
  funext i
  obtain ⟨n, l, rfl⟩ : ∃ (n : Fin 34816) (l : Fin 1024), i = ix2 n l := ⟨i 0, i 1, eq_ix2 i⟩
  unfold hid
  rw [rows_at]
  unfold hiddenRows
  have eX := fun k : Fin 1024 => (rows_named (N := 16384) (R := 34816) (by decide) (by decide) gather_S16384x1024_S34816x1_S34816x1024_1_0_n_n_0_1_11024.wf 16384#32
    (shapeCast S16384x1024 x0 shapeCasts_S4x4096x1024_S16384x1024) x1 h1 bcast_S_S34816 bcast_S_S34816 bcast_S34816_S34816x1_0 n k).trans (flat_at x0 _ _ k)
  have eE := fun l k : Fin 1024 => mats_named (N := 8) (R := 136) (by decide) (by decide) gather_S8x1024x1024_S136x1_S136x1024x1024_12_0_n_n_0_1_110241024.wf 8#32
    x5 x3 h3 bcast_S_S136 bcast_S_S136 bcast_S136_S136x1_0 (tile n) l k
  have eB := fun l : Fin 1024 => rows_named (N := 8) (R := 136) (by decide) (by decide) gather_S8x1024_S136x1_S136x1024_1_0_n_n_0_1_11024.wf 8#32
    x6 x3 h3 bcast_S_S136 bcast_S_S136 bcast_S136_S136x1_0 (tile n) l
  exact congrArg (fun h => gated h (x2 (ix1 n))) (affine_congr eX eE eB l)

theorem first_half (n : Fin 16384) : extractStridedSlice S16384 ![0] x4 slices_S32768_S16384_0 (ix1 n) = x4 (ix1 ⟨n.val, by omega⟩) := by
  pointwise

theorem second_half (n : Fin 16384) : extractStridedSlice S16384 ![16384] x4 slices_S32768_S16384_16384 (ix1 n) = x4 (ix1 ⟨n.val + 16384, by omega⟩) := by
  rw [show (⟨n.val + 16384, by omega⟩ : Fin 32768) = ⟨16384 + n.val, by omega⟩ from Fin.ext (Nat.add_comm _ _)]
  pointwise

/-- The reference's result is the layer's. -/
theorem res_layer (h1 : ∀ r, (x1 r).toNat < 16384) (h3 : ∀ r, (x3 r).toNat < 8) (h4 : ∀ r, (x4 r).toNat < 34816) :
    res x0 x1 x2 x3 x4 x5 x6 x7 x8 x9 = layer x0 (hiddenRows x0 x1 x2 x3 x5 x6) x4 x7 x8 x9 := by
  funext i
  obtain ⟨b, s, l, rfl⟩ : ∃ (b : Fin 4) (s : Fin 4096) (l : Fin 1024), i = ix3 b s l := ⟨i 0, i 1, i 2, eq_ix3 i⟩
  unfold res
  rw [norms_at, hid_hidden _ _ _ _ _ _ h1 h3]
  unfold layer
  have hs0 : ∀ r, (extractStridedSlice S16384 ![0] x4 slices_S32768_S16384_0 r).toNat < 34816 := fun r => h4 _
  have hs1 : ∀ r, (extractStridedSlice S16384 ![16384] x4 slices_S32768_S16384_16384 r).toNat < 34816 := fun r => h4 _
  have e0 := fun k : Fin 1024 => (rows_named (N := 34816) (R := 16384) (by decide) (by decide) gather_S34816x1024_S16384x1_S16384x1024_1_0_n_n_0_1_11024.wf 34816#32 (hiddenRows x0 x1 x2 x3 x5 x6) _ hs0
    bcast_S_S16384 bcast_S_S16384 bcast_S16384_S16384x1_0 (flat b s) k).trans (by rw [first_half])
  have e1 := fun k : Fin 1024 => (rows_named (N := 34816) (R := 16384) (by decide) (by decide) gather_S34816x1024_S16384x1_S16384x1024_1_0_n_n_0_1_11024.wf 34816#32 (hiddenRows x0 x1 x2 x3 x5 x6) _ hs1
    bcast_S_S16384 bcast_S_S16384 bcast_S16384_S16384x1_0 (flat b s) k).trans (by rw [second_half])
  refine congrArg (fun y => normed y (fun l => x9 (ix1 l)) l) (funext fun j => ?_)
  rw [sums_at]
  exact congrArg (fun g => x0 (ix3 b s j) + affine g (fun l k => x7 (ix2 l k)) (fun l => x8 (ix1 l)) j) (funext fun k => congrArg₂ (· + ·) (e0 k) (e1 k))

end Whole

set_option maxRecDepth 16384 in
theorem res_eq (m : (ℓ : Loc nD τ sig) → Buf (Elt Ideal) ℓ) (c : Dev nD) :
    res_out0 m c = res (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (m (c.tc.loc main_arg9)) := by
  unfold res_out0 res_main_v68 res hid norms sums rows products wrapped
  rfl

end Cert.Proof.Ref
end
-- ==== Proof.lean ====
/-
  The certificate: from its routing arrays on, the layer's program computes what `reference` computes.
-/
module

public import proofs.«01_k».proof.Proof.Router.Claims
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_indices_in_rows
public import proofs.«01_k».proof.Proof.Sc.Range
public import proofs.«01_k».proof.Proof.Sc.Tables
public import proofs.«01_k».proof.Proof.Sc.Words
public import proofs.«01_k».proof.Proof.Sc.Meaning
public import proofs.«01_k».proof.Proof.Sc.Reference
public import Idealize.ShloMosaic.Adequacy
public import Idealize.ShloMosaic.Init

@[expose] public section

noncomputable section

namespace Cert.Proof

open Idealize.ShloMosaic Idealize.SL.Sem Cert.Proof.Sc

section Run
variable {F : FTy → Type} [FloatOps F] [∀ e, Nonempty (Elt F e)]

/-- An argument's array at the end is what it was. -/
theorem kept {m : (ℓ : Loc Cert.KernelIdeal.nD Cert.KernelIdeal.τ Cert.KernelIdeal.sig) → Buf (Elt F) ℓ} {a : Adms F} {d : Dev Cert.KernelIdeal.nD}
    {M : (ℓ : Loc Cert.KernelIdeal.nD Cert.KernelIdeal.τ Cert.KernelIdeal.sig) → Buf (Elt F) ℓ}
    (h : ∀ b ∈ Pipeline.ucRefs Cert.KernelIdeal.τ Cert.KernelIdeal.sig, M (d, b) = val2 a d (atLaunch m d) b) (r : Ref Cert.KernelIdeal.sig .tc)
    (hu : rb r ∈ Pipeline.ucRefs Cert.KernelIdeal.τ Cert.KernelIdeal.sig)
    (h1 : r ∉ wr0 ++ Cert.KernelIdeal.main_v13 :: wr1 ++ arrays1 ++ wr2 ++ Cert.KernelIdeal.main_v28 :: wr3) (h2 : r ∉ arrays3) (h3 : r ∉ wr4) :
    M (d.tc.loc r) = m (d.tc.loc r) :=
  (h _ hu).trans (val2_arg a d (atLaunch m d) h1 h2 h3)

/-- The run from lists in range, over any float values: the result's array ends at what the four calls leave, and the arguments stay. -/
theorem run_layer (m : (ℓ : Loc Cert.KernelIdeal.nD Cert.KernelIdeal.τ Cert.KernelIdeal.sig) → Buf (Elt F) ℓ) (ρ : Dev Cert.KernelIdeal.nD → PrngReg) (hA : ∀ d, ArgsOK (atLaunch m d)) :
    θ_run (Cert.KernelIdeal.defs (F := F)) (Cert.KernelIdeal.threads (F := F)) ⟨m, fun _ => 0, ρ⟩ (fun r =>
      (∀ d, r.2.mem (d.tc.loc Cert.KernelIdeal.main_v33) = val2 (tables (atLaunch m 0) (hA 0)) d (atLaunch m d) (rb Cert.KernelIdeal.main_v33)
      ∧ r.2.mem (d.tc.loc Cert.KernelIdeal.main_arg0) = m (d.tc.loc Cert.KernelIdeal.main_arg0)
      ∧ r.2.mem (d.tc.loc Cert.KernelIdeal.main_arg1) = m (d.tc.loc Cert.KernelIdeal.main_arg1)
      ∧ r.2.mem (d.tc.loc Cert.KernelIdeal.main_arg2) = m (d.tc.loc Cert.KernelIdeal.main_arg2)
      ∧ r.2.mem (d.tc.loc Cert.KernelIdeal.main_arg3) = m (d.tc.loc Cert.KernelIdeal.main_arg3)
      ∧ r.2.mem (d.tc.loc Cert.KernelIdeal.main_arg4) = m (d.tc.loc Cert.KernelIdeal.main_arg4)
      ∧ r.2.mem (d.tc.loc Cert.KernelIdeal.main_arg5) = m (d.tc.loc Cert.KernelIdeal.main_arg5)
      ∧ r.2.mem (d.tc.loc Cert.KernelIdeal.main_arg6) = m (d.tc.loc Cert.KernelIdeal.main_arg6)
      ∧ r.2.mem (d.tc.loc Cert.KernelIdeal.main_arg7) = m (d.tc.loc Cert.KernelIdeal.main_arg7)
      ∧ r.2.mem (d.tc.loc Cert.KernelIdeal.main_arg8) = m (d.tc.loc Cert.KernelIdeal.main_arg8)
      ∧ r.2.mem (d.tc.loc Cert.KernelIdeal.main_arg9) = m (d.tc.loc Cert.KernelIdeal.main_arg9))
      ∧ r.2.sem = fun _ => 0) :=
  (θ_run Cert.KernelIdeal.defs _ _).mono
    (fun _ h => ⟨fun d => ⟨h.1 d _ (mem_uc Cert.KernelIdeal.main_v33 rfl),
      kept (h.1 d) Cert.KernelIdeal.main_arg0 (mem_uc _ rfl) (by decide) (by decide) (by decide),
      kept (h.1 d) Cert.KernelIdeal.main_arg1 (mem_uc _ rfl) (by decide) (by decide) (by decide),
      kept (h.1 d) Cert.KernelIdeal.main_arg2 (mem_uc _ rfl) (by decide) (by decide) (by decide),
      kept (h.1 d) Cert.KernelIdeal.main_arg3 (mem_uc _ rfl) (by decide) (by decide) (by decide),
      kept (h.1 d) Cert.KernelIdeal.main_arg4 (mem_uc _ rfl) (by decide) (by decide) (by decide),
      kept (h.1 d) Cert.KernelIdeal.main_arg5 (mem_uc _ rfl) (by decide) (by decide) (by decide),
      kept (h.1 d) Cert.KernelIdeal.main_arg6 (mem_uc _ rfl) (by decide) (by decide) (by decide),
      kept (h.1 d) Cert.KernelIdeal.main_arg7 (mem_uc _ rfl) (by decide) (by decide) (by decide),
      kept (h.1 d) Cert.KernelIdeal.main_arg8 (mem_uc _ rfl) (by decide) (by decide) (by decide),
      kept (h.1 d) Cert.KernelIdeal.main_arg9 (mem_uc _ rfl) (by decide) (by decide) (by decide)⟩, h.2⟩)
    (run_main (F := F) (tables (atLaunch m 0) (hA 0)) m ρ (tablesOK (fun d => atLaunch m d) hA _ rfl) fun d => listsOK _ d _ (hA d))

end Run

/-- The run at the machine's words: the program has the ideal program's text. -/
theorem frame_kernel : Cert.quiescent_Kernel := fun m ρ hp =>
  same_run (F := Bits) _ _ ((θ_run Cert.KernelIdeal.defs _ _).mono (fun _ h => ⟨fun d => (h.1 d).2, h.2⟩)
    (run_layer (F := Bits) m ρ fun d => ranges _ _ _ _ _ _ _ _ _ _ (hp d)))

theorem frame_ideal : Cert.quiescent_KernelIdeal := fun m ρ hp =>
  (θ_run Cert.KernelIdeal.defs _ _).mono (fun _ h => ⟨fun d => (h.1 d).2, h.2⟩)
    (run_layer (F := Ideal) m ρ fun d => ranges _ _ _ _ _ _ _ _ _ _ (hp d))

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The layer of the arguments on a device. -/
def layerOf (m : (ℓ : Loc Cert.KernelIdeal.nD Cert.KernelIdeal.τ Cert.KernelIdeal.sig) → Buf (Elt Ideal) ℓ) (d : Dev Cert.KernelIdeal.nD) : FVec Ideal Cert.KernelIdeal.S4x4096x1024 .f32 :=
  layer (arg0 (atLaunch m d)) (hiddenRows (arg0 (atLaunch m d)) (arg1 (atLaunch m d)) (arg2 (atLaunch m d)) (arg3 (atLaunch m d)) (arg5 (atLaunch m d)) (arg6 (atLaunch m d)))
    (arg4 (atLaunch m d)) (arg7 (atLaunch m d)) (arg8 (atLaunch m d)) (arg9 (atLaunch m d))

/-- The calls run at the table that is the argument. -/
theorem same_table (m : (ℓ : Loc Cert.KernelIdeal.nD Cert.KernelIdeal.τ Cert.KernelIdeal.sig) → Buf (Elt Ideal) ℓ) (hA : ∀ d, ArgsOK (atLaunch m d)) (d : Dev Cert.KernelIdeal.nD) :
    SameTable (tables (atLaunch m 0) (hA 0)) (atLaunch m d) := by
  obtain rfl : d = 0 := Subsingleton.elim _ _
  rfl

/-- Both programs end with the layer of the arguments. -/
theorem same_result : Cert.algebraic_KernelIdeal_ReferenceIdeal := fun m ρ m' ρ' hp hm =>
  have hA : ∀ d, ArgsOK (atLaunch m d) := fun d => ranges _ _ _ _ _ _ _ _ _ _ (hp d)
  ⟨fun d => layerOf m d,
    (θ_run Cert.KernelIdeal.defs _ _).mono
      (fun _ h d => ⟨(h.1 d).1.trans (val2_layer _ d _ (hA d) (same_table m hA d)), (h.1 d).2⟩)
      (run_layer (F := Ideal) m ρ hA),
    (θ_run Cert.ReferenceIdeal.defs _ _).mono
      (fun r h c => ⟨
        (h c).1.trans ((Ref.res_eq m' c).trans (by
          obtain ⟨e0, e1, e2, e3, e4, e5, e6, e7, e8, e9⟩ := hm c
          rw [e0, e1, e2, e3, e4, e5, e6, e7, e8, e9]
          exact Ref.res_layer _ _ _ _ _ _ _ _ _ _ (hA c).1 (hA c).2.1 (hA c).2.2)),
        (h c).2⟩)
      (Cert.ReferenceIdeal.Value.run (F := Ideal) m' ρ')⟩

theorem claim : Cert.Claim := ⟨Cert.Kernel.Gen.facts, Cert.KernelIdeal.Gen.facts, Cert.ReferenceIdeal.Gen.facts,
  Router.facts_kernel, Router.facts_ideal, Router.facts_reference, Cert.Pre_indices_in_rows.Gen.facts, Router.facts_finite,
  frame_kernel, frame_ideal, frame_reference,
  Router.frame_kernel, Router.frame_ideal, Router.frame_ideal_finite, Router.frame_reference, Router.frame_reference_finite,
  trivial, same_result, Router.mask_named, Router.same_choice⟩

end Cert.Proof

end
